-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S11008x256 : Shape := ⟨2, ![11008, 256]⟩
abbrev S10880x256 : Shape := ⟨2, ![10880, 256]⟩
abbrev S3x6 : Shape := ⟨2, ![3, 6]⟩
abbrev S512x2048 : Shape := ⟨2, ![512, 2048]⟩
abbrev S7 : Shape := ⟨1, ![7]⟩
abbrev S8x1x128 : Shape := ⟨3, ![8, 1, 128]⟩
abbrev S_ : Shape := ⟨0, ![]⟩
abbrev S1376x256 : Shape := ⟨2, ![1376, 256]⟩
abbrev S1x1 : Shape := ⟨2, ![1, 1]⟩
abbrev S1360x256 : Shape := ⟨2, ![1360, 256]⟩
abbrev S512x1376 : Shape := ⟨2, ![512, 1376]⟩
abbrev S512x256 : Shape := ⟨2, ![512, 256]⟩
abbrev S512x1360 : Shape := ⟨2, ![512, 1360]⟩
abbrev S2752x256 : Shape := ⟨2, ![2752, 256]⟩
abbrev S2720x256 : Shape := ⟨2, ![2720, 256]⟩
abbrev S1x512x2048 : Shape := ⟨3, ![1, 512, 2048]⟩
abbrev S1 : Shape := ⟨1, ![1]⟩
abbrev S1x1x1 : Shape := ⟨3, ![1, 1, 1]⟩
abbrev S1x1x128 : Shape := ⟨3, ![1, 1, 128]⟩
abbrev S1x8x1x128 : Shape := ⟨4, ![1, 8, 1, 128]⟩
abbrev S1x1x1x1 : Shape := ⟨4, ![1, 1, 1, 1]⟩

abbrev nBuf : Space → Nat
  | .hbm => 3
  | .vmem => 11
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S11008x256, .bf16⟩
  | .local _ .vmem, ⟨4, _⟩ => ⟨S10880x256, .bf16⟩
  | .local _ .vmem, ⟨5, _⟩ => ⟨S10880x256, .bf16⟩
  | .local _ .vmem, ⟨6, _⟩ => ⟨S512x4096, .bf16⟩
  | .local _ .vmem, ⟨7, _⟩ => ⟨S512x2048, .f32⟩
  | .local _ .vmem, ⟨8, _⟩ => ⟨S4096x256, .i8⟩
  | .local _ .vmem, ⟨9, _⟩ => ⟨S4096x256, .i8⟩
  | .local _ .vmem, ⟨10, _⟩ => ⟨S8x1x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch11 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_143 : BitVec 32 := 1#32
  let v148 : BitVec 32 := Scalar.addi v2 c1_i32_143
  let c8_i32_144 : BitVec 32 := 8#32
  let c0_i32_145 : BitVec 32 := 0#32
  let v149 : BitVec 1 := Scalar.cmpi .eq c8_i32_144 c0_i32_145
  let c1_i32_146 : BitVec 32 := 1#32
  let v150 : BitVec 32 := Scalar.select v149 c1_i32_146 c8_i32_144
  let v151 : BitVec 32 := Scalar.remsi v148 v150
  let c0_i32_148 : BitVec 32 := 0#32
  let v153 : BitVec 1 := Scalar.cmpi .slt v151 c0_i32_148
  let c0_i32_149 : BitVec 32 := 0#32
  let v154 : BitVec 1 := Scalar.cmpi .slt v150 c0_i32_149
  let v155 : BitVec 1 := Scalar.xori v153 v154
  let c0_i32_147 : BitVec 32 := 0#32
  let v152 : BitVec 1 := Scalar.cmpi .ne v151 c0_i32_147
  let v156 : BitVec 1 := Scalar.andi v155 v152
  let v157 : BitVec 32 := Scalar.addi v151 v150
  let v158 : BitVec 32 := Scalar.select v156 v157 v151
  let c1_i32_151 : BitVec 32 := 1#32
  let v159 : BitVec 32 := Scalar.muli v158 c1_i32_151
  let v160 : BitVec 32 := Scalar.addi c0_i32_152 v159
  v160.toNat
def k0_dev2 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_153 : BitVec 32 := 2#32
  let v161 : BitVec 32 := Scalar.addi v2 c2_i32_153
  let c8_i32_154 : BitVec 32 := 8#32
  let c0_i32_155 : BitVec 32 := 0#32
  let v162 : BitVec 1 := Scalar.cmpi .eq c8_i32_154 c0_i32_155
  let c1_i32_156 : BitVec 32 := 1#32
  let v163 : BitVec 32 := Scalar.select v162 c1_i32_156 c8_i32_154
  let v164 : BitVec 32 := Scalar.remsi v161 v163
  let c0_i32_158 : BitVec 32 := 0#32
  let v166 : BitVec 1 := Scalar.cmpi .slt v164 c0_i32_158
  let c0_i32_159 : BitVec 32 := 0#32
  let v167 : BitVec 1 := Scalar.cmpi .slt v163 c0_i32_159
  let v168 : BitVec 1 := Scalar.xori v166 v167
  let c0_i32_157 : BitVec 32 := 0#32
  let v165 : BitVec 1 := Scalar.cmpi .ne v164 c0_i32_157
  let v169 : BitVec 1 := Scalar.andi v168 v165
  let v170 : BitVec 32 := Scalar.addi v164 v163
  let v171 : BitVec 32 := Scalar.select v169 v170 v164
  let c1_i32_161 : BitVec 32 := 1#32
  let v172 : BitVec 32 := Scalar.muli v171 c1_i32_161
  let v173 : BitVec 32 := Scalar.addi c0_i32_162 v172
  v173.toNat
def k0_dev3 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_163 : BitVec 32 := 3#32
  let v174 : BitVec 32 := Scalar.addi v2 c3_i32_163
  let c8_i32_164 : BitVec 32 := 8#32
  let c0_i32_165 : BitVec 32 := 0#32
  let v175 : BitVec 1 := Scalar.cmpi .eq c8_i32_164 c0_i32_165
  let c1_i32_166 : BitVec 32 := 1#32
  let v176 : BitVec 32 := Scalar.select v175 c1_i32_166 c8_i32_164
  let v177 : BitVec 32 := Scalar.remsi v174 v176
  let c0_i32_168 : BitVec 32 := 0#32
  let v179 : BitVec 1 := Scalar.cmpi .slt v177 c0_i32_168
  let c0_i32_169 : BitVec 32 := 0#32
  let v180 : BitVec 1 := Scalar.cmpi .slt v176 c0_i32_169
  let v181 : BitVec 1 := Scalar.xori v179 v180
  let c0_i32_167 : BitVec 32 := 0#32
  let v178 : BitVec 1 := Scalar.cmpi .ne v177 c0_i32_167
  let v182 : BitVec 1 := Scalar.andi v181 v178
  let v183 : BitVec 32 := Scalar.addi v177 v176
  let v184 : BitVec 32 := Scalar.select v182 v183 v177
  let c1_i32_171 : BitVec 32 := 1#32
  let v185 : BitVec 32 := Scalar.muli v184 c1_i32_171
  let v186 : BitVec 32 := Scalar.addi c0_i32_172 v185
  v186.toNat
def k0_dev4 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_173 : BitVec 32 := 4#32
  let v187 : BitVec 32 := Scalar.addi v2 c4_i32_173
  let c8_i32_174 : BitVec 32 := 8#32
  let c0_i32_175 : BitVec 32 := 0#32
  let v188 : BitVec 1 := Scalar.cmpi .eq c8_i32_174 c0_i32_175
  let c1_i32_176 : BitVec 32 := 1#32
  let v189 : BitVec 32 := Scalar.select v188 c1_i32_176 c8_i32_174
  let v190 : BitVec 32 := Scalar.remsi v187 v189
  let c0_i32_178 : BitVec 32 := 0#32
  let v192 : BitVec 1 := Scalar.cmpi .slt v190 c0_i32_178
  let c0_i32_179 : BitVec 32 := 0#32
  let v193 : BitVec 1 := Scalar.cmpi .slt v189 c0_i32_179
  let v194 : BitVec 1 := Scalar.xori v192 v193
  let c0_i32_177 : BitVec 32 := 0#32
  let v191 : BitVec 1 := Scalar.cmpi .ne v190 c0_i32_177
  let v195 : BitVec 1 := Scalar.andi v194 v191
  let v196 : BitVec 32 := Scalar.addi v190 v189
  let v197 : BitVec 32 := Scalar.select v195 v196 v190
  let c1_i32_181 : BitVec 32 := 1#32
  let v198 : BitVec 32 := Scalar.muli v197 c1_i32_181
  let v199 : BitVec 32 := Scalar.addi c0_i32_182 v198
  v199.toNat
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_183 : BitVec 32 := 5#32
  let v200 : BitVec 32 := Scalar.addi v2 c5_i32_183
  let c8_i32_184 : BitVec 32 := 8#32
  let c0_i32_185 : BitVec 32 := 0#32
  let v201 : BitVec 1 := Scalar.cmpi .eq c8_i32_184 c0_i32_185
  let c1_i32_186 : BitVec 32 := 1#32
  let v202 : BitVec 32 := Scalar.select v201 c1_i32_186 c8_i32_184
  let v203 : BitVec 32 := Scalar.remsi v200 v202
  let c0_i32_188 : BitVec 32 := 0#32
  let v205 : BitVec 1 := Scalar.cmpi .slt v203 c0_i32_188
  let c0_i32_189 : BitVec 32 := 0#32
  let v206 : BitVec 1 := Scalar.cmpi .slt v202 c0_i32_189
  let v207 : BitVec 1 := Scalar.xori v205 v206
  let c0_i32_187 : BitVec 32 := 0#32
  let v204 : BitVec 1 := Scalar.cmpi .ne v203 c0_i32_187
  let v208 : BitVec 1 := Scalar.andi v207 v204
  let v209 : BitVec 32 := Scalar.addi v203 v202
  let v210 : BitVec 32 := Scalar.select v208 v209 v203
  let c1_i32_191 : BitVec 32 := 1#32
  let v211 : BitVec 32 := Scalar.muli v210 c1_i32_191
  let v212 : BitVec 32 := Scalar.addi c0_i32_192 v211
  v212.toNat
def k0_dev6 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_193 : BitVec 32 := 6#32
  let v213 : BitVec 32 := Scalar.addi v2 c6_i32_193
  let c8_i32_194 : BitVec 32 := 8#32
  let c0_i32_195 : BitVec 32 := 0#32
  let v214 : BitVec 1 := Scalar.cmpi .eq c8_i32_194 c0_i32_195
  let c1_i32_196 : BitVec 32 := 1#32
  let v215 : BitVec 32 := Scalar.select v214 c1_i32_196 c8_i32_194
  let v216 : BitVec 32 := Scalar.remsi v213 v215
  let c0_i32_198 : BitVec 32 := 0#32
  let v218 : BitVec 1 := Scalar.cmpi .slt v216 c0_i32_198
  let c0_i32_199 : BitVec 32 := 0#32
  let v219 : BitVec 1 := Scalar.cmpi .slt v215 c0_i32_199
  let v220 : BitVec 1 := Scalar.xori v218 v219
  let c0_i32_197 : BitVec 32 := 0#32
  let v217 : BitVec 1 := Scalar.cmpi .ne v216 c0_i32_197
  let v221 : BitVec 1 := Scalar.andi v220 v217
  let v222 : BitVec 32 := Scalar.addi v216 v215
  let v223 : BitVec 32 := Scalar.select v221 v222 v216
  let c1_i32_201 : BitVec 32 := 1#32
  let v224 : BitVec 32 := Scalar.muli v223 c1_i32_201
  let v225 : BitVec 32 := Scalar.addi c0_i32_202 v224
  v225.toNat
def k0_dev7 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_203 : BitVec 32 := 7#32
  let v226 : BitVec 32 := Scalar.addi v2 c7_i32_203
  let c8_i32_204 : BitVec 32 := 8#32
  let c0_i32_205 : BitVec 32 := 0#32
  let v227 : BitVec 1 := Scalar.cmpi .eq c8_i32_204 c0_i32_205
  let c1_i32_206 : BitVec 32 := 1#32
  let v228 : BitVec 32 := Scalar.select v227 c1_i32_206 c8_i32_204
  let v229 : BitVec 32 := Scalar.remsi v226 v228
  let c0_i32_208 : BitVec 32 := 0#32
  let v231 : BitVec 1 := Scalar.cmpi .slt v229 c0_i32_208
  let c0_i32_209 : BitVec 32 := 0#32
  let v232 : BitVec 1 := Scalar.cmpi .slt v228 c0_i32_209
  let v233 : BitVec 1 := Scalar.xori v231 v232
  let c0_i32_207 : BitVec 32 := 0#32
  let v230 : BitVec 1 := Scalar.cmpi .ne v229 c0_i32_207
  let v234 : BitVec 1 := Scalar.andi v233 v230
  let v235 : BitVec 32 := Scalar.addi v229 v228
  let v236 : BitVec 32 := Scalar.select v234 v235 v229
  let c1_i32_211 : BitVec 32 := 1#32
  let v237 : BitVec 32 := Scalar.muli v236 c1_i32_211
  let v238 : BitVec 32 := Scalar.addi c0_i32_212 v237
  v238.toNat
def k0_off1 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c1376_i32 : BitVec 32 := 1376#32
  let v270 : BitVec 32 := Scalar.muli v98 c1376_i32
  let v271 : Index := Scalar.indexCast v270
  let c0_229 : Index := 0#32
  ![v271.toNat, 0]
def k0_off2 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c0_i32_220 : BitVec 32 := 0#32
  let v250 : BitVec 1 := Scalar.cmpi .sgt v98 c0_i32_220
  let v251 : BitVec 32 := Scalar.extui v250
  let c0_i32_221 : BitVec 32 := 0#32
  let v252 : BitVec 1 := Scalar.cmpi .slt v98 c0_i32_221
  let v253 : BitVec 32 := Scalar.extui v252
  let v254 : BitVec 32 := Scalar.subi v251 v253
  let c1_i32_219 : BitVec 32 := 1#32
  let c0_i32_222 : BitVec 32 := 0#32
  let v255 : BitVec 1 := Scalar.cmpi .sgt c1_i32_219 c0_i32_222
  let v256 : BitVec 32 := Scalar.extui v255
  let c0_i32_223 : BitVec 32 := 0#32
  let v257 : BitVec 1 := Scalar.cmpi .slt c1_i32_219 c0_i32_223
  let v258 : BitVec 32 := Scalar.extui v257
  let v259 : BitVec 32 := Scalar.subi v256 v258
  let v260 : BitVec 1 := Scalar.cmpi .ne v254 v259
  let v261 : BitVec 32 := Scalar.remsi v98 c1_i32_219
  let c0_i32_224 : BitVec 32 := 0#32
  let v262 : BitVec 1 := Scalar.cmpi .ne v261 c0_i32_224
  let v263 : BitVec 1 := Scalar.andi v260 v262
  let v249 : BitVec 32 := Scalar.divsi v98 c1_i32_219
  let c1_i32_225 : BitVec 32 := 1#32
  let v264 : BitVec 32 := Scalar.subi v249 c1_i32_225
  let v265 : BitVec 32 := Scalar.select v263 v264 v249
  let c1_i32_226 : BitVec 32 := 1#32
  let v266 : BitVec 32 := Scalar.muli v265 c1_i32_226
  let c1376_i32_231 : BitVec 32 := 1376#32
  let v276 : BitVec 32 := Scalar.muli v266 c1376_i32_231
  let c0_i32_238 : BitVec 32 := 0#32
  ![v276.toNat, 0]
def k0_dev8 (d0 : Dev nD) : Nat :=
  let c0_i32_237 : BitVec 32 := 0#32
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v5 : BitVec 32 := Scalar.addi c0_i32_2 v4
  let c1_i32_3 : BitVec 32 := 1#32
  let v6 : BitVec 1 := Scalar.cmpi .eq v2 c1_i32_3
  let c0_i32_4 : BitVec 32 := 0#32
  let c0_i32_5 : BitVec 32 := 0#32
  let v7 : BitVec 32 := Scalar.select v6 c0_i32_4 c0_i32_5
  let v8 : BitVec 32 := Scalar.addi v5 v7
  let c2_i32 : BitVec 32 := 2#32
  let v9 : BitVec 1 := Scalar.cmpi .eq v2 c2_i32
  let c3_i32 : BitVec 32 := 3#32
  let c0_i32_6 : BitVec 32 := 0#32
  let v10 : BitVec 32 := Scalar.select v9 c3_i32 c0_i32_6
  let v11 : BitVec 32 := Scalar.addi v8 v10
  let c3_i32_7 : BitVec 32 := 3#32
  let v12 : BitVec 1 := Scalar.cmpi .eq v2 c3_i32_7
  let c2_i32_8 : BitVec 32 := 2#32
  let c0_i32_9 : BitVec 32 := 0#32
  let v13 : BitVec 32 := Scalar.select v12 c2_i32_8 c0_i32_9
  let v14 : BitVec 32 := Scalar.addi v11 v13
  let c4_i32 : BitVec 32 := 4#32
  let v15 : BitVec 1 := Scalar.cmpi .eq v2 c4_i32
  let c5_i32 : BitVec 32 := 5#32
  let c0_i32_10 : BitVec 32 := 0#32
  let v16 : BitVec 32 := Scalar.select v15 c5_i32 c0_i32_10
  let v17 : BitVec 32 := Scalar.addi v14 v16
  let c5_i32_11 : BitVec 32 := 5#32
  let v18 : BitVec 1 := Scalar.cmpi .eq v2 c5_i32_11
  let c4_i32_12 : BitVec 32 := 4#32
  let c0_i32_13 : BitVec 32 := 0#32
  let v19 : BitVec 32 := Scalar.select v18 c4_i32_12 c0_i32_13
  let v20 : BitVec 32 := Scalar.addi v17 v19
  let c6_i32 : BitVec 32 := 6#32
  let v21 : BitVec 1 := Scalar.cmpi .eq v2 c6_i32
  let c7_i32 : BitVec 32 := 7#32
  let c0_i32_14 : BitVec 32 := 0#32
  let v22 : BitVec 32 := Scalar.select v21 c7_i32 c0_i32_14
  let v23 : BitVec 32 := Scalar.addi v20 v22
  let c7_i32_15 : BitVec 32 := 7#32
  let v24 : BitVec 1 := Scalar.cmpi .eq v2 c7_i32_15
  let c6_i32_16 : BitVec 32 := 6#32
  let c0_i32_17 : BitVec 32 := 0#32
  let v25 : BitVec 32 := Scalar.select v24 c6_i32_16 c0_i32_17
  let v26 : BitVec 32 := Scalar.addi v23 v25
  let c1_i32_236 : BitVec 32 := 1#32
  let v277 : BitVec 32 := Scalar.muli v26 c1_i32_236
  let v278 : BitVec 32 := Scalar.addi c0_i32_237 v277
  v278.toNat
def k0_off3 (d0 : Dev nD) (c4_i32_98 : BitVec 32) (c5_i32_101 : BitVec 32) (c1_i32_104 : BitVec 32) (c2_i32_107 : BitVec 32) (c6_i32_110 : BitVec 32) (c3_i32_116 : BitVec 32) : Fin 2 → Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c1360_i32 : BitVec 32 := 1360#32
  let v306 : BitVec 32 := Scalar.muli v122 c1360_i32
  let v307 : Index := Scalar.indexCast v306
  let c0_249 : Index := 0#32
  ![v307.toNat, 0]
def k0_off3_at (r : Fin 2) : BitVec 32 × BitVec 32 × BitVec 32 × BitVec 32 × BitVec 32 × BitVec 32 :=
  if r.val < 1 then
    (4#32, 5#32, 1#32, 2#32, 6#32, 3#32)
  else
    (2#32, 6#32, 4#32, 1#32, 3#32, 5#32)
def k0_off4 (d0 : Dev nD) (c4_i32_98 : BitVec 32) (c5_i32_101 : BitVec 32) (c1_i32_104 : BitVec 32) (c2_i32_107 : BitVec 32) (c6_i32_110 : BitVec 32) (c3_i32_116 : BitVec 32) : Fin 2 → Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c0_i32_241 : BitVec 32 := 0#32
  let v286 : BitVec 1 := Scalar.cmpi .sgt v122 c0_i32_241
  let v287 : BitVec 32 := Scalar.extui v286
  let c0_i32_242 : BitVec 32 := 0#32
  let v288 : BitVec 1 := Scalar.cmpi .slt v122 c0_i32_242
  let v289 : BitVec 32 := Scalar.extui v288
  let v290 : BitVec 32 := Scalar.subi v287 v289
  let c1_i32_240 : BitVec 32 := 1#32
  let c0_i32_243 : BitVec 32 := 0#32
  let v291 : BitVec 1 := Scalar.cmpi .sgt c1_i32_240 c0_i32_243
  let v292 : BitVec 32 := Scalar.extui v291
  let c0_i32_244 : BitVec 32 := 0#32
  let v293 : BitVec 1 := Scalar.cmpi .slt c1_i32_240 c0_i32_244
  let v294 : BitVec 32 := Scalar.extui v293
  let v295 : BitVec 32 := Scalar.subi v292 v294
  let v296 : BitVec 1 := Scalar.cmpi .ne v290 v295
  let v297 : BitVec 32 := Scalar.remsi v122 c1_i32_240
  let c0_i32_245 : BitVec 32 := 0#32
  let v298 : BitVec 1 := Scalar.cmpi .ne v297 c0_i32_245
  let v299 : BitVec 1 := Scalar.andi v296 v298
  let v285 : BitVec 32 := Scalar.divsi v122 c1_i32_240
  let c1_i32_246 : BitVec 32 := 1#32
  let v300 : BitVec 32 := Scalar.subi v285 c1_i32_246
  let v301 : BitVec 32 := Scalar.select v299 v300 v285
  let c1_i32_247 : BitVec 32 := 1#32
  let v302 : BitVec 32 := Scalar.muli v301 c1_i32_247
  let c1360_i32_251 : BitVec 32 := 1360#32
  let v312 : BitVec 32 := Scalar.muli v302 c1360_i32_251
  let c0_i32_258 : BitVec 32 := 0#32
  ![v312.toNat, 0]
def k0_off4_at (r : Fin 2) : BitVec 32 × BitVec 32 × BitVec 32 × BitVec 32 × BitVec 32 × BitVec 32 :=
  if r.val < 1 then
    (4#32, 5#32, 1#32, 2#32, 6#32, 3#32)
  else
    (2#32, 6#32, 4#32, 1#32, 3#32, 5#32)
def k0_dev9 (d0 : Dev nD) : Nat :=
  let c0_i32_257 : BitVec 32 := 0#32
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v27 : BitVec 1 := Scalar.cmpi .eq v2 c0_i32_18
  let c3_i32_19 : BitVec 32 := 3#32
  let c0_i32_20 : BitVec 32 := 0#32
  let v28 : BitVec 32 := Scalar.select v27 c3_i32_19 c0_i32_20
  let v29 : BitVec 32 := Scalar.addi c0_i32_21 v28
  let c1_i32_22 : BitVec 32 := 1#32
  let v30 : BitVec 1 := Scalar.cmpi .eq v2 c1_i32_22
  let c2_i32_23 : BitVec 32 := 2#32
  let c0_i32_24 : BitVec 32 := 0#32
  let v31 : BitVec 32 := Scalar.select v30 c2_i32_23 c0_i32_24
  let v32 : BitVec 32 := Scalar.addi v29 v31
  let c2_i32_25 : BitVec 32 := 2#32
  let v33 : BitVec 1 := Scalar.cmpi .eq v2 c2_i32_25
  let c1_i32_26 : BitVec 32 := 1#32
  let c0_i32_27 : BitVec 32 := 0#32
  let v34 : BitVec 32 := Scalar.select v33 c1_i32_26 c0_i32_27
  let v35 : BitVec 32 := Scalar.addi v32 v34
  let c3_i32_28 : BitVec 32 := 3#32
  let v36 : BitVec 1 := Scalar.cmpi .eq v2 c3_i32_28
  let c0_i32_29 : BitVec 32 := 0#32
  let c0_i32_30 : BitVec 32 := 0#32
  let v37 : BitVec 32 := Scalar.select v36 c0_i32_29 c0_i32_30
  let v38 : BitVec 32 := Scalar.addi v35 v37
  let c4_i32_31 : BitVec 32 := 4#32
  let v39 : BitVec 1 := Scalar.cmpi .eq v2 c4_i32_31
  let c7_i32_32 : BitVec 32 := 7#32
  let c0_i32_33 : BitVec 32 := 0#32
  let v40 : BitVec 32 := Scalar.select v39 c7_i32_32 c0_i32_33
  let v41 : BitVec 32 := Scalar.addi v38 v40
  let c5_i32_34 : BitVec 32 := 5#32
  let v42 : BitVec 1 := Scalar.cmpi .eq v2 c5_i32_34
  let c6_i32_35 : BitVec 32 := 6#32
  let c0_i32_36 : BitVec 32 := 0#32
  let v43 : BitVec 32 := Scalar.select v42 c6_i32_35 c0_i32_36
  let v44 : BitVec 32 := Scalar.addi v41 v43
  let c6_i32_37 : BitVec 32 := 6#32
  let v45 : BitVec 1 := Scalar.cmpi .eq v2 c6_i32_37
  let c5_i32_38 : BitVec 32 := 5#32
  let c0_i32_39 : BitVec 32 := 0#32
  let v46 : BitVec 32 := Scalar.select v45 c5_i32_38 c0_i32_39
  let v47 : BitVec 32 := Scalar.addi v44 v46
  let c7_i32_40 : BitVec 32 := 7#32
  let v48 : BitVec 1 := Scalar.cmpi .eq v2 c7_i32_40
  let c4_i32_41 : BitVec 32 := 4#32
  let c0_i32_42 : BitVec 32 := 0#32
  let v49 : BitVec 32 := Scalar.select v48 c4_i32_41 c0_i32_42
  let v50 : BitVec 32 := Scalar.addi v47 v49
  let c1_i32_256 : BitVec 32 := 1#32
  let v313 : BitVec 32 := Scalar.muli v50 c1_i32_256
  let v314 : BitVec 32 := Scalar.addi c0_i32_257 v313
  v314.toNat
def k0_dev10 (d0 : Dev nD) : Nat :=
  let c0_i32_278 : BitVec 32 := 0#32
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let v51 : BitVec 1 := Scalar.cmpi .eq v2 c0_i32_43
  let c4_i32_44 : BitVec 32 := 4#32
  let c0_i32_45 : BitVec 32 := 0#32
  let v52 : BitVec 32 := Scalar.select v51 c4_i32_44 c0_i32_45
  let v53 : BitVec 32 := Scalar.addi c0_i32_46 v52
  let c1_i32_47 : BitVec 32 := 1#32
  let v54 : BitVec 1 := Scalar.cmpi .eq v2 c1_i32_47
  let c5_i32_48 : BitVec 32 := 5#32
  let c0_i32_49 : BitVec 32 := 0#32
  let v55 : BitVec 32 := Scalar.select v54 c5_i32_48 c0_i32_49
  let v56 : BitVec 32 := Scalar.addi v53 v55
  let c2_i32_50 : BitVec 32 := 2#32
  let v57 : BitVec 1 := Scalar.cmpi .eq v2 c2_i32_50
  let c6_i32_51 : BitVec 32 := 6#32
  let c0_i32_52 : BitVec 32 := 0#32
  let v58 : BitVec 32 := Scalar.select v57 c6_i32_51 c0_i32_52
  let v59 : BitVec 32 := Scalar.addi v56 v58
  let c3_i32_53 : BitVec 32 := 3#32
  let v60 : BitVec 1 := Scalar.cmpi .eq v2 c3_i32_53
  let c7_i32_54 : BitVec 32 := 7#32
  let c0_i32_55 : BitVec 32 := 0#32
  let v61 : BitVec 32 := Scalar.select v60 c7_i32_54 c0_i32_55
  let v62 : BitVec 32 := Scalar.addi v59 v61
  let c4_i32_56 : BitVec 32 := 4#32
  let v63 : BitVec 1 := Scalar.cmpi .eq v2 c4_i32_56
  let c0_i32_57 : BitVec 32 := 0#32
  let c0_i32_58 : BitVec 32 := 0#32
  let v64 : BitVec 32 := Scalar.select v63 c0_i32_57 c0_i32_58
  let v65 : BitVec 32 := Scalar.addi v62 v64
  let c5_i32_59 : BitVec 32 := 5#32
  let v66 : BitVec 1 := Scalar.cmpi .eq v2 c5_i32_59
  let c1_i32_60 : BitVec 32 := 1#32
  let c0_i32_61 : BitVec 32 := 0#32
  let v67 : BitVec 32 := Scalar.select v66 c1_i32_60 c0_i32_61
  let v68 : BitVec 32 := Scalar.addi v65 v67
  let c6_i32_62 : BitVec 32 := 6#32
  let v69 : BitVec 1 := Scalar.cmpi .eq v2 c6_i32_62
  let c2_i32_63 : BitVec 32 := 2#32
  let c0_i32_64 : BitVec 32 := 0#32
  let v70 : BitVec 32 := Scalar.select v69 c2_i32_63 c0_i32_64
  let v71 : BitVec 32 := Scalar.addi v68 v70
  let c7_i32_65 : BitVec 32 := 7#32
  let v72 : BitVec 1 := Scalar.cmpi .eq v2 c7_i32_65
  let c3_i32_66 : BitVec 32 := 3#32
  let c0_i32_67 : BitVec 32 := 0#32
  let v73 : BitVec 32 := Scalar.select v72 c3_i32_66 c0_i32_67
  let v74 : BitVec 32 := Scalar.addi v71 v73
  let c1_i32_277 : BitVec 32 := 1#32
  let v349 : BitVec 32 := Scalar.muli v74 c1_i32_277
  let v350 : BitVec 32 := Scalar.addi c0_i32_278 v349
  v350.toNat
def k0_off5 (d0 : Dev nD) (c1_i32_73 : BitVec 32) (c3_i32_76 : BitVec 32) (c2_i32_79 : BitVec 32) (c4_i32_82 : BitVec 32) (c5_i32_85 : BitVec 32) (c6_i32_91 : BitVec 32) (c1_i32_286 : BitVec 32) (c3_i32_289 : BitVec 32) (c2_i32_292 : BitVec 32) (c4_i32_295 : BitVec 32) (c5_i32_298 : BitVec 32) (c7_i32_301 : BitVec 32) : Fin 2 → Nat :=
  let c0_311 : Index := 0#32
  let c0_i32_284 : BitVec 32 := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c0_i32_92 : BitVec 32 := 0#32
  let v97 : BitVec 32 := Scalar.select v96 c6_i32_91 c0_i32_92
  let v98 : BitVec 32 := Scalar.addi v95 v97
  let c0_i32_281 : BitVec 32 := 0#32
  let v357 : BitVec 1 := Scalar.cmpi .eq v98 c0_i32_281
  let c0_i32_282 : BitVec 32 := 0#32
  let c0_i32_283 : BitVec 32 := 0#32
  let v358 : BitVec 32 := Scalar.select v357 c0_i32_282 c0_i32_283
  let v359 : BitVec 32 := Scalar.addi c0_i32_284 v358
  let c1_i32_285 : BitVec 32 := 1#32
  let v360 : BitVec 1 := Scalar.cmpi .eq v98 c1_i32_285
  let c0_i32_287 : BitVec 32 := 0#32
  let v361 : BitVec 32 := Scalar.select v360 c1_i32_286 c0_i32_287
  let v362 : BitVec 32 := Scalar.addi v359 v361
  let c2_i32_288 : BitVec 32 := 2#32
  let v363 : BitVec 1 := Scalar.cmpi .eq v98 c2_i32_288
  let c0_i32_290 : BitVec 32 := 0#32
  let v364 : BitVec 32 := Scalar.select v363 c3_i32_289 c0_i32_290
  let v365 : BitVec 32 := Scalar.addi v362 v364
  let c3_i32_291 : BitVec 32 := 3#32
  let v366 : BitVec 1 := Scalar.cmpi .eq v98 c3_i32_291
  let c0_i32_293 : BitVec 32 := 0#32
  let v367 : BitVec 32 := Scalar.select v366 c2_i32_292 c0_i32_293
  let v368 : BitVec 32 := Scalar.addi v365 v367
  let c4_i32_294 : BitVec 32 := 4#32
  let v369 : BitVec 1 := Scalar.cmpi .eq v98 c4_i32_294
  let c0_i32_296 : BitVec 32 := 0#32
  let v370 : BitVec 32 := Scalar.select v369 c4_i32_295 c0_i32_296
  let v371 : BitVec 32 := Scalar.addi v368 v370
  let c5_i32_297 : BitVec 32 := 5#32
  let v372 : BitVec 1 := Scalar.cmpi .eq v98 c5_i32_297
  let c0_i32_299 : BitVec 32 := 0#32
  let v373 : BitVec 32 := Scalar.select v372 c5_i32_298 c0_i32_299
  let v374 : BitVec 32 := Scalar.addi v371 v373
  let c6_i32_300 : BitVec 32 := 6#32
  let v375 : BitVec 1 := Scalar.cmpi .eq v98 c6_i32_300
  let c0_i32_302 : BitVec 32 := 0#32
  let v376 : BitVec 32 := Scalar.select v375 c7_i32_301 c0_i32_302
  let v377 : BitVec 32 := Scalar.addi v374 v376
  let c7_i32_303 : BitVec 32 := 7#32
  let v378 : BitVec 1 := Scalar.cmpi .eq v98 c7_i32_303
  let c6_i32_304 : BitVec 32 := 6#32
  let c0_i32_305 : BitVec 32 := 0#32
  let v379 : BitVec 32 := Scalar.select v378 c6_i32_304 c0_i32_305
  let v380 : BitVec 32 := Scalar.addi v377 v379
  let c256_i32 : BitVec 32 := 256#32
  let v386 : BitVec 32 := Scalar.muli v380 c256_i32
  let v387 : Index := Scalar.indexCast v386
  ![0, v387.toNat]
def k0_off5_at (r : Fin 3) : BitVec 32 × BitVec 32 × BitVec 32 × BitVec 32 × BitVec 32 × BitVec 32 × BitVec 32 × BitVec 32 × BitVec 32 × BitVec 32 × BitVec 32 × BitVec 32 :=
  if r.val < 1 then
    (1#32, 3#32, 2#32, 4#32, 5#32, 6#32, 1#32, 3#32, 2#32, 4#32, 5#32, 7#32)
  else
    if r.val < 2 then
      (4#32, 5#32, 1#32, 2#32, 6#32, 3#32, 3#32, 4#32, 7#32, 1#32, 2#32, 5#32)
    else
      (2#32, 6#32, 4#32, 1#32, 3#32, 5#32, 4#32, 1#32, 5#32, 3#32, 7#32, 2#32)
def k0_off6 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c0_i32_428 : BitVec 32 := 0#32
  let v502 : BitVec 1 := Scalar.cmpi .sgt v98 c0_i32_428
  let v503 : BitVec 32 := Scalar.extui v502
  let c0_i32_429 : BitVec 32 := 0#32
  let v504 : BitVec 1 := Scalar.cmpi .slt v98 c0_i32_429
  let v505 : BitVec 32 := Scalar.extui v504
  let v506 : BitVec 32 := Scalar.subi v503 v505
  let c2_i32_427 : BitVec 32 := 2#32
  let c0_i32_430 : BitVec 32 := 0#32
  let v507 : BitVec 1 := Scalar.cmpi .sgt c2_i32_427 c0_i32_430
  let v508 : BitVec 32 := Scalar.extui v507
  let c0_i32_431 : BitVec 32 := 0#32
  let v509 : BitVec 1 := Scalar.cmpi .slt c2_i32_427 c0_i32_431
  let v510 : BitVec 32 := Scalar.extui v509
  let v511 : BitVec 32 := Scalar.subi v508 v510
  let v512 : BitVec 1 := Scalar.cmpi .ne v506 v511
  let v513 : BitVec 32 := Scalar.remsi v98 c2_i32_427
  let c0_i32_432 : BitVec 32 := 0#32
  let v514 : BitVec 1 := Scalar.cmpi .ne v513 c0_i32_432
  let v515 : BitVec 1 := Scalar.andi v512 v514
  let v501 : BitVec 32 := Scalar.divsi v98 c2_i32_427
  let c1_i32_433 : BitVec 32 := 1#32
  let v516 : BitVec 32 := Scalar.subi v501 c1_i32_433
  let v517 : BitVec 32 := Scalar.select v515 v516 v501
  let c2_i32_434 : BitVec 32 := 2#32
  let v518 : BitVec 32 := Scalar.muli v517 c2_i32_434
  let c1376_i32_436 : BitVec 32 := 1376#32
  let v520 : BitVec 32 := Scalar.muli v518 c1376_i32_436
  let c0_i32_443 : BitVec 32 := 0#32
  ![v520.toNat, 0]
def k0_dev11 (d0 : Dev nD) : Nat :=
  let c0_i32_442 : BitVec 32 := 0#32
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v27 : BitVec 1 := Scalar.cmpi .eq v2 c0_i32_18
  let c3_i32_19 : BitVec 32 := 3#32
  let c0_i32_20 : BitVec 32 := 0#32
  let v28 : BitVec 32 := Scalar.select v27 c3_i32_19 c0_i32_20
  let v29 : BitVec 32 := Scalar.addi c0_i32_21 v28
  let c1_i32_22 : BitVec 32 := 1#32
  let v30 : BitVec 1 := Scalar.cmpi .eq v2 c1_i32_22
  let c2_i32_23 : BitVec 32 := 2#32
  let c0_i32_24 : BitVec 32 := 0#32
  let v31 : BitVec 32 := Scalar.select v30 c2_i32_23 c0_i32_24
  let v32 : BitVec 32 := Scalar.addi v29 v31
  let c2_i32_25 : BitVec 32 := 2#32
  let v33 : BitVec 1 := Scalar.cmpi .eq v2 c2_i32_25
  let c1_i32_26 : BitVec 32 := 1#32
  let c0_i32_27 : BitVec 32 := 0#32
  let v34 : BitVec 32 := Scalar.select v33 c1_i32_26 c0_i32_27
  let v35 : BitVec 32 := Scalar.addi v32 v34
  let c3_i32_28 : BitVec 32 := 3#32
  let v36 : BitVec 1 := Scalar.cmpi .eq v2 c3_i32_28
  let c0_i32_29 : BitVec 32 := 0#32
  let c0_i32_30 : BitVec 32 := 0#32
  let v37 : BitVec 32 := Scalar.select v36 c0_i32_29 c0_i32_30
  let v38 : BitVec 32 := Scalar.addi v35 v37
  let c4_i32_31 : BitVec 32 := 4#32
  let v39 : BitVec 1 := Scalar.cmpi .eq v2 c4_i32_31
  let c7_i32_32 : BitVec 32 := 7#32
  let c0_i32_33 : BitVec 32 := 0#32
  let v40 : BitVec 32 := Scalar.select v39 c7_i32_32 c0_i32_33
  let v41 : BitVec 32 := Scalar.addi v38 v40
  let c5_i32_34 : BitVec 32 := 5#32
  let v42 : BitVec 1 := Scalar.cmpi .eq v2 c5_i32_34
  let c6_i32_35 : BitVec 32 := 6#32
  let c0_i32_36 : BitVec 32 := 0#32
  let v43 : BitVec 32 := Scalar.select v42 c6_i32_35 c0_i32_36
  let v44 : BitVec 32 := Scalar.addi v41 v43
  let c6_i32_37 : BitVec 32 := 6#32
  let v45 : BitVec 1 := Scalar.cmpi .eq v2 c6_i32_37
  let c5_i32_38 : BitVec 32 := 5#32
  let c0_i32_39 : BitVec 32 := 0#32
  let v46 : BitVec 32 := Scalar.select v45 c5_i32_38 c0_i32_39
  let v47 : BitVec 32 := Scalar.addi v44 v46
  let c7_i32_40 : BitVec 32 := 7#32
  let v48 : BitVec 1 := Scalar.cmpi .eq v2 c7_i32_40
  let c4_i32_41 : BitVec 32 := 4#32
  let c0_i32_42 : BitVec 32 := 0#32
  let v49 : BitVec 32 := Scalar.select v48 c4_i32_41 c0_i32_42
  let v50 : BitVec 32 := Scalar.addi v47 v49
  let c1_i32_441 : BitVec 32 := 1#32
  let v521 : BitVec 32 := Scalar.muli v50 c1_i32_441
  let v522 : BitVec 32 := Scalar.addi c0_i32_442 v521
  v522.toNat
def k0_off7 (d0 : Dev nD) (c4_i32_98 : BitVec 32) (c5_i32_101 : BitVec 32) (c1_i32_104 : BitVec 32) (c2_i32_107 : BitVec 32) (c6_i32_110 : BitVec 32) (c3_i32_116 : BitVec 32) : Fin 2 → Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c0_i32_446 : BitVec 32 := 0#32
  let v530 : BitVec 1 := Scalar.cmpi .sgt v122 c0_i32_446
  let v531 : BitVec 32 := Scalar.extui v530
  let c0_i32_447 : BitVec 32 := 0#32
  let v532 : BitVec 1 := Scalar.cmpi .slt v122 c0_i32_447
  let v533 : BitVec 32 := Scalar.extui v532
  let v534 : BitVec 32 := Scalar.subi v531 v533
  let c2_i32_445 : BitVec 32 := 2#32
  let c0_i32_448 : BitVec 32 := 0#32
  let v535 : BitVec 1 := Scalar.cmpi .sgt c2_i32_445 c0_i32_448
  let v536 : BitVec 32 := Scalar.extui v535
  let c0_i32_449 : BitVec 32 := 0#32
  let v537 : BitVec 1 := Scalar.cmpi .slt c2_i32_445 c0_i32_449
  let v538 : BitVec 32 := Scalar.extui v537
  let v539 : BitVec 32 := Scalar.subi v536 v538
  let v540 : BitVec 1 := Scalar.cmpi .ne v534 v539
  let v541 : BitVec 32 := Scalar.remsi v122 c2_i32_445
  let c0_i32_450 : BitVec 32 := 0#32
  let v542 : BitVec 1 := Scalar.cmpi .ne v541 c0_i32_450
  let v543 : BitVec 1 := Scalar.andi v540 v542
  let v529 : BitVec 32 := Scalar.divsi v122 c2_i32_445
  let c1_i32_451 : BitVec 32 := 1#32
  let v544 : BitVec 32 := Scalar.subi v529 c1_i32_451
  let v545 : BitVec 32 := Scalar.select v543 v544 v529
  let c2_i32_452 : BitVec 32 := 2#32
  let v546 : BitVec 32 := Scalar.muli v545 c2_i32_452
  let c1360_i32_454 : BitVec 32 := 1360#32
  let v548 : BitVec 32 := Scalar.muli v546 c1360_i32_454
  let c0_i32_461 : BitVec 32 := 0#32
  ![v548.toNat, 0]
def k0_off7_at (r : Fin 2) : BitVec 32 × BitVec 32 × BitVec 32 × BitVec 32 × BitVec 32 × BitVec 32 :=
  if r.val < 1 then
    (4#32, 5#32, 1#32, 2#32, 6#32, 3#32)
  else
    (2#32, 6#32, 4#32, 1#32, 3#32, 5#32)
def k0_dev12 (d0 : Dev nD) : Nat :=
  let c0_i32_460 : BitVec 32 := 0#32
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let v51 : BitVec 1 := Scalar.cmpi .eq v2 c0_i32_43
  let c4_i32_44 : BitVec 32 := 4#32
  let c0_i32_45 : BitVec 32 := 0#32
  let v52 : BitVec 32 := Scalar.select v51 c4_i32_44 c0_i32_45
  let v53 : BitVec 32 := Scalar.addi c0_i32_46 v52
  let c1_i32_47 : BitVec 32 := 1#32
  let v54 : BitVec 1 := Scalar.cmpi .eq v2 c1_i32_47
  let c5_i32_48 : BitVec 32 := 5#32
  let c0_i32_49 : BitVec 32 := 0#32
  let v55 : BitVec 32 := Scalar.select v54 c5_i32_48 c0_i32_49
  let v56 : BitVec 32 := Scalar.addi v53 v55
  let c2_i32_50 : BitVec 32 := 2#32
  let v57 : BitVec 1 := Scalar.cmpi .eq v2 c2_i32_50
  let c6_i32_51 : BitVec 32 := 6#32
  let c0_i32_52 : BitVec 32 := 0#32
  let v58 : BitVec 32 := Scalar.select v57 c6_i32_51 c0_i32_52
  let v59 : BitVec 32 := Scalar.addi v56 v58
  let c3_i32_53 : BitVec 32 := 3#32
  let v60 : BitVec 1 := Scalar.cmpi .eq v2 c3_i32_53
  let c7_i32_54 : BitVec 32 := 7#32
  let c0_i32_55 : BitVec 32 := 0#32
  let v61 : BitVec 32 := Scalar.select v60 c7_i32_54 c0_i32_55
  let v62 : BitVec 32 := Scalar.addi v59 v61
  let c4_i32_56 : BitVec 32 := 4#32
  let v63 : BitVec 1 := Scalar.cmpi .eq v2 c4_i32_56
  let c0_i32_57 : BitVec 32 := 0#32
  let c0_i32_58 : BitVec 32 := 0#32
  let v64 : BitVec 32 := Scalar.select v63 c0_i32_57 c0_i32_58
  let v65 : BitVec 32 := Scalar.addi v62 v64
  let c5_i32_59 : BitVec 32 := 5#32
  let v66 : BitVec 1 := Scalar.cmpi .eq v2 c5_i32_59
  let c1_i32_60 : BitVec 32 := 1#32
  let c0_i32_61 : BitVec 32 := 0#32
  let v67 : BitVec 32 := Scalar.select v66 c1_i32_60 c0_i32_61
  let v68 : BitVec 32 := Scalar.addi v65 v67
  let c6_i32_62 : BitVec 32 := 6#32
  let v69 : BitVec 1 := Scalar.cmpi .eq v2 c6_i32_62
  let c2_i32_63 : BitVec 32 := 2#32
  let c0_i32_64 : BitVec 32 := 0#32
  let v70 : BitVec 32 := Scalar.select v69 c2_i32_63 c0_i32_64
  let v71 : BitVec 32 := Scalar.addi v68 v70
  let c7_i32_65 : BitVec 32 := 7#32
  let v72 : BitVec 1 := Scalar.cmpi .eq v2 c7_i32_65
  let c3_i32_66 : BitVec 32 := 3#32
  let c0_i32_67 : BitVec 32 := 0#32
  let v73 : BitVec 32 := Scalar.select v72 c3_i32_66 c0_i32_67
  let v74 : BitVec 32 := Scalar.addi v71 v73
  let c1_i32_459 : BitVec 32 := 1#32
  let v549 : BitVec 32 := Scalar.muli v74 c1_i32_459
  let v550 : BitVec 32 := Scalar.addi c0_i32_460 v549
  v550.toNat
def k0_dev13 (d0 : Dev nD) : Nat :=
  let c0_i32_478 : BitVec 32 := 0#32
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v5 : BitVec 32 := Scalar.addi c0_i32_2 v4
  let c1_i32_3 : BitVec 32 := 1#32
  let v6 : BitVec 1 := Scalar.cmpi .eq v2 c1_i32_3
  let c0_i32_4 : BitVec 32 := 0#32
  let c0_i32_5 : BitVec 32 := 0#32
  let v7 : BitVec 32 := Scalar.select v6 c0_i32_4 c0_i32_5
  let v8 : BitVec 32 := Scalar.addi v5 v7
  let c2_i32 : BitVec 32 := 2#32
  let v9 : BitVec 1 := Scalar.cmpi .eq v2 c2_i32
  let c3_i32 : BitVec 32 := 3#32
  let c0_i32_6 : BitVec 32 := 0#32
  let v10 : BitVec 32 := Scalar.select v9 c3_i32 c0_i32_6
  let v11 : BitVec 32 := Scalar.addi v8 v10
  let c3_i32_7 : BitVec 32 := 3#32
  let v12 : BitVec 1 := Scalar.cmpi .eq v2 c3_i32_7
  let c2_i32_8 : BitVec 32 := 2#32
  let c0_i32_9 : BitVec 32 := 0#32
  let v13 : BitVec 32 := Scalar.select v12 c2_i32_8 c0_i32_9
  let v14 : BitVec 32 := Scalar.addi v11 v13
  let c4_i32 : BitVec 32 := 4#32
  let v15 : BitVec 1 := Scalar.cmpi .eq v2 c4_i32
  let c5_i32 : BitVec 32 := 5#32
  let c0_i32_10 : BitVec 32 := 0#32
  let v16 : BitVec 32 := Scalar.select v15 c5_i32 c0_i32_10
  let v17 : BitVec 32 := Scalar.addi v14 v16
  let c5_i32_11 : BitVec 32 := 5#32
  let v18 : BitVec 1 := Scalar.cmpi .eq v2 c5_i32_11
  let c4_i32_12 : BitVec 32 := 4#32
  let c0_i32_13 : BitVec 32 := 0#32
  let v19 : BitVec 32 := Scalar.select v18 c4_i32_12 c0_i32_13
  let v20 : BitVec 32 := Scalar.addi v17 v19
  let c6_i32 : BitVec 32 := 6#32
  let v21 : BitVec 1 := Scalar.cmpi .eq v2 c6_i32
  let c7_i32 : BitVec 32 := 7#32
  let c0_i32_14 : BitVec 32 := 0#32
  let v22 : BitVec 32 := Scalar.select v21 c7_i32 c0_i32_14
  let v23 : BitVec 32 := Scalar.addi v20 v22
  let c7_i32_15 : BitVec 32 := 7#32
  let v24 : BitVec 1 := Scalar.cmpi .eq v2 c7_i32_15
  let c6_i32_16 : BitVec 32 := 6#32
  let c0_i32_17 : BitVec 32 := 0#32
  let v25 : BitVec 32 := Scalar.select v24 c6_i32_16 c0_i32_17
  let v26 : BitVec 32 := Scalar.addi v23 v25
  let c1_i32_477 : BitVec 32 := 1#32
  let v577 : BitVec 32 := Scalar.muli v26 c1_i32_477
  let v578 : BitVec 32 := Scalar.addi c0_i32_478 v577
  v578.toNat
def k0_off8 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c1_i32_481 : BitVec 32 := 1#32
  let v585 : BitVec 32 := Scalar.addi v98 c1_i32_481
  let c2_i32_488 : BitVec 32 := 2#32
  let c2_i32_482 : BitVec 32 := 2#32
  let c0_i32_483 : BitVec 32 := 0#32
  let v586 : BitVec 1 := Scalar.cmpi .eq c2_i32_482 c0_i32_483
  let c1_i32_484 : BitVec 32 := 1#32
  let v587 : BitVec 32 := Scalar.select v586 c1_i32_484 c2_i32_482
  let v588 : BitVec 32 := Scalar.remsi v98 v587
  let c0_i32_486 : BitVec 32 := 0#32
  let v590 : BitVec 1 := Scalar.cmpi .slt v588 c0_i32_486
  let c0_i32_487 : BitVec 32 := 0#32
  let v591 : BitVec 1 := Scalar.cmpi .slt v587 c0_i32_487
  let v592 : BitVec 1 := Scalar.xori v590 v591
  let c0_i32_485 : BitVec 32 := 0#32
  let v589 : BitVec 1 := Scalar.cmpi .ne v588 c0_i32_485
  let v593 : BitVec 1 := Scalar.andi v592 v589
  let v594 : BitVec 32 := Scalar.addi v588 v587
  let v595 : BitVec 32 := Scalar.select v593 v594 v588
  let v596 : BitVec 32 := Scalar.muli c2_i32_488 v595
  let v597 : BitVec 32 := Scalar.subi v585 v596
  let c1376_i32_516 : BitVec 32 := 1376#32
  let v623 : BitVec 32 := Scalar.muli v597 c1376_i32_516
  let v624 : Index := Scalar.indexCast v623
  let c0_517 : Index := 0#32
  ![v624.toNat, 0]
def k0_off9 (d0 : Dev nD) (c1_i32_73 : BitVec 32) (c3_i32_76 : BitVec 32) (c2_i32_79 : BitVec 32) (c4_i32_82 : BitVec 32) (c5_i32_85 : BitVec 32) (c6_i32_91 : BitVec 32) (c1_i32_494 : BitVec 32) (c3_i32_497 : BitVec 32) (c2_i32_500 : BitVec 32) (c4_i32_503 : BitVec 32) (c5_i32_506 : BitVec 32) (c7_i32_509 : BitVec 32) : Fin 2 → Nat :=
  let c0_520 : Index := 0#32
  let c0_i32_492 : BitVec 32 := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c0_i32_92 : BitVec 32 := 0#32
  let v97 : BitVec 32 := Scalar.select v96 c6_i32_91 c0_i32_92
  let v98 : BitVec 32 := Scalar.addi v95 v97
  let c1_i32_481 : BitVec 32 := 1#32
  let v585 : BitVec 32 := Scalar.addi v98 c1_i32_481
  let c2_i32_488 : BitVec 32 := 2#32
  let c2_i32_482 : BitVec 32 := 2#32
  let c0_i32_483 : BitVec 32 := 0#32
  let v586 : BitVec 1 := Scalar.cmpi .eq c2_i32_482 c0_i32_483
  let c1_i32_484 : BitVec 32 := 1#32
  let v587 : BitVec 32 := Scalar.select v586 c1_i32_484 c2_i32_482
  let v588 : BitVec 32 := Scalar.remsi v98 v587
  let c0_i32_486 : BitVec 32 := 0#32
  let v590 : BitVec 1 := Scalar.cmpi .slt v588 c0_i32_486
  let c0_i32_487 : BitVec 32 := 0#32
  let v591 : BitVec 1 := Scalar.cmpi .slt v587 c0_i32_487
  let v592 : BitVec 1 := Scalar.xori v590 v591
  let c0_i32_485 : BitVec 32 := 0#32
  let v589 : BitVec 1 := Scalar.cmpi .ne v588 c0_i32_485
  let v593 : BitVec 1 := Scalar.andi v592 v589
  let v594 : BitVec 32 := Scalar.addi v588 v587
  let v595 : BitVec 32 := Scalar.select v593 v594 v588
  let v596 : BitVec 32 := Scalar.muli c2_i32_488 v595
  let v597 : BitVec 32 := Scalar.subi v585 v596
  let c0_i32_489 : BitVec 32 := 0#32
  let v598 : BitVec 1 := Scalar.cmpi .eq v597 c0_i32_489
  let c0_i32_490 : BitVec 32 := 0#32
  let c0_i32_491 : BitVec 32 := 0#32
  let v599 : BitVec 32 := Scalar.select v598 c0_i32_490 c0_i32_491
  let v600 : BitVec 32 := Scalar.addi c0_i32_492 v599
  let c1_i32_493 : BitVec 32 := 1#32
  let v601 : BitVec 1 := Scalar.cmpi .eq v597 c1_i32_493
  let c0_i32_495 : BitVec 32 := 0#32
  let v602 : BitVec 32 := Scalar.select v601 c1_i32_494 c0_i32_495
  let v603 : BitVec 32 := Scalar.addi v600 v602
  let c2_i32_496 : BitVec 32 := 2#32
  let v604 : BitVec 1 := Scalar.cmpi .eq v597 c2_i32_496
  let c0_i32_498 : BitVec 32 := 0#32
  let v605 : BitVec 32 := Scalar.select v604 c3_i32_497 c0_i32_498
  let v606 : BitVec 32 := Scalar.addi v603 v605
  let c3_i32_499 : BitVec 32 := 3#32
  let v607 : BitVec 1 := Scalar.cmpi .eq v597 c3_i32_499
  let c0_i32_501 : BitVec 32 := 0#32
  let v608 : BitVec 32 := Scalar.select v607 c2_i32_500 c0_i32_501
  let v609 : BitVec 32 := Scalar.addi v606 v608
  let c4_i32_502 : BitVec 32 := 4#32
  let v610 : BitVec 1 := Scalar.cmpi .eq v597 c4_i32_502
  let c0_i32_504 : BitVec 32 := 0#32
  let v611 : BitVec 32 := Scalar.select v610 c4_i32_503 c0_i32_504
  let v612 : BitVec 32 := Scalar.addi v609 v611
  let c5_i32_505 : BitVec 32 := 5#32
  let v613 : BitVec 1 := Scalar.cmpi .eq v597 c5_i32_505
  let c0_i32_507 : BitVec 32 := 0#32
  let v614 : BitVec 32 := Scalar.select v613 c5_i32_506 c0_i32_507
  let v615 : BitVec 32 := Scalar.addi v612 v614
  let c6_i32_508 : BitVec 32 := 6#32
  let v616 : BitVec 1 := Scalar.cmpi .eq v597 c6_i32_508
  let c0_i32_510 : BitVec 32 := 0#32
  let v617 : BitVec 32 := Scalar.select v616 c7_i32_509 c0_i32_510
  let v618 : BitVec 32 := Scalar.addi v615 v617
  let c7_i32_511 : BitVec 32 := 7#32
  let v619 : BitVec 1 := Scalar.cmpi .eq v597 c7_i32_511
  let c6_i32_512 : BitVec 32 := 6#32
  let c0_i32_513 : BitVec 32 := 0#32
  let v620 : BitVec 32 := Scalar.select v619 c6_i32_512 c0_i32_513
  let v621 : BitVec 32 := Scalar.addi v618 v620
  let c256_i32_519 : BitVec 32 := 256#32
  let v627 : BitVec 32 := Scalar.muli v621 c256_i32_519
  let v628 : Index := Scalar.indexCast v627
  ![0, v628.toNat]
def k0_off9_at (r : Fin 3) : BitVec 32 × BitVec 32 × BitVec 32 × BitVec 32 × BitVec 32 × BitVec 32 × BitVec 32 × BitVec 32 × BitVec 32 × BitVec 32 × BitVec 32 × BitVec 32 :=
  if r.val < 1 then
    (1#32, 3#32, 2#32, 4#32, 5#32, 6#32, 1#32, 3#32, 2#32, 4#32, 5#32, 7#32)
  else
    if r.val < 2 then
      (4#32, 5#32, 1#32, 2#32, 6#32, 3#32, 3#32, 4#32, 7#32, 1#32, 2#32, 5#32)
    else
      (2#32, 6#32, 4#32, 1#32, 3#32, 5#32, 4#32, 1#32, 5#32, 3#32, 7#32, 2#32)
def k0_off10 (d0 : Dev nD) (c4_i32_98 : BitVec 32) (c5_i32_101 : BitVec 32) (c1_i32_104 : BitVec 32) (c2_i32_107 : BitVec 32) (c6_i32_110 : BitVec 32) (c3_i32_116 : BitVec 32) : Fin 2 → Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c1_i32_523 : BitVec 32 := 1#32
  let v636 : BitVec 32 := Scalar.addi v122 c1_i32_523
  let c2_i32_530 : BitVec 32 := 2#32
  let c2_i32_524 : BitVec 32 := 2#32
  let c0_i32_525 : BitVec 32 := 0#32
  let v637 : BitVec 1 := Scalar.cmpi .eq c2_i32_524 c0_i32_525
  let c1_i32_526 : BitVec 32 := 1#32
  let v638 : BitVec 32 := Scalar.select v637 c1_i32_526 c2_i32_524
  let v639 : BitVec 32 := Scalar.remsi v122 v638
  let c0_i32_528 : BitVec 32 := 0#32
  let v641 : BitVec 1 := Scalar.cmpi .slt v639 c0_i32_528
  let c0_i32_529 : BitVec 32 := 0#32
  let v642 : BitVec 1 := Scalar.cmpi .slt v638 c0_i32_529
  let v643 : BitVec 1 := Scalar.xori v641 v642
  let c0_i32_527 : BitVec 32 := 0#32
  let v640 : BitVec 1 := Scalar.cmpi .ne v639 c0_i32_527
  let v644 : BitVec 1 := Scalar.andi v643 v640
  let v645 : BitVec 32 := Scalar.addi v639 v638
  let v646 : BitVec 32 := Scalar.select v644 v645 v639
  let v647 : BitVec 32 := Scalar.muli c2_i32_530 v646
  let v648 : BitVec 32 := Scalar.subi v636 v647
  let c1360_i32_558 : BitVec 32 := 1360#32
  let v674 : BitVec 32 := Scalar.muli v648 c1360_i32_558
  let v675 : Index := Scalar.indexCast v674
  let c0_559 : Index := 0#32
  ![v675.toNat, 0]
def k0_off10_at (r : Fin 2) : BitVec 32 × BitVec 32 × BitVec 32 × BitVec 32 × BitVec 32 × BitVec 32 :=
  if r.val < 1 then
    (4#32, 5#32, 1#32, 2#32, 6#32, 3#32)
  else
    (2#32, 6#32, 4#32, 1#32, 3#32, 5#32)
def k0_off11 (d0 : Dev nD) (c0_i32_662 : BitVec 32) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c0_i32_653 : BitVec 32 := 0#32
  let v769 : BitVec 1 := Scalar.cmpi .sgt v98 c0_i32_653
  let v770 : BitVec 32 := Scalar.extui v769
  let c0_i32_654 : BitVec 32 := 0#32
  let v771 : BitVec 1 := Scalar.cmpi .slt v98 c0_i32_654
  let v772 : BitVec 32 := Scalar.extui v771
  let v773 : BitVec 32 := Scalar.subi v770 v772
  let c4_i32_652 : BitVec 32 := 4#32
  let c0_i32_655 : BitVec 32 := 0#32
  let v774 : BitVec 1 := Scalar.cmpi .sgt c4_i32_652 c0_i32_655
  let v775 : BitVec 32 := Scalar.extui v774
  let c0_i32_656 : BitVec 32 := 0#32
  let v776 : BitVec 1 := Scalar.cmpi .slt c4_i32_652 c0_i32_656
  let v777 : BitVec 32 := Scalar.extui v776
  let v778 : BitVec 32 := Scalar.subi v775 v777
  let v779 : BitVec 1 := Scalar.cmpi .ne v773 v778
  let v780 : BitVec 32 := Scalar.remsi v98 c4_i32_652
  let c0_i32_657 : BitVec 32 := 0#32
  let v781 : BitVec 1 := Scalar.cmpi .ne v780 c0_i32_657
  let v782 : BitVec 1 := Scalar.andi v779 v781
  let v768 : BitVec 32 := Scalar.divsi v98 c4_i32_652
  let c1_i32_658 : BitVec 32 := 1#32
  let v783 : BitVec 32 := Scalar.subi v768 c1_i32_658
  let v784 : BitVec 32 := Scalar.select v782 v783 v768
  let c4_i32_659 : BitVec 32 := 4#32
  let v785 : BitVec 32 := Scalar.muli v784 c4_i32_659
  let v788 : BitVec 32 := Scalar.addi v785 c0_i32_662
  let c1376_i32_663 : BitVec 32 := 1376#32
  let v789 : BitVec 32 := Scalar.muli v788 c1376_i32_663
  let c0_i32_670 : BitVec 32 := 0#32
  ![v789.toNat, 0]
def k0_dev14 (d0 : Dev nD) : Nat :=
  let c0_i32_669 : BitVec 32 := 0#32
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let v51 : BitVec 1 := Scalar.cmpi .eq v2 c0_i32_43
  let c4_i32_44 : BitVec 32 := 4#32
  let c0_i32_45 : BitVec 32 := 0#32
  let v52 : BitVec 32 := Scalar.select v51 c4_i32_44 c0_i32_45
  let v53 : BitVec 32 := Scalar.addi c0_i32_46 v52
  let c1_i32_47 : BitVec 32 := 1#32
  let v54 : BitVec 1 := Scalar.cmpi .eq v2 c1_i32_47
  let c5_i32_48 : BitVec 32 := 5#32
  let c0_i32_49 : BitVec 32 := 0#32
  let v55 : BitVec 32 := Scalar.select v54 c5_i32_48 c0_i32_49
  let v56 : BitVec 32 := Scalar.addi v53 v55
  let c2_i32_50 : BitVec 32 := 2#32
  let v57 : BitVec 1 := Scalar.cmpi .eq v2 c2_i32_50
  let c6_i32_51 : BitVec 32 := 6#32
  let c0_i32_52 : BitVec 32 := 0#32
  let v58 : BitVec 32 := Scalar.select v57 c6_i32_51 c0_i32_52
  let v59 : BitVec 32 := Scalar.addi v56 v58
  let c3_i32_53 : BitVec 32 := 3#32
  let v60 : BitVec 1 := Scalar.cmpi .eq v2 c3_i32_53
  let c7_i32_54 : BitVec 32 := 7#32
  let c0_i32_55 : BitVec 32 := 0#32
  let v61 : BitVec 32 := Scalar.select v60 c7_i32_54 c0_i32_55
  let v62 : BitVec 32 := Scalar.addi v59 v61
  let c4_i32_56 : BitVec 32 := 4#32
  let v63 : BitVec 1 := Scalar.cmpi .eq v2 c4_i32_56
  let c0_i32_57 : BitVec 32 := 0#32
  let c0_i32_58 : BitVec 32 := 0#32
  let v64 : BitVec 32 := Scalar.select v63 c0_i32_57 c0_i32_58
  let v65 : BitVec 32 := Scalar.addi v62 v64
  let c5_i32_59 : BitVec 32 := 5#32
  let v66 : BitVec 1 := Scalar.cmpi .eq v2 c5_i32_59
  let c1_i32_60 : BitVec 32 := 1#32
  let c0_i32_61 : BitVec 32 := 0#32
  let v67 : BitVec 32 := Scalar.select v66 c1_i32_60 c0_i32_61
  let v68 : BitVec 32 := Scalar.addi v65 v67
  let c6_i32_62 : BitVec 32 := 6#32
  let v69 : BitVec 1 := Scalar.cmpi .eq v2 c6_i32_62
  let c2_i32_63 : BitVec 32 := 2#32
  let c0_i32_64 : BitVec 32 := 0#32
  let v70 : BitVec 32 := Scalar.select v69 c2_i32_63 c0_i32_64
  let v71 : BitVec 32 := Scalar.addi v68 v70
  let c7_i32_65 : BitVec 32 := 7#32
  let v72 : BitVec 1 := Scalar.cmpi .eq v2 c7_i32_65
  let c3_i32_66 : BitVec 32 := 3#32
  let c0_i32_67 : BitVec 32 := 0#32
  let v73 : BitVec 32 := Scalar.select v72 c3_i32_66 c0_i32_67
  let v74 : BitVec 32 := Scalar.addi v71 v73
  let c1_i32_668 : BitVec 32 := 1#32
  let v790 : BitVec 32 := Scalar.muli v74 c1_i32_668
  let v791 : BitVec 32 := Scalar.addi c0_i32_669 v790
  v791.toNat
def k0_dev15 (d0 : Dev nD) : Nat :=
  let c0_i32_681 : BitVec 32 := 0#32
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let v51 : BitVec 1 := Scalar.cmpi .eq v2 c0_i32_43
  let c4_i32_44 : BitVec 32 := 4#32
  let c0_i32_45 : BitVec 32 := 0#32
  let v52 : BitVec 32 := Scalar.select v51 c4_i32_44 c0_i32_45
  let v53 : BitVec 32 := Scalar.addi c0_i32_46 v52
  let c1_i32_47 : BitVec 32 := 1#32
  let v54 : BitVec 1 := Scalar.cmpi .eq v2 c1_i32_47
  let c5_i32_48 : BitVec 32 := 5#32
  let c0_i32_49 : BitVec 32 := 0#32
  let v55 : BitVec 32 := Scalar.select v54 c5_i32_48 c0_i32_49
  let v56 : BitVec 32 := Scalar.addi v53 v55
  let c2_i32_50 : BitVec 32 := 2#32
  let v57 : BitVec 1 := Scalar.cmpi .eq v2 c2_i32_50
  let c6_i32_51 : BitVec 32 := 6#32
  let c0_i32_52 : BitVec 32 := 0#32
  let v58 : BitVec 32 := Scalar.select v57 c6_i32_51 c0_i32_52
  let v59 : BitVec 32 := Scalar.addi v56 v58
  let c3_i32_53 : BitVec 32 := 3#32
  let v60 : BitVec 1 := Scalar.cmpi .eq v2 c3_i32_53
  let c7_i32_54 : BitVec 32 := 7#32
  let c0_i32_55 : BitVec 32 := 0#32
  let v61 : BitVec 32 := Scalar.select v60 c7_i32_54 c0_i32_55
  let v62 : BitVec 32 := Scalar.addi v59 v61
  let c4_i32_56 : BitVec 32 := 4#32
  let v63 : BitVec 1 := Scalar.cmpi .eq v2 c4_i32_56
  let c0_i32_57 : BitVec 32 := 0#32
  let c0_i32_58 : BitVec 32 := 0#32
  let v64 : BitVec 32 := Scalar.select v63 c0_i32_57 c0_i32_58
  let v65 : BitVec 32 := Scalar.addi v62 v64
  let c5_i32_59 : BitVec 32 := 5#32
  let v66 : BitVec 1 := Scalar.cmpi .eq v2 c5_i32_59
  let c1_i32_60 : BitVec 32 := 1#32
  let c0_i32_61 : BitVec 32 := 0#32
  let v67 : BitVec 32 := Scalar.select v66 c1_i32_60 c0_i32_61
  let v68 : BitVec 32 := Scalar.addi v65 v67
  let c6_i32_62 : BitVec 32 := 6#32
  let v69 : BitVec 1 := Scalar.cmpi .eq v2 c6_i32_62
  let c2_i32_63 : BitVec 32 := 2#32
  let c0_i32_64 : BitVec 32 := 0#32
  let v70 : BitVec 32 := Scalar.select v69 c2_i32_63 c0_i32_64
  let v71 : BitVec 32 := Scalar.addi v68 v70
  let c7_i32_65 : BitVec 32 := 7#32
  let v72 : BitVec 1 := Scalar.cmpi .eq v2 c7_i32_65
  let c3_i32_66 : BitVec 32 := 3#32
  let c0_i32_67 : BitVec 32 := 0#32
  let v73 : BitVec 32 := Scalar.select v72 c3_i32_66 c0_i32_67
  let v74 : BitVec 32 := Scalar.addi v71 v73
  let c1_i32_680 : BitVec 32 := 1#32
  let v802 : BitVec 32 := Scalar.muli v74 c1_i32_680
  let v803 : BitVec 32 := Scalar.addi c0_i32_681 v802
  v803.toNat
def k0_dev16 (d0 : Dev nD) : Nat :=
  let c0_i32_693 : BitVec 32 := 0#32
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let v51 : BitVec 1 := Scalar.cmpi .eq v2 c0_i32_43
  let c4_i32_44 : BitVec 32 := 4#32
  let c0_i32_45 : BitVec 32 := 0#32
  let v52 : BitVec 32 := Scalar.select v51 c4_i32_44 c0_i32_45
  let v53 : BitVec 32 := Scalar.addi c0_i32_46 v52
  let c1_i32_47 : BitVec 32 := 1#32
  let v54 : BitVec 1 := Scalar.cmpi .eq v2 c1_i32_47
  let c5_i32_48 : BitVec 32 := 5#32
  let c0_i32_49 : BitVec 32 := 0#32
  let v55 : BitVec 32 := Scalar.select v54 c5_i32_48 c0_i32_49
  let v56 : BitVec 32 := Scalar.addi v53 v55
  let c2_i32_50 : BitVec 32 := 2#32
  let v57 : BitVec 1 := Scalar.cmpi .eq v2 c2_i32_50
  let c6_i32_51 : BitVec 32 := 6#32
  let c0_i32_52 : BitVec 32 := 0#32
  let v58 : BitVec 32 := Scalar.select v57 c6_i32_51 c0_i32_52
  let v59 : BitVec 32 := Scalar.addi v56 v58
  let c3_i32_53 : BitVec 32 := 3#32
  let v60 : BitVec 1 := Scalar.cmpi .eq v2 c3_i32_53
  let c7_i32_54 : BitVec 32 := 7#32
  let c0_i32_55 : BitVec 32 := 0#32
  let v61 : BitVec 32 := Scalar.select v60 c7_i32_54 c0_i32_55
  let v62 : BitVec 32 := Scalar.addi v59 v61
  let c4_i32_56 : BitVec 32 := 4#32
  let v63 : BitVec 1 := Scalar.cmpi .eq v2 c4_i32_56
  let c0_i32_57 : BitVec 32 := 0#32
  let c0_i32_58 : BitVec 32 := 0#32
  let v64 : BitVec 32 := Scalar.select v63 c0_i32_57 c0_i32_58
  let v65 : BitVec 32 := Scalar.addi v62 v64
  let c5_i32_59 : BitVec 32 := 5#32
  let v66 : BitVec 1 := Scalar.cmpi .eq v2 c5_i32_59
  let c1_i32_60 : BitVec 32 := 1#32
  let c0_i32_61 : BitVec 32 := 0#32
  let v67 : BitVec 32 := Scalar.select v66 c1_i32_60 c0_i32_61
  let v68 : BitVec 32 := Scalar.addi v65 v67
  let c6_i32_62 : BitVec 32 := 6#32
  let v69 : BitVec 1 := Scalar.cmpi .eq v2 c6_i32_62
  let c2_i32_63 : BitVec 32 := 2#32
  let c0_i32_64 : BitVec 32 := 0#32
  let v70 : BitVec 32 := Scalar.select v69 c2_i32_63 c0_i32_64
  let v71 : BitVec 32 := Scalar.addi v68 v70
  let c7_i32_65 : BitVec 32 := 7#32
  let v72 : BitVec 1 := Scalar.cmpi .eq v2 c7_i32_65
  let c3_i32_66 : BitVec 32 := 3#32
  let c0_i32_67 : BitVec 32 := 0#32
  let v73 : BitVec 32 := Scalar.select v72 c3_i32_66 c0_i32_67
  let v74 : BitVec 32 := Scalar.addi v71 v73
  let c1_i32_692 : BitVec 32 := 1#32
  let v814 : BitVec 32 := Scalar.muli v74 c1_i32_692
  let v815 : BitVec 32 := Scalar.addi c0_i32_693 v814
  v815.toNat
def k0_dev17 (d0 : Dev nD) : Nat :=
  let c0_i32_705 : BitVec 32 := 0#32
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let v51 : BitVec 1 := Scalar.cmpi .eq v2 c0_i32_43
  let c4_i32_44 : BitVec 32 := 4#32
  let c0_i32_45 : BitVec 32 := 0#32
  let v52 : BitVec 32 := Scalar.select v51 c4_i32_44 c0_i32_45
  let v53 : BitVec 32 := Scalar.addi c0_i32_46 v52
  let c1_i32_47 : BitVec 32 := 1#32
  let v54 : BitVec 1 := Scalar.cmpi .eq v2 c1_i32_47
  let c5_i32_48 : BitVec 32 := 5#32
  let c0_i32_49 : BitVec 32 := 0#32
  let v55 : BitVec 32 := Scalar.select v54 c5_i32_48 c0_i32_49
  let v56 : BitVec 32 := Scalar.addi v53 v55
  let c2_i32_50 : BitVec 32 := 2#32
  let v57 : BitVec 1 := Scalar.cmpi .eq v2 c2_i32_50
  let c6_i32_51 : BitVec 32 := 6#32
  let c0_i32_52 : BitVec 32 := 0#32
  let v58 : BitVec 32 := Scalar.select v57 c6_i32_51 c0_i32_52
  let v59 : BitVec 32 := Scalar.addi v56 v58
  let c3_i32_53 : BitVec 32 := 3#32
  let v60 : BitVec 1 := Scalar.cmpi .eq v2 c3_i32_53
  let c7_i32_54 : BitVec 32 := 7#32
  let c0_i32_55 : BitVec 32 := 0#32
  let v61 : BitVec 32 := Scalar.select v60 c7_i32_54 c0_i32_55
  let v62 : BitVec 32 := Scalar.addi v59 v61
  let c4_i32_56 : BitVec 32 := 4#32
  let v63 : BitVec 1 := Scalar.cmpi .eq v2 c4_i32_56
  let c0_i32_57 : BitVec 32 := 0#32
  let c0_i32_58 : BitVec 32 := 0#32
  let v64 : BitVec 32 := Scalar.select v63 c0_i32_57 c0_i32_58
  let v65 : BitVec 32 := Scalar.addi v62 v64
  let c5_i32_59 : BitVec 32 := 5#32
  let v66 : BitVec 1 := Scalar.cmpi .eq v2 c5_i32_59
  let c1_i32_60 : BitVec 32 := 1#32
  let c0_i32_61 : BitVec 32 := 0#32
  let v67 : BitVec 32 := Scalar.select v66 c1_i32_60 c0_i32_61
  let v68 : BitVec 32 := Scalar.addi v65 v67
  let c6_i32_62 : BitVec 32 := 6#32
  let v69 : BitVec 1 := Scalar.cmpi .eq v2 c6_i32_62
  let c2_i32_63 : BitVec 32 := 2#32
  let c0_i32_64 : BitVec 32 := 0#32
  let v70 : BitVec 32 := Scalar.select v69 c2_i32_63 c0_i32_64
  let v71 : BitVec 32 := Scalar.addi v68 v70
  let c7_i32_65 : BitVec 32 := 7#32
  let v72 : BitVec 1 := Scalar.cmpi .eq v2 c7_i32_65
  let c3_i32_66 : BitVec 32 := 3#32
  let c0_i32_67 : BitVec 32 := 0#32
  let v73 : BitVec 32 := Scalar.select v72 c3_i32_66 c0_i32_67
  let v74 : BitVec 32 := Scalar.addi v71 v73
  let c1_i32_704 : BitVec 32 := 1#32
  let v826 : BitVec 32 := Scalar.muli v74 c1_i32_704
  let v827 : BitVec 32 := Scalar.addi c0_i32_705 v826
  v827.toNat
def k0_off12 (d0 : Dev nD) (c4_i32_98 : BitVec 32) (c5_i32_101 : BitVec 32) (c1_i32_104 : BitVec 32) (c2_i32_107 : BitVec 32) (c6_i32_110 : BitVec 32) (c3_i32_116 : BitVec 32) (c0_i32_718 : BitVec 32) : Fin 2 → Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c0_i32_709 : BitVec 32 := 0#32
  let v835 : BitVec 1 := Scalar.cmpi .sgt v122 c0_i32_709
  let v836 : BitVec 32 := Scalar.extui v835
  let c0_i32_710 : BitVec 32 := 0#32
  let v837 : BitVec 1 := Scalar.cmpi .slt v122 c0_i32_710
  let v838 : BitVec 32 := Scalar.extui v837
  let v839 : BitVec 32 := Scalar.subi v836 v838
  let c4_i32_708 : BitVec 32 := 4#32
  let c0_i32_711 : BitVec 32 := 0#32
  let v840 : BitVec 1 := Scalar.cmpi .sgt c4_i32_708 c0_i32_711
  let v841 : BitVec 32 := Scalar.extui v840
  let c0_i32_712 : BitVec 32 := 0#32
  let v842 : BitVec 1 := Scalar.cmpi .slt c4_i32_708 c0_i32_712
  let v843 : BitVec 32 := Scalar.extui v842
  let v844 : BitVec 32 := Scalar.subi v841 v843
  let v845 : BitVec 1 := Scalar.cmpi .ne v839 v844
  let v846 : BitVec 32 := Scalar.remsi v122 c4_i32_708
  let c0_i32_713 : BitVec 32 := 0#32
  let v847 : BitVec 1 := Scalar.cmpi .ne v846 c0_i32_713
  let v848 : BitVec 1 := Scalar.andi v845 v847
  let v834 : BitVec 32 := Scalar.divsi v122 c4_i32_708
  let c1_i32_714 : BitVec 32 := 1#32
  let v849 : BitVec 32 := Scalar.subi v834 c1_i32_714
  let v850 : BitVec 32 := Scalar.select v848 v849 v834
  let c4_i32_715 : BitVec 32 := 4#32
  let v851 : BitVec 32 := Scalar.muli v850 c4_i32_715
  let v854 : BitVec 32 := Scalar.addi v851 c0_i32_718
  let c1360_i32_719 : BitVec 32 := 1360#32
  let v855 : BitVec 32 := Scalar.muli v854 c1360_i32_719
  let c0_i32_726 : BitVec 32 := 0#32
  ![v855.toNat, 0]
def k0_off12_at (r : Fin 8) : BitVec 32 × BitVec 32 × BitVec 32 × BitVec 32 × BitVec 32 × BitVec 32 × BitVec 32 :=
  if r.val < 4 then
    if r.val < 2 then
      if r.val < 1 then
        (4#32, 5#32, 1#32, 2#32, 6#32, 3#32, 0#32)
      else
        (4#32, 5#32, 1#32, 2#32, 6#32, 3#32, 1#32)
    else
      if r.val < 3 then
        (4#32, 5#32, 1#32, 2#32, 6#32, 3#32, 2#32)
      else
        (4#32, 5#32, 1#32, 2#32, 6#32, 3#32, 3#32)
  else
    if r.val < 6 then
      if r.val < 5 then
        (2#32, 6#32, 4#32, 1#32, 3#32, 5#32, 0#32)
      else
        (2#32, 6#32, 4#32, 1#32, 3#32, 5#32, 1#32)
    else
      if r.val < 7 then
        (2#32, 6#32, 4#32, 1#32, 3#32, 5#32, 2#32)
      else
        (2#32, 6#32, 4#32, 1#32, 3#32, 5#32, 3#32)
def k0_dev18 (d0 : Dev nD) : Nat :=
  let c0_i32_725 : BitVec 32 := 0#32
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v5 : BitVec 32 := Scalar.addi c0_i32_2 v4
  let c1_i32_3 : BitVec 32 := 1#32
  let v6 : BitVec 1 := Scalar.cmpi .eq v2 c1_i32_3
  let c0_i32_4 : BitVec 32 := 0#32
  let c0_i32_5 : BitVec 32 := 0#32
  let v7 : BitVec 32 := Scalar.select v6 c0_i32_4 c0_i32_5
  let v8 : BitVec 32 := Scalar.addi v5 v7
  let c2_i32 : BitVec 32 := 2#32
  let v9 : BitVec 1 := Scalar.cmpi .eq v2 c2_i32
  let c3_i32 : BitVec 32 := 3#32
  let c0_i32_6 : BitVec 32 := 0#32
  let v10 : BitVec 32 := Scalar.select v9 c3_i32 c0_i32_6
  let v11 : BitVec 32 := Scalar.addi v8 v10
  let c3_i32_7 : BitVec 32 := 3#32
  let v12 : BitVec 1 := Scalar.cmpi .eq v2 c3_i32_7
  let c2_i32_8 : BitVec 32 := 2#32
  let c0_i32_9 : BitVec 32 := 0#32
  let v13 : BitVec 32 := Scalar.select v12 c2_i32_8 c0_i32_9
  let v14 : BitVec 32 := Scalar.addi v11 v13
  let c4_i32 : BitVec 32 := 4#32
  let v15 : BitVec 1 := Scalar.cmpi .eq v2 c4_i32
  let c5_i32 : BitVec 32 := 5#32
  let c0_i32_10 : BitVec 32 := 0#32
  let v16 : BitVec 32 := Scalar.select v15 c5_i32 c0_i32_10
  let v17 : BitVec 32 := Scalar.addi v14 v16
  let c5_i32_11 : BitVec 32 := 5#32
  let v18 : BitVec 1 := Scalar.cmpi .eq v2 c5_i32_11
  let c4_i32_12 : BitVec 32 := 4#32
  let c0_i32_13 : BitVec 32 := 0#32
  let v19 : BitVec 32 := Scalar.select v18 c4_i32_12 c0_i32_13
  let v20 : BitVec 32 := Scalar.addi v17 v19
  let c6_i32 : BitVec 32 := 6#32
  let v21 : BitVec 1 := Scalar.cmpi .eq v2 c6_i32
  let c7_i32 : BitVec 32 := 7#32
  let c0_i32_14 : BitVec 32 := 0#32
  let v22 : BitVec 32 := Scalar.select v21 c7_i32 c0_i32_14
  let v23 : BitVec 32 := Scalar.addi v20 v22
  let c7_i32_15 : BitVec 32 := 7#32
  let v24 : BitVec 1 := Scalar.cmpi .eq v2 c7_i32_15
  let c6_i32_16 : BitVec 32 := 6#32
  let c0_i32_17 : BitVec 32 := 0#32
  let v25 : BitVec 32 := Scalar.select v24 c6_i32_16 c0_i32_17
  let v26 : BitVec 32 := Scalar.addi v23 v25
  let c1_i32_724 : BitVec 32 := 1#32
  let v856 : BitVec 32 := Scalar.muli v26 c1_i32_724
  let v857 : BitVec 32 := Scalar.addi c0_i32_725 v856
  v857.toNat
def k0_dev19 (d0 : Dev nD) : Nat :=
  let c0_i32_737 : BitVec 32 := 0#32
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v5 : BitVec 32 := Scalar.addi c0_i32_2 v4
  let c1_i32_3 : BitVec 32 := 1#32
  let v6 : BitVec 1 := Scalar.cmpi .eq v2 c1_i32_3
  let c0_i32_4 : BitVec 32 := 0#32
  let c0_i32_5 : BitVec 32 := 0#32
  let v7 : BitVec 32 := Scalar.select v6 c0_i32_4 c0_i32_5
  let v8 : BitVec 32 := Scalar.addi v5 v7
  let c2_i32 : BitVec 32 := 2#32
  let v9 : BitVec 1 := Scalar.cmpi .eq v2 c2_i32
  let c3_i32 : BitVec 32 := 3#32
  let c0_i32_6 : BitVec 32 := 0#32
  let v10 : BitVec 32 := Scalar.select v9 c3_i32 c0_i32_6
  let v11 : BitVec 32 := Scalar.addi v8 v10
  let c3_i32_7 : BitVec 32 := 3#32
  let v12 : BitVec 1 := Scalar.cmpi .eq v2 c3_i32_7
  let c2_i32_8 : BitVec 32 := 2#32
  let c0_i32_9 : BitVec 32 := 0#32
  let v13 : BitVec 32 := Scalar.select v12 c2_i32_8 c0_i32_9
  let v14 : BitVec 32 := Scalar.addi v11 v13
  let c4_i32 : BitVec 32 := 4#32
  let v15 : BitVec 1 := Scalar.cmpi .eq v2 c4_i32
  let c5_i32 : BitVec 32 := 5#32
  let c0_i32_10 : BitVec 32 := 0#32
  let v16 : BitVec 32 := Scalar.select v15 c5_i32 c0_i32_10
  let v17 : BitVec 32 := Scalar.addi v14 v16
  let c5_i32_11 : BitVec 32 := 5#32
  let v18 : BitVec 1 := Scalar.cmpi .eq v2 c5_i32_11
  let c4_i32_12 : BitVec 32 := 4#32
  let c0_i32_13 : BitVec 32 := 0#32
  let v19 : BitVec 32 := Scalar.select v18 c4_i32_12 c0_i32_13
  let v20 : BitVec 32 := Scalar.addi v17 v19
  let c6_i32 : BitVec 32 := 6#32
  let v21 : BitVec 1 := Scalar.cmpi .eq v2 c6_i32
  let c7_i32 : BitVec 32 := 7#32
  let c0_i32_14 : BitVec 32 := 0#32
  let v22 : BitVec 32 := Scalar.select v21 c7_i32 c0_i32_14
  let v23 : BitVec 32 := Scalar.addi v20 v22
  let c7_i32_15 : BitVec 32 := 7#32
  let v24 : BitVec 1 := Scalar.cmpi .eq v2 c7_i32_15
  let c6_i32_16 : BitVec 32 := 6#32
  let c0_i32_17 : BitVec 32 := 0#32
  let v25 : BitVec 32 := Scalar.select v24 c6_i32_16 c0_i32_17
  let v26 : BitVec 32 := Scalar.addi v23 v25
  let c1_i32_736 : BitVec 32 := 1#32
  let v868 : BitVec 32 := Scalar.muli v26 c1_i32_736
  let v869 : BitVec 32 := Scalar.addi c0_i32_737 v868
  v869.toNat
def k0_dev20 (d0 : Dev nD) : Nat :=
  let c0_i32_749 : BitVec 32 := 0#32
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v5 : BitVec 32 := Scalar.addi c0_i32_2 v4
  let c1_i32_3 : BitVec 32 := 1#32
  let v6 : BitVec 1 := Scalar.cmpi .eq v2 c1_i32_3
  let c0_i32_4 : BitVec 32 := 0#32
  let c0_i32_5 : BitVec 32 := 0#32
  let v7 : BitVec 32 := Scalar.select v6 c0_i32_4 c0_i32_5
  let v8 : BitVec 32 := Scalar.addi v5 v7
  let c2_i32 : BitVec 32 := 2#32
  let v9 : BitVec 1 := Scalar.cmpi .eq v2 c2_i32
  let c3_i32 : BitVec 32 := 3#32
  let c0_i32_6 : BitVec 32 := 0#32
  let v10 : BitVec 32 := Scalar.select v9 c3_i32 c0_i32_6
  let v11 : BitVec 32 := Scalar.addi v8 v10
  let c3_i32_7 : BitVec 32 := 3#32
  let v12 : BitVec 1 := Scalar.cmpi .eq v2 c3_i32_7
  let c2_i32_8 : BitVec 32 := 2#32
  let c0_i32_9 : BitVec 32 := 0#32
  let v13 : BitVec 32 := Scalar.select v12 c2_i32_8 c0_i32_9
  let v14 : BitVec 32 := Scalar.addi v11 v13
  let c4_i32 : BitVec 32 := 4#32
  let v15 : BitVec 1 := Scalar.cmpi .eq v2 c4_i32
  let c5_i32 : BitVec 32 := 5#32
  let c0_i32_10 : BitVec 32 := 0#32
  let v16 : BitVec 32 := Scalar.select v15 c5_i32 c0_i32_10
  let v17 : BitVec 32 := Scalar.addi v14 v16
  let c5_i32_11 : BitVec 32 := 5#32
  let v18 : BitVec 1 := Scalar.cmpi .eq v2 c5_i32_11
  let c4_i32_12 : BitVec 32 := 4#32
  let c0_i32_13 : BitVec 32 := 0#32
  let v19 : BitVec 32 := Scalar.select v18 c4_i32_12 c0_i32_13
  let v20 : BitVec 32 := Scalar.addi v17 v19
  let c6_i32 : BitVec 32 := 6#32
  let v21 : BitVec 1 := Scalar.cmpi .eq v2 c6_i32
  let c7_i32 : BitVec 32 := 7#32
  let c0_i32_14 : BitVec 32 := 0#32
  let v22 : BitVec 32 := Scalar.select v21 c7_i32 c0_i32_14
  let v23 : BitVec 32 := Scalar.addi v20 v22
  let c7_i32_15 : BitVec 32 := 7#32
  let v24 : BitVec 1 := Scalar.cmpi .eq v2 c7_i32_15
  let c6_i32_16 : BitVec 32 := 6#32
  let c0_i32_17 : BitVec 32 := 0#32
  let v25 : BitVec 32 := Scalar.select v24 c6_i32_16 c0_i32_17
  let v26 : BitVec 32 := Scalar.addi v23 v25
  let c1_i32_748 : BitVec 32 := 1#32
  let v880 : BitVec 32 := Scalar.muli v26 c1_i32_748
  let v881 : BitVec 32 := Scalar.addi c0_i32_749 v880
  v881.toNat
def k0_dev21 (d0 : Dev nD) : Nat :=
  let c0_i32_761 : BitVec 32 := 0#32
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 1 := Scalar.cmpi .eq v2 c0_i32
  let c1_i32_0 : BitVec 32 := 1#32
  let c0_i32_1 : BitVec 32 := 0#32
  let v4 : BitVec 32 := Scalar.select v3 c1_i32_0 c0_i32_1
  let v5 : BitVec 32 := Scalar.addi c0_i32_2 v4
  let c1_i32_3 : BitVec 32 := 1#32
  let v6 : BitVec 1 := Scalar.cmpi .eq v2 c1_i32_3
  let c0_i32_4 : BitVec 32 := 0#32
  let c0_i32_5 : BitVec 32 := 0#32
  let v7 : BitVec 32 := Scalar.select v6 c0_i32_4 c0_i32_5
  let v8 : BitVec 32 := Scalar.addi v5 v7
  let c2_i32 : BitVec 32 := 2#32
  let v9 : BitVec 1 := Scalar.cmpi .eq v2 c2_i32
  let c3_i32 : BitVec 32 := 3#32
  let c0_i32_6 : BitVec 32 := 0#32
  let v10 : BitVec 32 := Scalar.select v9 c3_i32 c0_i32_6
  let v11 : BitVec 32 := Scalar.addi v8 v10
  let c3_i32_7 : BitVec 32 := 3#32
  let v12 : BitVec 1 := Scalar.cmpi .eq v2 c3_i32_7
  let c2_i32_8 : BitVec 32 := 2#32
  let c0_i32_9 : BitVec 32 := 0#32
  let v13 : BitVec 32 := Scalar.select v12 c2_i32_8 c0_i32_9
  let v14 : BitVec 32 := Scalar.addi v11 v13
  let c4_i32 : BitVec 32 := 4#32
  let v15 : BitVec 1 := Scalar.cmpi .eq v2 c4_i32
  let c5_i32 : BitVec 32 := 5#32
  let c0_i32_10 : BitVec 32 := 0#32
  let v16 : BitVec 32 := Scalar.select v15 c5_i32 c0_i32_10
  let v17 : BitVec 32 := Scalar.addi v14 v16
  let c5_i32_11 : BitVec 32 := 5#32
  let v18 : BitVec 1 := Scalar.cmpi .eq v2 c5_i32_11
  let c4_i32_12 : BitVec 32 := 4#32
  let c0_i32_13 : BitVec 32 := 0#32
  let v19 : BitVec 32 := Scalar.select v18 c4_i32_12 c0_i32_13
  let v20 : BitVec 32 := Scalar.addi v17 v19
  let c6_i32 : BitVec 32 := 6#32
  let v21 : BitVec 1 := Scalar.cmpi .eq v2 c6_i32
  let c7_i32 : BitVec 32 := 7#32
  let c0_i32_14 : BitVec 32 := 0#32
  let v22 : BitVec 32 := Scalar.select v21 c7_i32 c0_i32_14
  let v23 : BitVec 32 := Scalar.addi v20 v22
  let c7_i32_15 : BitVec 32 := 7#32
  let v24 : BitVec 1 := Scalar.cmpi .eq v2 c7_i32_15
  let c6_i32_16 : BitVec 32 := 6#32
  let c0_i32_17 : BitVec 32 := 0#32
  let v25 : BitVec 32 := Scalar.select v24 c6_i32_16 c0_i32_17
  let v26 : BitVec 32 := Scalar.addi v23 v25
  let c1_i32_760 : BitVec 32 := 1#32
  let v892 : BitVec 32 := Scalar.muli v26 c1_i32_760
  let v893 : BitVec 32 := Scalar.addi c0_i32_761 v892
  v893.toNat
def k0_dev22 (d0 : Dev nD) : Nat :=
  let c0_i32_781 : BitVec 32 := 0#32
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v27 : BitVec 1 := Scalar.cmpi .eq v2 c0_i32_18
  let c3_i32_19 : BitVec 32 := 3#32
  let c0_i32_20 : BitVec 32 := 0#32
  let v28 : BitVec 32 := Scalar.select v27 c3_i32_19 c0_i32_20
  let v29 : BitVec 32 := Scalar.addi c0_i32_21 v28
  let c1_i32_22 : BitVec 32 := 1#32
  let v30 : BitVec 1 := Scalar.cmpi .eq v2 c1_i32_22
  let c2_i32_23 : BitVec 32 := 2#32
  let c0_i32_24 : BitVec 32 := 0#32
  let v31 : BitVec 32 := Scalar.select v30 c2_i32_23 c0_i32_24
  let v32 : BitVec 32 := Scalar.addi v29 v31
  let c2_i32_25 : BitVec 32 := 2#32
  let v33 : BitVec 1 := Scalar.cmpi .eq v2 c2_i32_25
  let c1_i32_26 : BitVec 32 := 1#32
  let c0_i32_27 : BitVec 32 := 0#32
  let v34 : BitVec 32 := Scalar.select v33 c1_i32_26 c0_i32_27
  let v35 : BitVec 32 := Scalar.addi v32 v34
  let c3_i32_28 : BitVec 32 := 3#32
  let v36 : BitVec 1 := Scalar.cmpi .eq v2 c3_i32_28
  let c0_i32_29 : BitVec 32 := 0#32
  let c0_i32_30 : BitVec 32 := 0#32
  let v37 : BitVec 32 := Scalar.select v36 c0_i32_29 c0_i32_30
  let v38 : BitVec 32 := Scalar.addi v35 v37
  let c4_i32_31 : BitVec 32 := 4#32
  let v39 : BitVec 1 := Scalar.cmpi .eq v2 c4_i32_31
  let c7_i32_32 : BitVec 32 := 7#32
  let c0_i32_33 : BitVec 32 := 0#32
  let v40 : BitVec 32 := Scalar.select v39 c7_i32_32 c0_i32_33
  let v41 : BitVec 32 := Scalar.addi v38 v40
  let c5_i32_34 : BitVec 32 := 5#32
  let v42 : BitVec 1 := Scalar.cmpi .eq v2 c5_i32_34
  let c6_i32_35 : BitVec 32 := 6#32
  let c0_i32_36 : BitVec 32 := 0#32
  let v43 : BitVec 32 := Scalar.select v42 c6_i32_35 c0_i32_36
  let v44 : BitVec 32 := Scalar.addi v41 v43
  let c6_i32_37 : BitVec 32 := 6#32
  let v45 : BitVec 1 := Scalar.cmpi .eq v2 c6_i32_37
  let c5_i32_38 : BitVec 32 := 5#32
  let c0_i32_39 : BitVec 32 := 0#32
  let v46 : BitVec 32 := Scalar.select v45 c5_i32_38 c0_i32_39
  let v47 : BitVec 32 := Scalar.addi v44 v46
  let c7_i32_40 : BitVec 32 := 7#32
  let v48 : BitVec 1 := Scalar.cmpi .eq v2 c7_i32_40
  let c4_i32_41 : BitVec 32 := 4#32
  let c0_i32_42 : BitVec 32 := 0#32
  let v49 : BitVec 32 := Scalar.select v48 c4_i32_41 c0_i32_42
  let v50 : BitVec 32 := Scalar.addi v47 v49
  let c1_i32_780 : BitVec 32 := 1#32
  let v922 : BitVec 32 := Scalar.muli v50 c1_i32_780
  let v923 : BitVec 32 := Scalar.addi c0_i32_781 v922
  v923.toNat
def k0_dev23 (d0 : Dev nD) : Nat :=
  let c0_i32_793 : BitVec 32 := 0#32
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v27 : BitVec 1 := Scalar.cmpi .eq v2 c0_i32_18
  let c3_i32_19 : BitVec 32 := 3#32
  let c0_i32_20 : BitVec 32 := 0#32
  let v28 : BitVec 32 := Scalar.select v27 c3_i32_19 c0_i32_20
  let v29 : BitVec 32 := Scalar.addi c0_i32_21 v28
  let c1_i32_22 : BitVec 32 := 1#32
  let v30 : BitVec 1 := Scalar.cmpi .eq v2 c1_i32_22
  let c2_i32_23 : BitVec 32 := 2#32
  let c0_i32_24 : BitVec 32 := 0#32
  let v31 : BitVec 32 := Scalar.select v30 c2_i32_23 c0_i32_24
  let v32 : BitVec 32 := Scalar.addi v29 v31
  let c2_i32_25 : BitVec 32 := 2#32
  let v33 : BitVec 1 := Scalar.cmpi .eq v2 c2_i32_25
  let c1_i32_26 : BitVec 32 := 1#32
  let c0_i32_27 : BitVec 32 := 0#32
  let v34 : BitVec 32 := Scalar.select v33 c1_i32_26 c0_i32_27
  let v35 : BitVec 32 := Scalar.addi v32 v34
  let c3_i32_28 : BitVec 32 := 3#32
  let v36 : BitVec 1 := Scalar.cmpi .eq v2 c3_i32_28
  let c0_i32_29 : BitVec 32 := 0#32
  let c0_i32_30 : BitVec 32 := 0#32
  let v37 : BitVec 32 := Scalar.select v36 c0_i32_29 c0_i32_30
  let v38 : BitVec 32 := Scalar.addi v35 v37
  let c4_i32_31 : BitVec 32 := 4#32
  let v39 : BitVec 1 := Scalar.cmpi .eq v2 c4_i32_31
  let c7_i32_32 : BitVec 32 := 7#32
  let c0_i32_33 : BitVec 32 := 0#32
  let v40 : BitVec 32 := Scalar.select v39 c7_i32_32 c0_i32_33
  let v41 : BitVec 32 := Scalar.addi v38 v40
  let c5_i32_34 : BitVec 32 := 5#32
  let v42 : BitVec 1 := Scalar.cmpi .eq v2 c5_i32_34
  let c6_i32_35 : BitVec 32 := 6#32
  let c0_i32_36 : BitVec 32 := 0#32
  let v43 : BitVec 32 := Scalar.select v42 c6_i32_35 c0_i32_36
  let v44 : BitVec 32 := Scalar.addi v41 v43
  let c6_i32_37 : BitVec 32 := 6#32
  let v45 : BitVec 1 := Scalar.cmpi .eq v2 c6_i32_37
  let c5_i32_38 : BitVec 32 := 5#32
  let c0_i32_39 : BitVec 32 := 0#32
  let v46 : BitVec 32 := Scalar.select v45 c5_i32_38 c0_i32_39
  let v47 : BitVec 32 := Scalar.addi v44 v46
  let c7_i32_40 : BitVec 32 := 7#32
  let v48 : BitVec 1 := Scalar.cmpi .eq v2 c7_i32_40
  let c4_i32_41 : BitVec 32 := 4#32
  let c0_i32_42 : BitVec 32 := 0#32
  let v49 : BitVec 32 := Scalar.select v48 c4_i32_41 c0_i32_42
  let v50 : BitVec 32 := Scalar.addi v47 v49
  let c1_i32_792 : BitVec 32 := 1#32
  let v934 : BitVec 32 := Scalar.muli v50 c1_i32_792
  let v935 : BitVec 32 := Scalar.addi c0_i32_793 v934
  v935.toNat
def k0_dev24 (d0 : Dev nD) : Nat :=
  let c0_i32_805 : BitVec 32 := 0#32
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v27 : BitVec 1 := Scalar.cmpi .eq v2 c0_i32_18
  let c3_i32_19 : BitVec 32 := 3#32
  let c0_i32_20 : BitVec 32 := 0#32
  let v28 : BitVec 32 := Scalar.select v27 c3_i32_19 c0_i32_20
  let v29 : BitVec 32 := Scalar.addi c0_i32_21 v28
  let c1_i32_22 : BitVec 32 := 1#32
  let v30 : BitVec 1 := Scalar.cmpi .eq v2 c1_i32_22
  let c2_i32_23 : BitVec 32 := 2#32
  let c0_i32_24 : BitVec 32 := 0#32
  let v31 : BitVec 32 := Scalar.select v30 c2_i32_23 c0_i32_24
  let v32 : BitVec 32 := Scalar.addi v29 v31
  let c2_i32_25 : BitVec 32 := 2#32
  let v33 : BitVec 1 := Scalar.cmpi .eq v2 c2_i32_25
  let c1_i32_26 : BitVec 32 := 1#32
  let c0_i32_27 : BitVec 32 := 0#32
  let v34 : BitVec 32 := Scalar.select v33 c1_i32_26 c0_i32_27
  let v35 : BitVec 32 := Scalar.addi v32 v34
  let c3_i32_28 : BitVec 32 := 3#32
  let v36 : BitVec 1 := Scalar.cmpi .eq v2 c3_i32_28
  let c0_i32_29 : BitVec 32 := 0#32
  let c0_i32_30 : BitVec 32 := 0#32
  let v37 : BitVec 32 := Scalar.select v36 c0_i32_29 c0_i32_30
  let v38 : BitVec 32 := Scalar.addi v35 v37
  let c4_i32_31 : BitVec 32 := 4#32
  let v39 : BitVec 1 := Scalar.cmpi .eq v2 c4_i32_31
  let c7_i32_32 : BitVec 32 := 7#32
  let c0_i32_33 : BitVec 32 := 0#32
  let v40 : BitVec 32 := Scalar.select v39 c7_i32_32 c0_i32_33
  let v41 : BitVec 32 := Scalar.addi v38 v40
  let c5_i32_34 : BitVec 32 := 5#32
  let v42 : BitVec 1 := Scalar.cmpi .eq v2 c5_i32_34
  let c6_i32_35 : BitVec 32 := 6#32
  let c0_i32_36 : BitVec 32 := 0#32
  let v43 : BitVec 32 := Scalar.select v42 c6_i32_35 c0_i32_36
  let v44 : BitVec 32 := Scalar.addi v41 v43
  let c6_i32_37 : BitVec 32 := 6#32
  let v45 : BitVec 1 := Scalar.cmpi .eq v2 c6_i32_37
  let c5_i32_38 : BitVec 32 := 5#32
  let c0_i32_39 : BitVec 32 := 0#32
  let v46 : BitVec 32 := Scalar.select v45 c5_i32_38 c0_i32_39
  let v47 : BitVec 32 := Scalar.addi v44 v46
  let c7_i32_40 : BitVec 32 := 7#32
  let v48 : BitVec 1 := Scalar.cmpi .eq v2 c7_i32_40
  let c4_i32_41 : BitVec 32 := 4#32
  let c0_i32_42 : BitVec 32 := 0#32
  let v49 : BitVec 32 := Scalar.select v48 c4_i32_41 c0_i32_42
  let v50 : BitVec 32 := Scalar.addi v47 v49
  let c1_i32_804 : BitVec 32 := 1#32
  let v946 : BitVec 32 := Scalar.muli v50 c1_i32_804
  let v947 : BitVec 32 := Scalar.addi c0_i32_805 v946
  v947.toNat
def k0_dev25 (d0 : Dev nD) : Nat :=
  let c0_i32_817 : BitVec 32 := 0#32
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v27 : BitVec 1 := Scalar.cmpi .eq v2 c0_i32_18
  let c3_i32_19 : BitVec 32 := 3#32
  let c0_i32_20 : BitVec 32 := 0#32
  let v28 : BitVec 32 := Scalar.select v27 c3_i32_19 c0_i32_20
  let v29 : BitVec 32 := Scalar.addi c0_i32_21 v28
  let c1_i32_22 : BitVec 32 := 1#32
  let v30 : BitVec 1 := Scalar.cmpi .eq v2 c1_i32_22
  let c2_i32_23 : BitVec 32 := 2#32
  let c0_i32_24 : BitVec 32 := 0#32
  let v31 : BitVec 32 := Scalar.select v30 c2_i32_23 c0_i32_24
  let v32 : BitVec 32 := Scalar.addi v29 v31
  let c2_i32_25 : BitVec 32 := 2#32
  let v33 : BitVec 1 := Scalar.cmpi .eq v2 c2_i32_25
  let c1_i32_26 : BitVec 32 := 1#32
  let c0_i32_27 : BitVec 32 := 0#32
  let v34 : BitVec 32 := Scalar.select v33 c1_i32_26 c0_i32_27
  let v35 : BitVec 32 := Scalar.addi v32 v34
  let c3_i32_28 : BitVec 32 := 3#32
  let v36 : BitVec 1 := Scalar.cmpi .eq v2 c3_i32_28
  let c0_i32_29 : BitVec 32 := 0#32
  let c0_i32_30 : BitVec 32 := 0#32
  let v37 : BitVec 32 := Scalar.select v36 c0_i32_29 c0_i32_30
  let v38 : BitVec 32 := Scalar.addi v35 v37
  let c4_i32_31 : BitVec 32 := 4#32
  let v39 : BitVec 1 := Scalar.cmpi .eq v2 c4_i32_31
  let c7_i32_32 : BitVec 32 := 7#32
  let c0_i32_33 : BitVec 32 := 0#32
  let v40 : BitVec 32 := Scalar.select v39 c7_i32_32 c0_i32_33
  let v41 : BitVec 32 := Scalar.addi v38 v40
  let c5_i32_34 : BitVec 32 := 5#32
  let v42 : BitVec 1 := Scalar.cmpi .eq v2 c5_i32_34
  let c6_i32_35 : BitVec 32 := 6#32
  let c0_i32_36 : BitVec 32 := 0#32
  let v43 : BitVec 32 := Scalar.select v42 c6_i32_35 c0_i32_36
  let v44 : BitVec 32 := Scalar.addi v41 v43
  let c6_i32_37 : BitVec 32 := 6#32
  let v45 : BitVec 1 := Scalar.cmpi .eq v2 c6_i32_37
  let c5_i32_38 : BitVec 32 := 5#32
  let c0_i32_39 : BitVec 32 := 0#32
  let v46 : BitVec 32 := Scalar.select v45 c5_i32_38 c0_i32_39
  let v47 : BitVec 32 := Scalar.addi v44 v46
  let c7_i32_40 : BitVec 32 := 7#32
  let v48 : BitVec 1 := Scalar.cmpi .eq v2 c7_i32_40
  let c4_i32_41 : BitVec 32 := 4#32
  let c0_i32_42 : BitVec 32 := 0#32
  let v49 : BitVec 32 := Scalar.select v48 c4_i32_41 c0_i32_42
  let v50 : BitVec 32 := Scalar.addi v47 v49
  let c1_i32_816 : BitVec 32 := 1#32
  let v958 : BitVec 32 := Scalar.muli v50 c1_i32_816
  let v959 : BitVec 32 := Scalar.addi c0_i32_817 v958
  v959.toNat
def k0_off13 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c0_i32_834 : BitVec 32 := 0#32
  let v994 : BitVec 1 := Scalar.cmpi .sgt v98 c0_i32_834
  let v995 : BitVec 32 := Scalar.extui v994
  let c0_i32_835 : BitVec 32 := 0#32
  let v996 : BitVec 1 := Scalar.cmpi .slt v98 c0_i32_835
  let v997 : BitVec 32 := Scalar.extui v996
  let v998 : BitVec 32 := Scalar.subi v995 v997
  let c4_i32_833 : BitVec 32 := 4#32
  let c0_i32_836 : BitVec 32 := 0#32
  let v999 : BitVec 1 := Scalar.cmpi .sgt c4_i32_833 c0_i32_836
  let v1000 : BitVec 32 := Scalar.extui v999
  let c0_i32_837 : BitVec 32 := 0#32
  let v1001 : BitVec 1 := Scalar.cmpi .slt c4_i32_833 c0_i32_837
  let v1002 : BitVec 32 := Scalar.extui v1001
  let v1003 : BitVec 32 := Scalar.subi v1000 v1002
  let v1004 : BitVec 1 := Scalar.cmpi .ne v998 v1003
  let v1005 : BitVec 32 := Scalar.remsi v98 c4_i32_833
  let c0_i32_838 : BitVec 32 := 0#32
  let v1006 : BitVec 1 := Scalar.cmpi .ne v1005 c0_i32_838
  let v1007 : BitVec 1 := Scalar.andi v1004 v1006
  let v993 : BitVec 32 := Scalar.divsi v98 c4_i32_833
  let c1_i32_839 : BitVec 32 := 1#32
  let v1008 : BitVec 32 := Scalar.subi v993 c1_i32_839
  let v1009 : BitVec 32 := Scalar.select v1007 v1008 v993
  let c4_i32_840 : BitVec 32 := 4#32
  let v1010 : BitVec 32 := Scalar.muli v1009 c4_i32_840
  let c1_i32_841 : BitVec 32 := 1#32
  let c0_i32_821 : BitVec 32 := 0#32
  let v967 : BitVec 1 := Scalar.cmpi .sgt v98 c0_i32_821
  let v968 : BitVec 32 := Scalar.extui v967
  let c0_i32_822 : BitVec 32 := 0#32
  let v969 : BitVec 1 := Scalar.cmpi .slt v98 c0_i32_822
  let v970 : BitVec 32 := Scalar.extui v969
  let v971 : BitVec 32 := Scalar.subi v968 v970
  let c2_i32_820 : BitVec 32 := 2#32
  let c0_i32_823 : BitVec 32 := 0#32
  let v972 : BitVec 1 := Scalar.cmpi .sgt c2_i32_820 c0_i32_823
  let v973 : BitVec 32 := Scalar.extui v972
  let c0_i32_824 : BitVec 32 := 0#32
  let v974 : BitVec 1 := Scalar.cmpi .slt c2_i32_820 c0_i32_824
  let v975 : BitVec 32 := Scalar.extui v974
  let v976 : BitVec 32 := Scalar.subi v973 v975
  let v977 : BitVec 1 := Scalar.cmpi .ne v971 v976
  let v978 : BitVec 32 := Scalar.remsi v98 c2_i32_820
  let c0_i32_825 : BitVec 32 := 0#32
  let v979 : BitVec 1 := Scalar.cmpi .ne v978 c0_i32_825
  let v980 : BitVec 1 := Scalar.andi v977 v979
  let v966 : BitVec 32 := Scalar.divsi v98 c2_i32_820
  let c1_i32_826 : BitVec 32 := 1#32
  let v981 : BitVec 32 := Scalar.subi v966 c1_i32_826
  let v982 : BitVec 32 := Scalar.select v980 v981 v966
  let c2_i32_827 : BitVec 32 := 2#32
  let c0_i32_828 : BitVec 32 := 0#32
  let v983 : BitVec 1 := Scalar.cmpi .eq c2_i32_827 c0_i32_828
  let c1_i32_829 : BitVec 32 := 1#32
  let v984 : BitVec 32 := Scalar.select v983 c1_i32_829 c2_i32_827
  let v985 : BitVec 32 := Scalar.remsi v982 v984
  let c0_i32_831 : BitVec 32 := 0#32
  let v987 : BitVec 1 := Scalar.cmpi .slt v985 c0_i32_831
  let c0_i32_832 : BitVec 32 := 0#32
  let v988 : BitVec 1 := Scalar.cmpi .slt v984 c0_i32_832
  let v989 : BitVec 1 := Scalar.xori v987 v988
  let c0_i32_830 : BitVec 32 := 0#32
  let v986 : BitVec 1 := Scalar.cmpi .ne v985 c0_i32_830
  let v990 : BitVec 1 := Scalar.andi v989 v986
  let v991 : BitVec 32 := Scalar.addi v985 v984
  let v992 : BitVec 32 := Scalar.select v990 v991 v985
  let v1011 : BitVec 32 := Scalar.subi c1_i32_841 v992
  let c2_i32_842 : BitVec 32 := 2#32
  let v1012 : BitVec 32 := Scalar.muli v1011 c2_i32_842
  let v1013 : BitVec 32 := Scalar.addi v1010 v1012
  let c1376_i32_870 : BitVec 32 := 1376#32
  let v1039 : BitVec 32 := Scalar.muli v1013 c1376_i32_870
  let v1040 : Index := Scalar.indexCast v1039
  let c0_871 : Index := 0#32
  ![v1040.toNat, 0]
def k0_off14 (d0 : Dev nD) (c1_i32_73 : BitVec 32) (c3_i32_76 : BitVec 32) (c2_i32_79 : BitVec 32) (c4_i32_82 : BitVec 32) (c5_i32_85 : BitVec 32) (c6_i32_91 : BitVec 32) (c1_i32_848 : BitVec 32) (c3_i32_851 : BitVec 32) (c2_i32_854 : BitVec 32) (c4_i32_857 : BitVec 32) (c5_i32_860 : BitVec 32) (c7_i32_863 : BitVec 32) : Fin 2 → Nat :=
  let c0_874 : Index := 0#32
  let c0_i32_846 : BitVec 32 := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c0_i32_92 : BitVec 32 := 0#32
  let v97 : BitVec 32 := Scalar.select v96 c6_i32_91 c0_i32_92
  let v98 : BitVec 32 := Scalar.addi v95 v97
  let c0_i32_834 : BitVec 32 := 0#32
  let v994 : BitVec 1 := Scalar.cmpi .sgt v98 c0_i32_834
  let v995 : BitVec 32 := Scalar.extui v994
  let c0_i32_835 : BitVec 32 := 0#32
  let v996 : BitVec 1 := Scalar.cmpi .slt v98 c0_i32_835
  let v997 : BitVec 32 := Scalar.extui v996
  let v998 : BitVec 32 := Scalar.subi v995 v997
  let c4_i32_833 : BitVec 32 := 4#32
  let c0_i32_836 : BitVec 32 := 0#32
  let v999 : BitVec 1 := Scalar.cmpi .sgt c4_i32_833 c0_i32_836
  let v1000 : BitVec 32 := Scalar.extui v999
  let c0_i32_837 : BitVec 32 := 0#32
  let v1001 : BitVec 1 := Scalar.cmpi .slt c4_i32_833 c0_i32_837
  let v1002 : BitVec 32 := Scalar.extui v1001
  let v1003 : BitVec 32 := Scalar.subi v1000 v1002
  let v1004 : BitVec 1 := Scalar.cmpi .ne v998 v1003
  let v1005 : BitVec 32 := Scalar.remsi v98 c4_i32_833
  let c0_i32_838 : BitVec 32 := 0#32
  let v1006 : BitVec 1 := Scalar.cmpi .ne v1005 c0_i32_838
  let v1007 : BitVec 1 := Scalar.andi v1004 v1006
  let v993 : BitVec 32 := Scalar.divsi v98 c4_i32_833
  let c1_i32_839 : BitVec 32 := 1#32
  let v1008 : BitVec 32 := Scalar.subi v993 c1_i32_839
  let v1009 : BitVec 32 := Scalar.select v1007 v1008 v993
  let c4_i32_840 : BitVec 32 := 4#32
  let v1010 : BitVec 32 := Scalar.muli v1009 c4_i32_840
  let c1_i32_841 : BitVec 32 := 1#32
  let c0_i32_821 : BitVec 32 := 0#32
  let v967 : BitVec 1 := Scalar.cmpi .sgt v98 c0_i32_821
  let v968 : BitVec 32 := Scalar.extui v967
  let c0_i32_822 : BitVec 32 := 0#32
  let v969 : BitVec 1 := Scalar.cmpi .slt v98 c0_i32_822
  let v970 : BitVec 32 := Scalar.extui v969
  let v971 : BitVec 32 := Scalar.subi v968 v970
  let c2_i32_820 : BitVec 32 := 2#32
  let c0_i32_823 : BitVec 32 := 0#32
  let v972 : BitVec 1 := Scalar.cmpi .sgt c2_i32_820 c0_i32_823
  let v973 : BitVec 32 := Scalar.extui v972
  let c0_i32_824 : BitVec 32 := 0#32
  let v974 : BitVec 1 := Scalar.cmpi .slt c2_i32_820 c0_i32_824
  let v975 : BitVec 32 := Scalar.extui v974
  let v976 : BitVec 32 := Scalar.subi v973 v975
  let v977 : BitVec 1 := Scalar.cmpi .ne v971 v976
  let v978 : BitVec 32 := Scalar.remsi v98 c2_i32_820
  let c0_i32_825 : BitVec 32 := 0#32
  let v979 : BitVec 1 := Scalar.cmpi .ne v978 c0_i32_825
  let v980 : BitVec 1 := Scalar.andi v977 v979
  let v966 : BitVec 32 := Scalar.divsi v98 c2_i32_820
  let c1_i32_826 : BitVec 32 := 1#32
  let v981 : BitVec 32 := Scalar.subi v966 c1_i32_826
  let v982 : BitVec 32 := Scalar.select v980 v981 v966
  let c2_i32_827 : BitVec 32 := 2#32
  let c0_i32_828 : BitVec 32 := 0#32
  let v983 : BitVec 1 := Scalar.cmpi .eq c2_i32_827 c0_i32_828
  let c1_i32_829 : BitVec 32 := 1#32
  let v984 : BitVec 32 := Scalar.select v983 c1_i32_829 c2_i32_827
  let v985 : BitVec 32 := Scalar.remsi v982 v984
  let c0_i32_831 : BitVec 32 := 0#32
  let v987 : BitVec 1 := Scalar.cmpi .slt v985 c0_i32_831
  let c0_i32_832 : BitVec 32 := 0#32
  let v988 : BitVec 1 := Scalar.cmpi .slt v984 c0_i32_832
  let v989 : BitVec 1 := Scalar.xori v987 v988
  let c0_i32_830 : BitVec 32 := 0#32
  let v986 : BitVec 1 := Scalar.cmpi .ne v985 c0_i32_830
  let v990 : BitVec 1 := Scalar.andi v989 v986
  let v991 : BitVec 32 := Scalar.addi v985 v984
  let v992 : BitVec 32 := Scalar.select v990 v991 v985
  let v1011 : BitVec 32 := Scalar.subi c1_i32_841 v992
  let c2_i32_842 : BitVec 32 := 2#32
  let v1012 : BitVec 32 := Scalar.muli v1011 c2_i32_842
  let v1013 : BitVec 32 := Scalar.addi v1010 v1012
  let c0_i32_843 : BitVec 32 := 0#32
  let v1014 : BitVec 1 := Scalar.cmpi .eq v1013 c0_i32_843
  let c0_i32_844 : BitVec 32 := 0#32
  let c0_i32_845 : BitVec 32 := 0#32
  let v1015 : BitVec 32 := Scalar.select v1014 c0_i32_844 c0_i32_845
  let v1016 : BitVec 32 := Scalar.addi c0_i32_846 v1015
  let c1_i32_847 : BitVec 32 := 1#32
  let v1017 : BitVec 1 := Scalar.cmpi .eq v1013 c1_i32_847
  let c0_i32_849 : BitVec 32 := 0#32
  let v1018 : BitVec 32 := Scalar.select v1017 c1_i32_848 c0_i32_849
  let v1019 : BitVec 32 := Scalar.addi v1016 v1018
  let c2_i32_850 : BitVec 32 := 2#32
  let v1020 : BitVec 1 := Scalar.cmpi .eq v1013 c2_i32_850
  let c0_i32_852 : BitVec 32 := 0#32
  let v1021 : BitVec 32 := Scalar.select v1020 c3_i32_851 c0_i32_852
  let v1022 : BitVec 32 := Scalar.addi v1019 v1021
  let c3_i32_853 : BitVec 32 := 3#32
  let v1023 : BitVec 1 := Scalar.cmpi .eq v1013 c3_i32_853
  let c0_i32_855 : BitVec 32 := 0#32
  let v1024 : BitVec 32 := Scalar.select v1023 c2_i32_854 c0_i32_855
  let v1025 : BitVec 32 := Scalar.addi v1022 v1024
  let c4_i32_856 : BitVec 32 := 4#32
  let v1026 : BitVec 1 := Scalar.cmpi .eq v1013 c4_i32_856
  let c0_i32_858 : BitVec 32 := 0#32
  let v1027 : BitVec 32 := Scalar.select v1026 c4_i32_857 c0_i32_858
  let v1028 : BitVec 32 := Scalar.addi v1025 v1027
  let c5_i32_859 : BitVec 32 := 5#32
  let v1029 : BitVec 1 := Scalar.cmpi .eq v1013 c5_i32_859
  let c0_i32_861 : BitVec 32 := 0#32
  let v1030 : BitVec 32 := Scalar.select v1029 c5_i32_860 c0_i32_861
  let v1031 : BitVec 32 := Scalar.addi v1028 v1030
  let c6_i32_862 : BitVec 32 := 6#32
  let v1032 : BitVec 1 := Scalar.cmpi .eq v1013 c6_i32_862
  let c0_i32_864 : BitVec 32 := 0#32
  let v1033 : BitVec 32 := Scalar.select v1032 c7_i32_863 c0_i32_864
  let v1034 : BitVec 32 := Scalar.addi v1031 v1033
  let c7_i32_865 : BitVec 32 := 7#32
  let v1035 : BitVec 1 := Scalar.cmpi .eq v1013 c7_i32_865
  let c6_i32_866 : BitVec 32 := 6#32
  let c0_i32_867 : BitVec 32 := 0#32
  let v1036 : BitVec 32 := Scalar.select v1035 c6_i32_866 c0_i32_867
  let v1037 : BitVec 32 := Scalar.addi v1034 v1036
  let c256_i32_873 : BitVec 32 := 256#32
  let v1043 : BitVec 32 := Scalar.muli v1037 c256_i32_873
  let v1044 : Index := Scalar.indexCast v1043
  ![0, v1044.toNat]
def k0_off14_at (r : Fin 3) : BitVec 32 × BitVec 32 × BitVec 32 × BitVec 32 × BitVec 32 × BitVec 32 × BitVec 32 × BitVec 32 × BitVec 32 × BitVec 32 × BitVec 32 × BitVec 32 :=
  if r.val < 1 then
    (1#32, 3#32, 2#32, 4#32, 5#32, 6#32, 1#32, 3#32, 2#32, 4#32, 5#32, 7#32)
  else
    if r.val < 2 then
      (4#32, 5#32, 1#32, 2#32, 6#32, 3#32, 3#32, 4#32, 7#32, 1#32, 2#32, 5#32)
    else
      (2#32, 6#32, 4#32, 1#32, 3#32, 5#32, 4#32, 1#32, 5#32, 3#32, 7#32, 2#32)
def k0_off15 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c0_i32_834 : BitVec 32 := 0#32
  let v994 : BitVec 1 := Scalar.cmpi .sgt v98 c0_i32_834
  let v995 : BitVec 32 := Scalar.extui v994
  let c0_i32_835 : BitVec 32 := 0#32
  let v996 : BitVec 1 := Scalar.cmpi .slt v98 c0_i32_835
  let v997 : BitVec 32 := Scalar.extui v996
  let v998 : BitVec 32 := Scalar.subi v995 v997
  let c4_i32_833 : BitVec 32 := 4#32
  let c0_i32_836 : BitVec 32 := 0#32
  let v999 : BitVec 1 := Scalar.cmpi .sgt c4_i32_833 c0_i32_836
  let v1000 : BitVec 32 := Scalar.extui v999
  let c0_i32_837 : BitVec 32 := 0#32
  let v1001 : BitVec 1 := Scalar.cmpi .slt c4_i32_833 c0_i32_837
  let v1002 : BitVec 32 := Scalar.extui v1001
  let v1003 : BitVec 32 := Scalar.subi v1000 v1002
  let v1004 : BitVec 1 := Scalar.cmpi .ne v998 v1003
  let v1005 : BitVec 32 := Scalar.remsi v98 c4_i32_833
  let c0_i32_838 : BitVec 32 := 0#32
  let v1006 : BitVec 1 := Scalar.cmpi .ne v1005 c0_i32_838
  let v1007 : BitVec 1 := Scalar.andi v1004 v1006
  let v993 : BitVec 32 := Scalar.divsi v98 c4_i32_833
  let c1_i32_839 : BitVec 32 := 1#32
  let v1008 : BitVec 32 := Scalar.subi v993 c1_i32_839
  let v1009 : BitVec 32 := Scalar.select v1007 v1008 v993
  let c4_i32_840 : BitVec 32 := 4#32
  let v1010 : BitVec 32 := Scalar.muli v1009 c4_i32_840
  let c1_i32_841 : BitVec 32 := 1#32
  let c0_i32_821 : BitVec 32 := 0#32
  let v967 : BitVec 1 := Scalar.cmpi .sgt v98 c0_i32_821
  let v968 : BitVec 32 := Scalar.extui v967
  let c0_i32_822 : BitVec 32 := 0#32
  let v969 : BitVec 1 := Scalar.cmpi .slt v98 c0_i32_822
  let v970 : BitVec 32 := Scalar.extui v969
  let v971 : BitVec 32 := Scalar.subi v968 v970
  let c2_i32_820 : BitVec 32 := 2#32
  let c0_i32_823 : BitVec 32 := 0#32
  let v972 : BitVec 1 := Scalar.cmpi .sgt c2_i32_820 c0_i32_823
  let v973 : BitVec 32 := Scalar.extui v972
  let c0_i32_824 : BitVec 32 := 0#32
  let v974 : BitVec 1 := Scalar.cmpi .slt c2_i32_820 c0_i32_824
  let v975 : BitVec 32 := Scalar.extui v974
  let v976 : BitVec 32 := Scalar.subi v973 v975
  let v977 : BitVec 1 := Scalar.cmpi .ne v971 v976
  let v978 : BitVec 32 := Scalar.remsi v98 c2_i32_820
  let c0_i32_825 : BitVec 32 := 0#32
  let v979 : BitVec 1 := Scalar.cmpi .ne v978 c0_i32_825
  let v980 : BitVec 1 := Scalar.andi v977 v979
  let v966 : BitVec 32 := Scalar.divsi v98 c2_i32_820
  let c1_i32_826 : BitVec 32 := 1#32
  let v981 : BitVec 32 := Scalar.subi v966 c1_i32_826
  let v982 : BitVec 32 := Scalar.select v980 v981 v966
  let c2_i32_827 : BitVec 32 := 2#32
  let c0_i32_828 : BitVec 32 := 0#32
  let v983 : BitVec 1 := Scalar.cmpi .eq c2_i32_827 c0_i32_828
  let c1_i32_829 : BitVec 32 := 1#32
  let v984 : BitVec 32 := Scalar.select v983 c1_i32_829 c2_i32_827
  let v985 : BitVec 32 := Scalar.remsi v982 v984
  let c0_i32_831 : BitVec 32 := 0#32
  let v987 : BitVec 1 := Scalar.cmpi .slt v985 c0_i32_831
  let c0_i32_832 : BitVec 32 := 0#32
  let v988 : BitVec 1 := Scalar.cmpi .slt v984 c0_i32_832
  let v989 : BitVec 1 := Scalar.xori v987 v988
  let c0_i32_830 : BitVec 32 := 0#32
  let v986 : BitVec 1 := Scalar.cmpi .ne v985 c0_i32_830
  let v990 : BitVec 1 := Scalar.andi v989 v986
  let v991 : BitVec 32 := Scalar.addi v985 v984
  let v992 : BitVec 32 := Scalar.select v990 v991 v985
  let v1011 : BitVec 32 := Scalar.subi c1_i32_841 v992
  let c2_i32_842 : BitVec 32 := 2#32
  let v1012 : BitVec 32 := Scalar.muli v1011 c2_i32_842
  let v1013 : BitVec 32 := Scalar.addi v1010 v1012
  let c1_i32_877 : BitVec 32 := 1#32
  let v1052 : BitVec 32 := Scalar.addi v1013 c1_i32_877
  let c1376_i32_905 : BitVec 32 := 1376#32
  let v1078 : BitVec 32 := Scalar.muli v1052 c1376_i32_905
  let v1079 : Index := Scalar.indexCast v1078
  let c0_906 : Index := 0#32
  ![v1079.toNat, 0]
def k0_off16 (d0 : Dev nD) (c1_i32_73 : BitVec 32) (c3_i32_76 : BitVec 32) (c2_i32_79 : BitVec 32) (c4_i32_82 : BitVec 32) (c5_i32_85 : BitVec 32) (c6_i32_91 : BitVec 32) (c1_i32_883 : BitVec 32) (c3_i32_886 : BitVec 32) (c2_i32_889 : BitVec 32) (c4_i32_892 : BitVec 32) (c5_i32_895 : BitVec 32) (c7_i32_898 : BitVec 32) : Fin 2 → Nat :=
  let c0_909 : Index := 0#32
  let c0_i32_881 : BitVec 32 := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c0_i32_92 : BitVec 32 := 0#32
  let v97 : BitVec 32 := Scalar.select v96 c6_i32_91 c0_i32_92
  let v98 : BitVec 32 := Scalar.addi v95 v97
  let c0_i32_834 : BitVec 32 := 0#32
  let v994 : BitVec 1 := Scalar.cmpi .sgt v98 c0_i32_834
  let v995 : BitVec 32 := Scalar.extui v994
  let c0_i32_835 : BitVec 32 := 0#32
  let v996 : BitVec 1 := Scalar.cmpi .slt v98 c0_i32_835
  let v997 : BitVec 32 := Scalar.extui v996
  let v998 : BitVec 32 := Scalar.subi v995 v997
  let c4_i32_833 : BitVec 32 := 4#32
  let c0_i32_836 : BitVec 32 := 0#32
  let v999 : BitVec 1 := Scalar.cmpi .sgt c4_i32_833 c0_i32_836
  let v1000 : BitVec 32 := Scalar.extui v999
  let c0_i32_837 : BitVec 32 := 0#32
  let v1001 : BitVec 1 := Scalar.cmpi .slt c4_i32_833 c0_i32_837
  let v1002 : BitVec 32 := Scalar.extui v1001
  let v1003 : BitVec 32 := Scalar.subi v1000 v1002
  let v1004 : BitVec 1 := Scalar.cmpi .ne v998 v1003
  let v1005 : BitVec 32 := Scalar.remsi v98 c4_i32_833
  let c0_i32_838 : BitVec 32 := 0#32
  let v1006 : BitVec 1 := Scalar.cmpi .ne v1005 c0_i32_838
  let v1007 : BitVec 1 := Scalar.andi v1004 v1006
  let v993 : BitVec 32 := Scalar.divsi v98 c4_i32_833
  let c1_i32_839 : BitVec 32 := 1#32
  let v1008 : BitVec 32 := Scalar.subi v993 c1_i32_839
  let v1009 : BitVec 32 := Scalar.select v1007 v1008 v993
  let c4_i32_840 : BitVec 32 := 4#32
  let v1010 : BitVec 32 := Scalar.muli v1009 c4_i32_840
  let c1_i32_841 : BitVec 32 := 1#32
  let c0_i32_821 : BitVec 32 := 0#32
  let v967 : BitVec 1 := Scalar.cmpi .sgt v98 c0_i32_821
  let v968 : BitVec 32 := Scalar.extui v967
  let c0_i32_822 : BitVec 32 := 0#32
  let v969 : BitVec 1 := Scalar.cmpi .slt v98 c0_i32_822
  let v970 : BitVec 32 := Scalar.extui v969
  let v971 : BitVec 32 := Scalar.subi v968 v970
  let c2_i32_820 : BitVec 32 := 2#32
  let c0_i32_823 : BitVec 32 := 0#32
  let v972 : BitVec 1 := Scalar.cmpi .sgt c2_i32_820 c0_i32_823
  let v973 : BitVec 32 := Scalar.extui v972
  let c0_i32_824 : BitVec 32 := 0#32
  let v974 : BitVec 1 := Scalar.cmpi .slt c2_i32_820 c0_i32_824
  let v975 : BitVec 32 := Scalar.extui v974
  let v976 : BitVec 32 := Scalar.subi v973 v975
  let v977 : BitVec 1 := Scalar.cmpi .ne v971 v976
  let v978 : BitVec 32 := Scalar.remsi v98 c2_i32_820
  let c0_i32_825 : BitVec 32 := 0#32
  let v979 : BitVec 1 := Scalar.cmpi .ne v978 c0_i32_825
  let v980 : BitVec 1 := Scalar.andi v977 v979
  let v966 : BitVec 32 := Scalar.divsi v98 c2_i32_820
  let c1_i32_826 : BitVec 32 := 1#32
  let v981 : BitVec 32 := Scalar.subi v966 c1_i32_826
  let v982 : BitVec 32 := Scalar.select v980 v981 v966
  let c2_i32_827 : BitVec 32 := 2#32
  let c0_i32_828 : BitVec 32 := 0#32
  let v983 : BitVec 1 := Scalar.cmpi .eq c2_i32_827 c0_i32_828
  let c1_i32_829 : BitVec 32 := 1#32
  let v984 : BitVec 32 := Scalar.select v983 c1_i32_829 c2_i32_827
  let v985 : BitVec 32 := Scalar.remsi v982 v984
  let c0_i32_831 : BitVec 32 := 0#32
  let v987 : BitVec 1 := Scalar.cmpi .slt v985 c0_i32_831
  let c0_i32_832 : BitVec 32 := 0#32
  let v988 : BitVec 1 := Scalar.cmpi .slt v984 c0_i32_832
  let v989 : BitVec 1 := Scalar.xori v987 v988
  let c0_i32_830 : BitVec 32 := 0#32
  let v986 : BitVec 1 := Scalar.cmpi .ne v985 c0_i32_830
  let v990 : BitVec 1 := Scalar.andi v989 v986
  let v991 : BitVec 32 := Scalar.addi v985 v984
  let v992 : BitVec 32 := Scalar.select v990 v991 v985
  let v1011 : BitVec 32 := Scalar.subi c1_i32_841 v992
  let c2_i32_842 : BitVec 32 := 2#32
  let v1012 : BitVec 32 := Scalar.muli v1011 c2_i32_842
  let v1013 : BitVec 32 := Scalar.addi v1010 v1012
  let c1_i32_877 : BitVec 32 := 1#32
  let v1052 : BitVec 32 := Scalar.addi v1013 c1_i32_877
  let c0_i32_878 : BitVec 32 := 0#32
  let v1053 : BitVec 1 := Scalar.cmpi .eq v1052 c0_i32_878
  let c0_i32_879 : BitVec 32 := 0#32
  let c0_i32_880 : BitVec 32 := 0#32
  let v1054 : BitVec 32 := Scalar.select v1053 c0_i32_879 c0_i32_880
  let v1055 : BitVec 32 := Scalar.addi c0_i32_881 v1054
  let c1_i32_882 : BitVec 32 := 1#32
  let v1056 : BitVec 1 := Scalar.cmpi .eq v1052 c1_i32_882
  let c0_i32_884 : BitVec 32 := 0#32
  let v1057 : BitVec 32 := Scalar.select v1056 c1_i32_883 c0_i32_884
  let v1058 : BitVec 32 := Scalar.addi v1055 v1057
  let c2_i32_885 : BitVec 32 := 2#32
  let v1059 : BitVec 1 := Scalar.cmpi .eq v1052 c2_i32_885
  let c0_i32_887 : BitVec 32 := 0#32
  let v1060 : BitVec 32 := Scalar.select v1059 c3_i32_886 c0_i32_887
  let v1061 : BitVec 32 := Scalar.addi v1058 v1060
  let c3_i32_888 : BitVec 32 := 3#32
  let v1062 : BitVec 1 := Scalar.cmpi .eq v1052 c3_i32_888
  let c0_i32_890 : BitVec 32 := 0#32
  let v1063 : BitVec 32 := Scalar.select v1062 c2_i32_889 c0_i32_890
  let v1064 : BitVec 32 := Scalar.addi v1061 v1063
  let c4_i32_891 : BitVec 32 := 4#32
  let v1065 : BitVec 1 := Scalar.cmpi .eq v1052 c4_i32_891
  let c0_i32_893 : BitVec 32 := 0#32
  let v1066 : BitVec 32 := Scalar.select v1065 c4_i32_892 c0_i32_893
  let v1067 : BitVec 32 := Scalar.addi v1064 v1066
  let c5_i32_894 : BitVec 32 := 5#32
  let v1068 : BitVec 1 := Scalar.cmpi .eq v1052 c5_i32_894
  let c0_i32_896 : BitVec 32 := 0#32
  let v1069 : BitVec 32 := Scalar.select v1068 c5_i32_895 c0_i32_896
  let v1070 : BitVec 32 := Scalar.addi v1067 v1069
  let c6_i32_897 : BitVec 32 := 6#32
  let v1071 : BitVec 1 := Scalar.cmpi .eq v1052 c6_i32_897
  let c0_i32_899 : BitVec 32 := 0#32
  let v1072 : BitVec 32 := Scalar.select v1071 c7_i32_898 c0_i32_899
  let v1073 : BitVec 32 := Scalar.addi v1070 v1072
  let c7_i32_900 : BitVec 32 := 7#32
  let v1074 : BitVec 1 := Scalar.cmpi .eq v1052 c7_i32_900
  let c6_i32_901 : BitVec 32 := 6#32
  let c0_i32_902 : BitVec 32 := 0#32
  let v1075 : BitVec 32 := Scalar.select v1074 c6_i32_901 c0_i32_902
  let v1076 : BitVec 32 := Scalar.addi v1073 v1075
  let c256_i32_908 : BitVec 32 := 256#32
  let v1082 : BitVec 32 := Scalar.muli v1076 c256_i32_908
  let v1083 : Index := Scalar.indexCast v1082
  ![0, v1083.toNat]
def k0_off16_at (r : Fin 3) : BitVec 32 × BitVec 32 × BitVec 32 × BitVec 32 × BitVec 32 × BitVec 32 × BitVec 32 × BitVec 32 × BitVec 32 × BitVec 32 × BitVec 32 × BitVec 32 :=
  if r.val < 1 then
    (1#32, 3#32, 2#32, 4#32, 5#32, 6#32, 1#32, 3#32, 2#32, 4#32, 5#32, 7#32)
  else
    if r.val < 2 then
      (4#32, 5#32, 1#32, 2#32, 6#32, 3#32, 3#32, 4#32, 7#32, 1#32, 2#32, 5#32)
    else
      (2#32, 6#32, 4#32, 1#32, 3#32, 5#32, 4#32, 1#32, 5#32, 3#32, 7#32, 2#32)
def k0_off17 (d0 : Dev nD) (c4_i32_98 : BitVec 32) (c5_i32_101 : BitVec 32) (c1_i32_104 : BitVec 32) (c2_i32_107 : BitVec 32) (c6_i32_110 : BitVec 32) (c3_i32_116 : BitVec 32) : Fin 2 → Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c0_i32_926 : BitVec 32 := 0#32
  let v1119 : BitVec 1 := Scalar.cmpi .sgt v122 c0_i32_926
  let v1120 : BitVec 32 := Scalar.extui v1119
  let c0_i32_927 : BitVec 32 := 0#32
  let v1121 : BitVec 1 := Scalar.cmpi .slt v122 c0_i32_927
  let v1122 : BitVec 32 := Scalar.extui v1121
  let v1123 : BitVec 32 := Scalar.subi v1120 v1122
  let c4_i32_925 : BitVec 32 := 4#32
  let c0_i32_928 : BitVec 32 := 0#32
  let v1124 : BitVec 1 := Scalar.cmpi .sgt c4_i32_925 c0_i32_928
  let v1125 : BitVec 32 := Scalar.extui v1124
  let c0_i32_929 : BitVec 32 := 0#32
  let v1126 : BitVec 1 := Scalar.cmpi .slt c4_i32_925 c0_i32_929
  let v1127 : BitVec 32 := Scalar.extui v1126
  let v1128 : BitVec 32 := Scalar.subi v1125 v1127
  let v1129 : BitVec 1 := Scalar.cmpi .ne v1123 v1128
  let v1130 : BitVec 32 := Scalar.remsi v122 c4_i32_925
  let c0_i32_930 : BitVec 32 := 0#32
  let v1131 : BitVec 1 := Scalar.cmpi .ne v1130 c0_i32_930
  let v1132 : BitVec 1 := Scalar.andi v1129 v1131
  let v1118 : BitVec 32 := Scalar.divsi v122 c4_i32_925
  let c1_i32_931 : BitVec 32 := 1#32
  let v1133 : BitVec 32 := Scalar.subi v1118 c1_i32_931
  let v1134 : BitVec 32 := Scalar.select v1132 v1133 v1118
  let c4_i32_932 : BitVec 32 := 4#32
  let v1135 : BitVec 32 := Scalar.muli v1134 c4_i32_932
  let c1_i32_933 : BitVec 32 := 1#32
  let c0_i32_913 : BitVec 32 := 0#32
  let v1092 : BitVec 1 := Scalar.cmpi .sgt v122 c0_i32_913
  let v1093 : BitVec 32 := Scalar.extui v1092
  let c0_i32_914 : BitVec 32 := 0#32
  let v1094 : BitVec 1 := Scalar.cmpi .slt v122 c0_i32_914
  let v1095 : BitVec 32 := Scalar.extui v1094
  let v1096 : BitVec 32 := Scalar.subi v1093 v1095
  let c2_i32_912 : BitVec 32 := 2#32
  let c0_i32_915 : BitVec 32 := 0#32
  let v1097 : BitVec 1 := Scalar.cmpi .sgt c2_i32_912 c0_i32_915
  let v1098 : BitVec 32 := Scalar.extui v1097
  let c0_i32_916 : BitVec 32 := 0#32
  let v1099 : BitVec 1 := Scalar.cmpi .slt c2_i32_912 c0_i32_916
  let v1100 : BitVec 32 := Scalar.extui v1099
  let v1101 : BitVec 32 := Scalar.subi v1098 v1100
  let v1102 : BitVec 1 := Scalar.cmpi .ne v1096 v1101
  let v1103 : BitVec 32 := Scalar.remsi v122 c2_i32_912
  let c0_i32_917 : BitVec 32 := 0#32
  let v1104 : BitVec 1 := Scalar.cmpi .ne v1103 c0_i32_917
  let v1105 : BitVec 1 := Scalar.andi v1102 v1104
  let v1091 : BitVec 32 := Scalar.divsi v122 c2_i32_912
  let c1_i32_918 : BitVec 32 := 1#32
  let v1106 : BitVec 32 := Scalar.subi v1091 c1_i32_918
  let v1107 : BitVec 32 := Scalar.select v1105 v1106 v1091
  let c2_i32_919 : BitVec 32 := 2#32
  let c0_i32_920 : BitVec 32 := 0#32
  let v1108 : BitVec 1 := Scalar.cmpi .eq c2_i32_919 c0_i32_920
  let c1_i32_921 : BitVec 32 := 1#32
  let v1109 : BitVec 32 := Scalar.select v1108 c1_i32_921 c2_i32_919
  let v1110 : BitVec 32 := Scalar.remsi v1107 v1109
  let c0_i32_923 : BitVec 32 := 0#32
  let v1112 : BitVec 1 := Scalar.cmpi .slt v1110 c0_i32_923
  let c0_i32_924 : BitVec 32 := 0#32
  let v1113 : BitVec 1 := Scalar.cmpi .slt v1109 c0_i32_924
  let v1114 : BitVec 1 := Scalar.xori v1112 v1113
  let c0_i32_922 : BitVec 32 := 0#32
  let v1111 : BitVec 1 := Scalar.cmpi .ne v1110 c0_i32_922
  let v1115 : BitVec 1 := Scalar.andi v1114 v1111
  let v1116 : BitVec 32 := Scalar.addi v1110 v1109
  let v1117 : BitVec 32 := Scalar.select v1115 v1116 v1110
  let v1136 : BitVec 32 := Scalar.subi c1_i32_933 v1117
  let c2_i32_934 : BitVec 32 := 2#32
  let v1137 : BitVec 32 := Scalar.muli v1136 c2_i32_934
  let v1138 : BitVec 32 := Scalar.addi v1135 v1137
  let c1360_i32_962 : BitVec 32 := 1360#32
  let v1164 : BitVec 32 := Scalar.muli v1138 c1360_i32_962
  let v1165 : Index := Scalar.indexCast v1164
  let c0_963 : Index := 0#32
  ![v1165.toNat, 0]
def k0_off17_at (r : Fin 2) : BitVec 32 × BitVec 32 × BitVec 32 × BitVec 32 × BitVec 32 × BitVec 32 :=
  if r.val < 1 then
    (4#32, 5#32, 1#32, 2#32, 6#32, 3#32)
  else
    (2#32, 6#32, 4#32, 1#32, 3#32, 5#32)
def k0_off18 (d0 : Dev nD) (c4_i32_98 : BitVec 32) (c5_i32_101 : BitVec 32) (c1_i32_104 : BitVec 32) (c2_i32_107 : BitVec 32) (c6_i32_110 : BitVec 32) (c3_i32_116 : BitVec 32) : Fin 2 → Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c0_i32_926 : BitVec 32 := 0#32
  let v1119 : BitVec 1 := Scalar.cmpi .sgt v122 c0_i32_926
  let v1120 : BitVec 32 := Scalar.extui v1119
  let c0_i32_927 : BitVec 32 := 0#32
  let v1121 : BitVec 1 := Scalar.cmpi .slt v122 c0_i32_927
  let v1122 : BitVec 32 := Scalar.extui v1121
  let v1123 : BitVec 32 := Scalar.subi v1120 v1122
  let c4_i32_925 : BitVec 32 := 4#32
  let c0_i32_928 : BitVec 32 := 0#32
  let v1124 : BitVec 1 := Scalar.cmpi .sgt c4_i32_925 c0_i32_928
  let v1125 : BitVec 32 := Scalar.extui v1124
  let c0_i32_929 : BitVec 32 := 0#32
  let v1126 : BitVec 1 := Scalar.cmpi .slt c4_i32_925 c0_i32_929
  let v1127 : BitVec 32 := Scalar.extui v1126
  let v1128 : BitVec 32 := Scalar.subi v1125 v1127
  let v1129 : BitVec 1 := Scalar.cmpi .ne v1123 v1128
  let v1130 : BitVec 32 := Scalar.remsi v122 c4_i32_925
  let c0_i32_930 : BitVec 32 := 0#32
  let v1131 : BitVec 1 := Scalar.cmpi .ne v1130 c0_i32_930
  let v1132 : BitVec 1 := Scalar.andi v1129 v1131
  let v1118 : BitVec 32 := Scalar.divsi v122 c4_i32_925
  let c1_i32_931 : BitVec 32 := 1#32
  let v1133 : BitVec 32 := Scalar.subi v1118 c1_i32_931
  let v1134 : BitVec 32 := Scalar.select v1132 v1133 v1118
  let c4_i32_932 : BitVec 32 := 4#32
  let v1135 : BitVec 32 := Scalar.muli v1134 c4_i32_932
  let c1_i32_933 : BitVec 32 := 1#32
  let c0_i32_913 : BitVec 32 := 0#32
  let v1092 : BitVec 1 := Scalar.cmpi .sgt v122 c0_i32_913
  let v1093 : BitVec 32 := Scalar.extui v1092
  let c0_i32_914 : BitVec 32 := 0#32
  let v1094 : BitVec 1 := Scalar.cmpi .slt v122 c0_i32_914
  let v1095 : BitVec 32 := Scalar.extui v1094
  let v1096 : BitVec 32 := Scalar.subi v1093 v1095
  let c2_i32_912 : BitVec 32 := 2#32
  let c0_i32_915 : BitVec 32 := 0#32
  let v1097 : BitVec 1 := Scalar.cmpi .sgt c2_i32_912 c0_i32_915
  let v1098 : BitVec 32 := Scalar.extui v1097
  let c0_i32_916 : BitVec 32 := 0#32
  let v1099 : BitVec 1 := Scalar.cmpi .slt c2_i32_912 c0_i32_916
  let v1100 : BitVec 32 := Scalar.extui v1099
  let v1101 : BitVec 32 := Scalar.subi v1098 v1100
  let v1102 : BitVec 1 := Scalar.cmpi .ne v1096 v1101
  let v1103 : BitVec 32 := Scalar.remsi v122 c2_i32_912
  let c0_i32_917 : BitVec 32 := 0#32
  let v1104 : BitVec 1 := Scalar.cmpi .ne v1103 c0_i32_917
  let v1105 : BitVec 1 := Scalar.andi v1102 v1104
  let v1091 : BitVec 32 := Scalar.divsi v122 c2_i32_912
  let c1_i32_918 : BitVec 32 := 1#32
  let v1106 : BitVec 32 := Scalar.subi v1091 c1_i32_918
  let v1107 : BitVec 32 := Scalar.select v1105 v1106 v1091
  let c2_i32_919 : BitVec 32 := 2#32
  let c0_i32_920 : BitVec 32 := 0#32
  let v1108 : BitVec 1 := Scalar.cmpi .eq c2_i32_919 c0_i32_920
  let c1_i32_921 : BitVec 32 := 1#32
  let v1109 : BitVec 32 := Scalar.select v1108 c1_i32_921 c2_i32_919
  let v1110 : BitVec 32 := Scalar.remsi v1107 v1109
  let c0_i32_923 : BitVec 32 := 0#32
  let v1112 : BitVec 1 := Scalar.cmpi .slt v1110 c0_i32_923
  let c0_i32_924 : BitVec 32 := 0#32
  let v1113 : BitVec 1 := Scalar.cmpi .slt v1109 c0_i32_924
  let v1114 : BitVec 1 := Scalar.xori v1112 v1113
  let c0_i32_922 : BitVec 32 := 0#32
  let v1111 : BitVec 1 := Scalar.cmpi .ne v1110 c0_i32_922
  let v1115 : BitVec 1 := Scalar.andi v1114 v1111
  let v1116 : BitVec 32 := Scalar.addi v1110 v1109
  let v1117 : BitVec 32 := Scalar.select v1115 v1116 v1110
  let v1136 : BitVec 32 := Scalar.subi c1_i32_933 v1117
  let c2_i32_934 : BitVec 32 := 2#32
  let v1137 : BitVec 32 := Scalar.muli v1136 c2_i32_934
  let v1138 : BitVec 32 := Scalar.addi v1135 v1137
  let c1_i32_969 : BitVec 32 := 1#32
  let v1177 : BitVec 32 := Scalar.addi v1138 c1_i32_969
  let c1360_i32_997 : BitVec 32 := 1360#32
  let v1203 : BitVec 32 := Scalar.muli v1177 c1360_i32_997
  let v1204 : Index := Scalar.indexCast v1203
  let c0_998 : Index := 0#32
  ![v1204.toNat, 0]
def k0_off18_at (r : Fin 2) : BitVec 32 × BitVec 32 × BitVec 32 × BitVec 32 × BitVec 32 × BitVec 32 :=
  if r.val < 1 then
    (4#32, 5#32, 1#32, 2#32, 6#32, 3#32)
  else
    (2#32, 6#32, 4#32, 1#32, 3#32, 5#32)
def k0_off19 (d0 : Dev nD) (c0_i32_1150 : BitVec 32) : Fin 2 → Nat :=
  let c1_i32_1148 : BitVec 32 := 1#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c1_i32_73 : BitVec 32 := 1#32
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c3_i32_76 : BitVec 32 := 3#32
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c2_i32_79 : BitVec 32 := 2#32
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c4_i32_82 : BitVec 32 := 4#32
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c5_i32_85 : BitVec 32 := 5#32
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c6_i32_91 : BitVec 32 := 6#32
  let c0_i32_92 : BitVec 32 := 0#32
  let v97 : BitVec 32 := Scalar.select v96 c6_i32_91 c0_i32_92
  let v98 : BitVec 32 := Scalar.addi v95 v97
  let c0_i32_1142 : BitVec 32 := 0#32
  let v1372 : BitVec 1 := Scalar.cmpi .sgt v98 c0_i32_1142
  let v1373 : BitVec 32 := Scalar.extui v1372
  let c0_i32_1143 : BitVec 32 := 0#32
  let v1374 : BitVec 1 := Scalar.cmpi .slt v98 c0_i32_1143
  let v1375 : BitVec 32 := Scalar.extui v1374
  let v1376 : BitVec 32 := Scalar.subi v1373 v1375
  let c4_i32_1141 : BitVec 32 := 4#32
  let c0_i32_1144 : BitVec 32 := 0#32
  let v1377 : BitVec 1 := Scalar.cmpi .sgt c4_i32_1141 c0_i32_1144
  let v1378 : BitVec 32 := Scalar.extui v1377
  let c0_i32_1145 : BitVec 32 := 0#32
  let v1379 : BitVec 1 := Scalar.cmpi .slt c4_i32_1141 c0_i32_1145
  let v1380 : BitVec 32 := Scalar.extui v1379
  let v1381 : BitVec 32 := Scalar.subi v1378 v1380
  let v1382 : BitVec 1 := Scalar.cmpi .ne v1376 v1381
  let v1383 : BitVec 32 := Scalar.remsi v98 c4_i32_1141
  let c0_i32_1146 : BitVec 32 := 0#32
  let v1384 : BitVec 1 := Scalar.cmpi .ne v1383 c0_i32_1146
  let v1385 : BitVec 1 := Scalar.andi v1382 v1384
  let v1371 : BitVec 32 := Scalar.divsi v98 c4_i32_1141
  let c1_i32_1147 : BitVec 32 := 1#32
  let v1386 : BitVec 32 := Scalar.subi v1371 c1_i32_1147
  let v1387 : BitVec 32 := Scalar.select v1385 v1386 v1371
  let v1388 : BitVec 32 := Scalar.subi c1_i32_1148 v1387
  let c4_i32_1149 : BitVec 32 := 4#32
  let v1389 : BitVec 32 := Scalar.muli v1388 c4_i32_1149
  let v1390 : BitVec 32 := Scalar.addi v1389 c0_i32_1150
  let c1376_i32_1178 : BitVec 32 := 1376#32
  let v1416 : BitVec 32 := Scalar.muli v1390 c1376_i32_1178
  let v1417 : Index := Scalar.indexCast v1416
  let c0_1179 : Index := 0#32
  ![v1417.toNat, 0]
def k0_off20 (d0 : Dev nD) (c1_i32_73 : BitVec 32) (c3_i32_76 : BitVec 32) (c2_i32_79 : BitVec 32) (c4_i32_82 : BitVec 32) (c5_i32_85 : BitVec 32) (c6_i32_91 : BitVec 32) (c0_i32_1150 : BitVec 32) (c1_i32_1156 : BitVec 32) (c3_i32_1159 : BitVec 32) (c2_i32_1162 : BitVec 32) (c4_i32_1165 : BitVec 32) (c5_i32_1168 : BitVec 32) (c7_i32_1171 : BitVec 32) : Fin 2 → Nat :=
  let c0_1182 : Index := 0#32
  let c0_i32_1154 : BitVec 32 := 0#32
  let c1_i32_1148 : BitVec 32 := 1#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v75 : BitVec 1 := Scalar.cmpi .eq v2 c0_i32_68
  let c0_i32_69 : BitVec 32 := 0#32
  let c0_i32_70 : BitVec 32 := 0#32
  let v76 : BitVec 32 := Scalar.select v75 c0_i32_69 c0_i32_70
  let v77 : BitVec 32 := Scalar.addi c0_i32_71 v76
  let c1_i32_72 : BitVec 32 := 1#32
  let v78 : BitVec 1 := Scalar.cmpi .eq v2 c1_i32_72
  let c0_i32_74 : BitVec 32 := 0#32
  let v79 : BitVec 32 := Scalar.select v78 c1_i32_73 c0_i32_74
  let v80 : BitVec 32 := Scalar.addi v77 v79
  let c2_i32_75 : BitVec 32 := 2#32
  let v81 : BitVec 1 := Scalar.cmpi .eq v2 c2_i32_75
  let c0_i32_77 : BitVec 32 := 0#32
  let v82 : BitVec 32 := Scalar.select v81 c3_i32_76 c0_i32_77
  let v83 : BitVec 32 := Scalar.addi v80 v82
  let c3_i32_78 : BitVec 32 := 3#32
  let v84 : BitVec 1 := Scalar.cmpi .eq v2 c3_i32_78
  let c0_i32_80 : BitVec 32 := 0#32
  let v85 : BitVec 32 := Scalar.select v84 c2_i32_79 c0_i32_80
  let v86 : BitVec 32 := Scalar.addi v83 v85
  let c4_i32_81 : BitVec 32 := 4#32
  let v87 : BitVec 1 := Scalar.cmpi .eq v2 c4_i32_81
  let c0_i32_83 : BitVec 32 := 0#32
  let v88 : BitVec 32 := Scalar.select v87 c4_i32_82 c0_i32_83
  let v89 : BitVec 32 := Scalar.addi v86 v88
  let c5_i32_84 : BitVec 32 := 5#32
  let v90 : BitVec 1 := Scalar.cmpi .eq v2 c5_i32_84
  let c0_i32_86 : BitVec 32 := 0#32
  let v91 : BitVec 32 := Scalar.select v90 c5_i32_85 c0_i32_86
  let v92 : BitVec 32 := Scalar.addi v89 v91
  let c6_i32_87 : BitVec 32 := 6#32
  let v93 : BitVec 1 := Scalar.cmpi .eq v2 c6_i32_87
  let c7_i32_88 : BitVec 32 := 7#32
  let c0_i32_89 : BitVec 32 := 0#32
  let v94 : BitVec 32 := Scalar.select v93 c7_i32_88 c0_i32_89
  let v95 : BitVec 32 := Scalar.addi v92 v94
  let c7_i32_90 : BitVec 32 := 7#32
  let v96 : BitVec 1 := Scalar.cmpi .eq v2 c7_i32_90
  let c0_i32_92 : BitVec 32 := 0#32
  let v97 : BitVec 32 := Scalar.select v96 c6_i32_91 c0_i32_92
  let v98 : BitVec 32 := Scalar.addi v95 v97
  let c0_i32_1142 : BitVec 32 := 0#32
  let v1372 : BitVec 1 := Scalar.cmpi .sgt v98 c0_i32_1142
  let v1373 : BitVec 32 := Scalar.extui v1372
  let c0_i32_1143 : BitVec 32 := 0#32
  let v1374 : BitVec 1 := Scalar.cmpi .slt v98 c0_i32_1143
  let v1375 : BitVec 32 := Scalar.extui v1374
  let v1376 : BitVec 32 := Scalar.subi v1373 v1375
  let c4_i32_1141 : BitVec 32 := 4#32
  let c0_i32_1144 : BitVec 32 := 0#32
  let v1377 : BitVec 1 := Scalar.cmpi .sgt c4_i32_1141 c0_i32_1144
  let v1378 : BitVec 32 := Scalar.extui v1377
  let c0_i32_1145 : BitVec 32 := 0#32
  let v1379 : BitVec 1 := Scalar.cmpi .slt c4_i32_1141 c0_i32_1145
  let v1380 : BitVec 32 := Scalar.extui v1379
  let v1381 : BitVec 32 := Scalar.subi v1378 v1380
  let v1382 : BitVec 1 := Scalar.cmpi .ne v1376 v1381
  let v1383 : BitVec 32 := Scalar.remsi v98 c4_i32_1141
  let c0_i32_1146 : BitVec 32 := 0#32
  let v1384 : BitVec 1 := Scalar.cmpi .ne v1383 c0_i32_1146
  let v1385 : BitVec 1 := Scalar.andi v1382 v1384
  let v1371 : BitVec 32 := Scalar.divsi v98 c4_i32_1141
  let c1_i32_1147 : BitVec 32 := 1#32
  let v1386 : BitVec 32 := Scalar.subi v1371 c1_i32_1147
  let v1387 : BitVec 32 := Scalar.select v1385 v1386 v1371
  let v1388 : BitVec 32 := Scalar.subi c1_i32_1148 v1387
  let c4_i32_1149 : BitVec 32 := 4#32
  let v1389 : BitVec 32 := Scalar.muli v1388 c4_i32_1149
  let v1390 : BitVec 32 := Scalar.addi v1389 c0_i32_1150
  let c0_i32_1151 : BitVec 32 := 0#32
  let v1391 : BitVec 1 := Scalar.cmpi .eq v1390 c0_i32_1151
  let c0_i32_1152 : BitVec 32 := 0#32
  let c0_i32_1153 : BitVec 32 := 0#32
  let v1392 : BitVec 32 := Scalar.select v1391 c0_i32_1152 c0_i32_1153
  let v1393 : BitVec 32 := Scalar.addi c0_i32_1154 v1392
  let c1_i32_1155 : BitVec 32 := 1#32
  let v1394 : BitVec 1 := Scalar.cmpi .eq v1390 c1_i32_1155
  let c0_i32_1157 : BitVec 32 := 0#32
  let v1395 : BitVec 32 := Scalar.select v1394 c1_i32_1156 c0_i32_1157
  let v1396 : BitVec 32 := Scalar.addi v1393 v1395
  let c2_i32_1158 : BitVec 32 := 2#32
  let v1397 : BitVec 1 := Scalar.cmpi .eq v1390 c2_i32_1158
  let c0_i32_1160 : BitVec 32 := 0#32
  let v1398 : BitVec 32 := Scalar.select v1397 c3_i32_1159 c0_i32_1160
  let v1399 : BitVec 32 := Scalar.addi v1396 v1398
  let c3_i32_1161 : BitVec 32 := 3#32
  let v1400 : BitVec 1 := Scalar.cmpi .eq v1390 c3_i32_1161
  let c0_i32_1163 : BitVec 32 := 0#32
  let v1401 : BitVec 32 := Scalar.select v1400 c2_i32_1162 c0_i32_1163
  let v1402 : BitVec 32 := Scalar.addi v1399 v1401
  let c4_i32_1164 : BitVec 32 := 4#32
  let v1403 : BitVec 1 := Scalar.cmpi .eq v1390 c4_i32_1164
  let c0_i32_1166 : BitVec 32 := 0#32
  let v1404 : BitVec 32 := Scalar.select v1403 c4_i32_1165 c0_i32_1166
  let v1405 : BitVec 32 := Scalar.addi v1402 v1404
  let c5_i32_1167 : BitVec 32 := 5#32
  let v1406 : BitVec 1 := Scalar.cmpi .eq v1390 c5_i32_1167
  let c0_i32_1169 : BitVec 32 := 0#32
  let v1407 : BitVec 32 := Scalar.select v1406 c5_i32_1168 c0_i32_1169
  let v1408 : BitVec 32 := Scalar.addi v1405 v1407
  let c6_i32_1170 : BitVec 32 := 6#32
  let v1409 : BitVec 1 := Scalar.cmpi .eq v1390 c6_i32_1170
  let c0_i32_1172 : BitVec 32 := 0#32
  let v1410 : BitVec 32 := Scalar.select v1409 c7_i32_1171 c0_i32_1172
  let v1411 : BitVec 32 := Scalar.addi v1408 v1410
  let c7_i32_1173 : BitVec 32 := 7#32
  let v1412 : BitVec 1 := Scalar.cmpi .eq v1390 c7_i32_1173
  let c6_i32_1174 : BitVec 32 := 6#32
  let c0_i32_1175 : BitVec 32 := 0#32
  let v1413 : BitVec 32 := Scalar.select v1412 c6_i32_1174 c0_i32_1175
  let v1414 : BitVec 32 := Scalar.addi v1411 v1413
  let c256_i32_1181 : BitVec 32 := 256#32
  let v1420 : BitVec 32 := Scalar.muli v1414 c256_i32_1181
  let v1421 : Index := Scalar.indexCast v1420
  ![0, v1421.toNat]
def k0_off20_at (r : Fin 12) : BitVec 32 × BitVec 32 × BitVec 32 × BitVec 32 × BitVec 32 × BitVec 32 × BitVec 32 × BitVec 32 × BitVec 32 × BitVec 32 × BitVec 32 × BitVec 32 × BitVec 32 :=
  if r.val < 6 then
    if r.val < 3 then
      if r.val < 1 then
        (1#32, 3#32, 2#32, 4#32, 5#32, 6#32, 0#32, 1#32, 3#32, 2#32, 4#32, 5#32, 7#32)
      else
        if r.val < 2 then
          (4#32, 5#32, 1#32, 2#32, 6#32, 3#32, 0#32, 3#32, 4#32, 7#32, 1#32, 2#32, 5#32)
        else
          (2#32, 6#32, 4#32, 1#32, 3#32, 5#32, 0#32, 4#32, 1#32, 5#32, 3#32, 7#32, 2#32)
    else
      if r.val < 4 then
        (1#32, 3#32, 2#32, 4#32, 5#32, 6#32, 1#32, 1#32, 3#32, 2#32, 4#32, 5#32, 7#32)
      else
        if r.val < 5 then
          (4#32, 5#32, 1#32, 2#32, 6#32, 3#32, 1#32, 3#32, 4#32, 7#32, 1#32, 2#32, 5#32)
        else
          (2#32, 6#32, 4#32, 1#32, 3#32, 5#32, 1#32, 4#32, 1#32, 5#32, 3#32, 7#32, 2#32)
  else
    if r.val < 9 then
      if r.val < 7 then
        (1#32, 3#32, 2#32, 4#32, 5#32, 6#32, 2#32, 1#32, 3#32, 2#32, 4#32, 5#32, 7#32)
      else
        if r.val < 8 then
          (4#32, 5#32, 1#32, 2#32, 6#32, 3#32, 2#32, 3#32, 4#32, 7#32, 1#32, 2#32, 5#32)
        else
          (2#32, 6#32, 4#32, 1#32, 3#32, 5#32, 2#32, 4#32, 1#32, 5#32, 3#32, 7#32, 2#32)
    else
      if r.val < 10 then
        (1#32, 3#32, 2#32, 4#32, 5#32, 6#32, 3#32, 1#32, 3#32, 2#32, 4#32, 5#32, 7#32)
      else
        if r.val < 11 then
          (4#32, 5#32, 1#32, 2#32, 6#32, 3#32, 3#32, 3#32, 4#32, 7#32, 1#32, 2#32, 5#32)
        else
          (2#32, 6#32, 4#32, 1#32, 3#32, 5#32, 3#32, 4#32, 1#32, 5#32, 3#32, 7#32, 2#32)
def k0_off21 (d0 : Dev nD) (c4_i32_98 : BitVec 32) (c5_i32_101 : BitVec 32) (c1_i32_104 : BitVec 32) (c2_i32_107 : BitVec 32) (c6_i32_110 : BitVec 32) (c3_i32_116 : BitVec 32) (c0_i32_1194 : BitVec 32) : Fin 2 → Nat :=
  let c1_i32_1192 : BitVec 32 := 1#32
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_93 : BitVec 32 := 0#32
  let v99 : BitVec 1 := Scalar.cmpi .eq v2 c0_i32_93
  let c0_i32_94 : BitVec 32 := 0#32
  let c0_i32_95 : BitVec 32 := 0#32
  let v100 : BitVec 32 := Scalar.select v99 c0_i32_94 c0_i32_95
  let v101 : BitVec 32 := Scalar.addi c0_i32_96 v100
  let c1_i32_97 : BitVec 32 := 1#32
  let v102 : BitVec 1 := Scalar.cmpi .eq v2 c1_i32_97
  let c0_i32_99 : BitVec 32 := 0#32
  let v103 : BitVec 32 := Scalar.select v102 c4_i32_98 c0_i32_99
  let v104 : BitVec 32 := Scalar.addi v101 v103
  let c2_i32_100 : BitVec 32 := 2#32
  let v105 : BitVec 1 := Scalar.cmpi .eq v2 c2_i32_100
  let c0_i32_102 : BitVec 32 := 0#32
  let v106 : BitVec 32 := Scalar.select v105 c5_i32_101 c0_i32_102
  let v107 : BitVec 32 := Scalar.addi v104 v106
  let c3_i32_103 : BitVec 32 := 3#32
  let v108 : BitVec 1 := Scalar.cmpi .eq v2 c3_i32_103
  let c0_i32_105 : BitVec 32 := 0#32
  let v109 : BitVec 32 := Scalar.select v108 c1_i32_104 c0_i32_105
  let v110 : BitVec 32 := Scalar.addi v107 v109
  let c4_i32_106 : BitVec 32 := 4#32
  let v111 : BitVec 1 := Scalar.cmpi .eq v2 c4_i32_106
  let c0_i32_108 : BitVec 32 := 0#32
  let v112 : BitVec 32 := Scalar.select v111 c2_i32_107 c0_i32_108
  let v113 : BitVec 32 := Scalar.addi v110 v112
  let c5_i32_109 : BitVec 32 := 5#32
  let v114 : BitVec 1 := Scalar.cmpi .eq v2 c5_i32_109
  let c0_i32_111 : BitVec 32 := 0#32
  let v115 : BitVec 32 := Scalar.select v114 c6_i32_110 c0_i32_111
  let v116 : BitVec 32 := Scalar.addi v113 v115
  let c6_i32_112 : BitVec 32 := 6#32
  let v117 : BitVec 1 := Scalar.cmpi .eq v2 c6_i32_112
  let c7_i32_113 : BitVec 32 := 7#32
  let c0_i32_114 : BitVec 32 := 0#32
  let v118 : BitVec 32 := Scalar.select v117 c7_i32_113 c0_i32_114
  let v119 : BitVec 32 := Scalar.addi v116 v118
  let c7_i32_115 : BitVec 32 := 7#32
  let v120 : BitVec 1 := Scalar.cmpi .eq v2 c7_i32_115
  let c0_i32_117 : BitVec 32 := 0#32
  let v121 : BitVec 32 := Scalar.select v120 c3_i32_116 c0_i32_117
  let v122 : BitVec 32 := Scalar.addi v119 v121
  let c0_i32_1186 : BitVec 32 := 0#32
  let v1430 : BitVec 1 := Scalar.cmpi .sgt v122 c0_i32_1186
  let v1431 : BitVec 32 := Scalar.extui v1430
  let c0_i32_1187 : BitVec 32 := 0#32
  let v1432 : BitVec 1 := Scalar.cmpi .slt v122 c0_i32_1187
  let v1433 : BitVec 32 := Scalar.extui v1432
  let v1434 : BitVec 32 := Scalar.subi v1431 v1433
  let c4_i32_1185 : BitVec 32 := 4#32
  let c0_i32_1188 : BitVec 32 := 0#32
  let v1435 : BitVec 1 := Scalar.cmpi .sgt c4_i32_1185 c0_i32_1188
  let v1436 : BitVec 32 := Scalar.extui v1435
  let c0_i32_1189 : BitVec 32 := 0#32
  let v1437 : BitVec 1 := Scalar.cmpi .slt c4_i32_1185 c0_i32_1189
  let v1438 : BitVec 32 := Scalar.extui v1437
  let v1439 : BitVec 32 := Scalar.subi v1436 v1438
  let v1440 : BitVec 1 := Scalar.cmpi .ne v1434 v1439
  let v1441 : BitVec 32 := Scalar.remsi v122 c4_i32_1185
  let c0_i32_1190 : BitVec 32 := 0#32
  let v1442 : BitVec 1 := Scalar.cmpi .ne v1441 c0_i32_1190
  let v1443 : BitVec 1 := Scalar.andi v1440 v1442
  let v1429 : BitVec 32 := Scalar.divsi v122 c4_i32_1185
  let c1_i32_1191 : BitVec 32 := 1#32
  let v1444 : BitVec 32 := Scalar.subi v1429 c1_i32_1191
  let v1445 : BitVec 32 := Scalar.select v1443 v1444 v1429
  let v1446 : BitVec 32 := Scalar.subi c1_i32_1192 v1445
  let c4_i32_1193 : BitVec 32 := 4#32
  let v1447 : BitVec 32 := Scalar.muli v1446 c4_i32_1193
  let v1448 : BitVec 32 := Scalar.addi v1447 c0_i32_1194
  let c1360_i32_1222 : BitVec 32 := 1360#32
  let v1474 : BitVec 32 := Scalar.muli v1448 c1360_i32_1222
  let v1475 : Index := Scalar.indexCast v1474
  let c0_1223 : Index := 0#32
  ![v1475.toNat, 0]
def k0_off21_at (r : Fin 8) : BitVec 32 × BitVec 32 × BitVec 32 × BitVec 32 × BitVec 32 × BitVec 32 × BitVec 32 :=
  if r.val < 4 then
    if r.val < 2 then
      if r.val < 1 then
        (4#32, 5#32, 1#32, 2#32, 6#32, 3#32, 0#32)
      else
        (2#32, 6#32, 4#32, 1#32, 3#32, 5#32, 0#32)
    else
      if r.val < 3 then
        (4#32, 5#32, 1#32, 2#32, 6#32, 3#32, 1#32)
      else
        (2#32, 6#32, 4#32, 1#32, 3#32, 5#32, 1#32)
  else
    if r.val < 6 then
      if r.val < 5 then
        (4#32, 5#32, 1#32, 2#32, 6#32, 3#32, 2#32)
      else
        (2#32, 6#32, 4#32, 1#32, 3#32, 5#32, 2#32)
    else
      if r.val < 7 then
        (4#32, 5#32, 1#32, 2#32, 6#32, 3#32, 3#32)
      else
        (2#32, 6#32, 4#32, 1#32, 3#32, 5#32, 3#32)
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2164 : Index := Scalar.indexCast v2
  let c0_1807 : Index := 0#32
  let c0_1808 : Index := 0#32
  ![v2164.toNat, 0, 0]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1820 : BitVec 32 := 0#32
  let c0_i32_1821 : BitVec 32 := 0#32
  ![v2.toNat, 0, 0]
def k0_dev26 (d0 : Dev nD) : Nat :=
  let c0_i32_1819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1809 : BitVec 32 := 1#32
  let v2168 : BitVec 32 := Scalar.addi v2 c1_i32_1809
  let c8_i32_1810 : BitVec 32 := 8#32
  let c0_i32_1811 : BitVec 32 := 0#32
  let v2169 : BitVec 1 := Scalar.cmpi .eq c8_i32_1810 c0_i32_1811
  let c1_i32_1812 : BitVec 32 := 1#32
  let v2170 : BitVec 32 := Scalar.select v2169 c1_i32_1812 c8_i32_1810
  let v2171 : BitVec 32 := Scalar.remsi v2168 v2170
  let c0_i32_1814 : BitVec 32 := 0#32
  let v2173 : BitVec 1 := Scalar.cmpi .slt v2171 c0_i32_1814
  let c0_i32_1815 : BitVec 32 := 0#32
  let v2174 : BitVec 1 := Scalar.cmpi .slt v2170 c0_i32_1815
  let v2175 : BitVec 1 := Scalar.xori v2173 v2174
  let c0_i32_1813 : BitVec 32 := 0#32
  let v2172 : BitVec 1 := Scalar.cmpi .ne v2171 c0_i32_1813
  let v2176 : BitVec 1 := Scalar.andi v2175 v2172
  let v2177 : BitVec 32 := Scalar.addi v2171 v2170
  let v2178 : BitVec 32 := Scalar.select v2176 v2177 v2171
  let c1_i32_1818 : BitVec 32 := 1#32
  let v2179 : BitVec 32 := Scalar.muli v2178 c1_i32_1818
  let v2180 : BitVec 32 := Scalar.addi c0_i32_1819 v2179
  v2180.toNat
def k0_dev27 (d0 : Dev nD) : Nat :=
  let c0_i32_1834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1824 : BitVec 32 := 2#32
  let v2187 : BitVec 32 := Scalar.addi v2 c2_i32_1824
  let c8_i32_1825 : BitVec 32 := 8#32
  let c0_i32_1826 : BitVec 32 := 0#32
  let v2188 : BitVec 1 := Scalar.cmpi .eq c8_i32_1825 c0_i32_1826
  let c1_i32_1827 : BitVec 32 := 1#32
  let v2189 : BitVec 32 := Scalar.select v2188 c1_i32_1827 c8_i32_1825
  let v2190 : BitVec 32 := Scalar.remsi v2187 v2189
  let c0_i32_1829 : BitVec 32 := 0#32
  let v2192 : BitVec 1 := Scalar.cmpi .slt v2190 c0_i32_1829
  let c0_i32_1830 : BitVec 32 := 0#32
  let v2193 : BitVec 1 := Scalar.cmpi .slt v2189 c0_i32_1830
  let v2194 : BitVec 1 := Scalar.xori v2192 v2193
  let c0_i32_1828 : BitVec 32 := 0#32
  let v2191 : BitVec 1 := Scalar.cmpi .ne v2190 c0_i32_1828
  let v2195 : BitVec 1 := Scalar.andi v2194 v2191
  let v2196 : BitVec 32 := Scalar.addi v2190 v2189
  let v2197 : BitVec 32 := Scalar.select v2195 v2196 v2190
  let c1_i32_1833 : BitVec 32 := 1#32
  let v2198 : BitVec 32 := Scalar.muli v2197 c1_i32_1833
  let v2199 : BitVec 32 := Scalar.addi c0_i32_1834 v2198
  v2199.toNat
def k0_dev28 (d0 : Dev nD) : Nat :=
  let c0_i32_1849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1839 : BitVec 32 := 3#32
  let v2206 : BitVec 32 := Scalar.addi v2 c3_i32_1839
  let c8_i32_1840 : BitVec 32 := 8#32
  let c0_i32_1841 : BitVec 32 := 0#32
  let v2207 : BitVec 1 := Scalar.cmpi .eq c8_i32_1840 c0_i32_1841
  let c1_i32_1842 : BitVec 32 := 1#32
  let v2208 : BitVec 32 := Scalar.select v2207 c1_i32_1842 c8_i32_1840
  let v2209 : BitVec 32 := Scalar.remsi v2206 v2208
  let c0_i32_1844 : BitVec 32 := 0#32
  let v2211 : BitVec 1 := Scalar.cmpi .slt v2209 c0_i32_1844
  let c0_i32_1845 : BitVec 32 := 0#32
  let v2212 : BitVec 1 := Scalar.cmpi .slt v2208 c0_i32_1845
  let v2213 : BitVec 1 := Scalar.xori v2211 v2212
  let c0_i32_1843 : BitVec 32 := 0#32
  let v2210 : BitVec 1 := Scalar.cmpi .ne v2209 c0_i32_1843
  let v2214 : BitVec 1 := Scalar.andi v2213 v2210
  let v2215 : BitVec 32 := Scalar.addi v2209 v2208
  let v2216 : BitVec 32 := Scalar.select v2214 v2215 v2209
  let c1_i32_1848 : BitVec 32 := 1#32
  let v2217 : BitVec 32 := Scalar.muli v2216 c1_i32_1848
  let v2218 : BitVec 32 := Scalar.addi c0_i32_1849 v2217
  v2218.toNat
def k0_dev29 (d0 : Dev nD) : Nat :=
  let c0_i32_1864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1854 : BitVec 32 := 4#32
  let v2225 : BitVec 32 := Scalar.addi v2 c4_i32_1854
  let c8_i32_1855 : BitVec 32 := 8#32
  let c0_i32_1856 : BitVec 32 := 0#32
  let v2226 : BitVec 1 := Scalar.cmpi .eq c8_i32_1855 c0_i32_1856
  let c1_i32_1857 : BitVec 32 := 1#32
  let v2227 : BitVec 32 := Scalar.select v2226 c1_i32_1857 c8_i32_1855
  let v2228 : BitVec 32 := Scalar.remsi v2225 v2227
  let c0_i32_1859 : BitVec 32 := 0#32
  let v2230 : BitVec 1 := Scalar.cmpi .slt v2228 c0_i32_1859
  let c0_i32_1860 : BitVec 32 := 0#32
  let v2231 : BitVec 1 := Scalar.cmpi .slt v2227 c0_i32_1860
  let v2232 : BitVec 1 := Scalar.xori v2230 v2231
  let c0_i32_1858 : BitVec 32 := 0#32
  let v2229 : BitVec 1 := Scalar.cmpi .ne v2228 c0_i32_1858
  let v2233 : BitVec 1 := Scalar.andi v2232 v2229
  let v2234 : BitVec 32 := Scalar.addi v2228 v2227
  let v2235 : BitVec 32 := Scalar.select v2233 v2234 v2228
  let c1_i32_1863 : BitVec 32 := 1#32
  let v2236 : BitVec 32 := Scalar.muli v2235 c1_i32_1863
  let v2237 : BitVec 32 := Scalar.addi c0_i32_1864 v2236
  v2237.toNat
def k0_dev30 (d0 : Dev nD) : Nat :=
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1869 : BitVec 32 := 5#32
  let v2244 : BitVec 32 := Scalar.addi v2 c5_i32_1869
  let c8_i32_1870 : BitVec 32 := 8#32
  let c0_i32_1871 : BitVec 32 := 0#32
  let v2245 : BitVec 1 := Scalar.cmpi .eq c8_i32_1870 c0_i32_1871
  let c1_i32_1872 : BitVec 32 := 1#32
  let v2246 : BitVec 32 := Scalar.select v2245 c1_i32_1872 c8_i32_1870
  let v2247 : BitVec 32 := Scalar.remsi v2244 v2246
  let c0_i32_1874 : BitVec 32 := 0#32
  let v2249 : BitVec 1 := Scalar.cmpi .slt v2247 c0_i32_1874
  let c0_i32_1875 : BitVec 32 := 0#32
  let v2250 : BitVec 1 := Scalar.cmpi .slt v2246 c0_i32_1875
  let v2251 : BitVec 1 := Scalar.xori v2249 v2250
  let c0_i32_1873 : BitVec 32 := 0#32
  let v2248 : BitVec 1 := Scalar.cmpi .ne v2247 c0_i32_1873
  let v2252 : BitVec 1 := Scalar.andi v2251 v2248
  let v2253 : BitVec 32 := Scalar.addi v2247 v2246
  let v2254 : BitVec 32 := Scalar.select v2252 v2253 v2247
  let c1_i32_1878 : BitVec 32 := 1#32
  let v2255 : BitVec 32 := Scalar.muli v2254 c1_i32_1878
  let v2256 : BitVec 32 := Scalar.addi c0_i32_1879 v2255
  v2256.toNat
def k0_dev31 (d0 : Dev nD) : Nat :=
  let c0_i32_1894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1884 : BitVec 32 := 6#32
  let v2263 : BitVec 32 := Scalar.addi v2 c6_i32_1884
  let c8_i32_1885 : BitVec 32 := 8#32
  let c0_i32_1886 : BitVec 32 := 0#32
  let v2264 : BitVec 1 := Scalar.cmpi .eq c8_i32_1885 c0_i32_1886
  let c1_i32_1887 : BitVec 32 := 1#32
  let v2265 : BitVec 32 := Scalar.select v2264 c1_i32_1887 c8_i32_1885
  let v2266 : BitVec 32 := Scalar.remsi v2263 v2265
  let c0_i32_1889 : BitVec 32 := 0#32
  let v2268 : BitVec 1 := Scalar.cmpi .slt v2266 c0_i32_1889
  let c0_i32_1890 : BitVec 32 := 0#32
  let v2269 : BitVec 1 := Scalar.cmpi .slt v2265 c0_i32_1890
  let v2270 : BitVec 1 := Scalar.xori v2268 v2269
  let c0_i32_1888 : BitVec 32 := 0#32
  let v2267 : BitVec 1 := Scalar.cmpi .ne v2266 c0_i32_1888
  let v2271 : BitVec 1 := Scalar.andi v2270 v2267
  let v2272 : BitVec 32 := Scalar.addi v2266 v2265
  let v2273 : BitVec 32 := Scalar.select v2271 v2272 v2266
  let c1_i32_1893 : BitVec 32 := 1#32
  let v2274 : BitVec 32 := Scalar.muli v2273 c1_i32_1893
  let v2275 : BitVec 32 := Scalar.addi c0_i32_1894 v2274
  v2275.toNat
def k0_dev32 (d0 : Dev nD) : Nat :=
  let c0_i32_1909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1899 : BitVec 32 := 7#32
  let v2282 : BitVec 32 := Scalar.addi v2 c7_i32_1899
  let c8_i32_1900 : BitVec 32 := 8#32
  let c0_i32_1901 : BitVec 32 := 0#32
  let v2283 : BitVec 1 := Scalar.cmpi .eq c8_i32_1900 c0_i32_1901
  let c1_i32_1902 : BitVec 32 := 1#32
  let v2284 : BitVec 32 := Scalar.select v2283 c1_i32_1902 c8_i32_1900
  let v2285 : BitVec 32 := Scalar.remsi v2282 v2284
  let c0_i32_1904 : BitVec 32 := 0#32
  let v2287 : BitVec 1 := Scalar.cmpi .slt v2285 c0_i32_1904
  let c0_i32_1905 : BitVec 32 := 0#32
  let v2288 : BitVec 1 := Scalar.cmpi .slt v2284 c0_i32_1905
  let v2289 : BitVec 1 := Scalar.xori v2287 v2288
  let c0_i32_1903 : BitVec 32 := 0#32
  let v2286 : BitVec 1 := Scalar.cmpi .ne v2285 c0_i32_1903
  let v2290 : BitVec 1 := Scalar.andi v2289 v2286
  let v2291 : BitVec 32 := Scalar.addi v2285 v2284
  let v2292 : BitVec 32 := Scalar.select v2290 v2291 v2285
  let c1_i32_1908 : BitVec 32 := 1#32
  let v2293 : BitVec 32 := Scalar.muli v2292 c1_i32_1908
  let v2294 : BitVec 32 := Scalar.addi c0_i32_1909 v2293
  v2294.toNat
def k0_off24 (d0 : Dev nD) (c1_i32_1976 : BitVec 32) : Fin 2 → Nat :=
  let c0_1984 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2350 : BitVec 32 := Scalar.addi v2 c1_i32_1976
  let c8_i32_1977 : BitVec 32 := 8#32
  let c0_i32_1978 : BitVec 32 := 0#32
  let v2351 : BitVec 1 := Scalar.cmpi .eq c8_i32_1977 c0_i32_1978
  let c1_i32_1979 : BitVec 32 := 1#32
  let v2352 : BitVec 32 := Scalar.select v2351 c1_i32_1979 c8_i32_1977
  let v2353 : BitVec 32 := Scalar.remsi v2350 v2352
  let c0_i32_1981 : BitVec 32 := 0#32
  let v2355 : BitVec 1 := Scalar.cmpi .slt v2353 c0_i32_1981
  let c0_i32_1982 : BitVec 32 := 0#32
  let v2356 : BitVec 1 := Scalar.cmpi .slt v2352 c0_i32_1982
  let v2357 : BitVec 1 := Scalar.xori v2355 v2356
  let c0_i32_1980 : BitVec 32 := 0#32
  let v2354 : BitVec 1 := Scalar.cmpi .ne v2353 c0_i32_1980
  let v2358 : BitVec 1 := Scalar.andi v2357 v2354
  let v2359 : BitVec 32 := Scalar.addi v2353 v2352
  let v2360 : BitVec 32 := Scalar.select v2358 v2359 v2353
  let c256_i32_1983 : BitVec 32 := 256#32
  let v2361 : BitVec 32 := Scalar.muli v2360 c256_i32_1983
  let v2362 : Index := Scalar.indexCast v2361
  ![0, v2362.toNat]
def k0_off25 (d0 : Dev nD) (c1_i32_1976 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2350 : BitVec 32 := Scalar.addi v2 c1_i32_1976
  let c8_i32_1977 : BitVec 32 := 8#32
  let c0_i32_1978 : BitVec 32 := 0#32
  let v2351 : BitVec 1 := Scalar.cmpi .eq c8_i32_1977 c0_i32_1978
  let c1_i32_1979 : BitVec 32 := 1#32
  let v2352 : BitVec 32 := Scalar.select v2351 c1_i32_1979 c8_i32_1977
  let v2353 : BitVec 32 := Scalar.remsi v2350 v2352
  let c0_i32_1981 : BitVec 32 := 0#32
  let v2355 : BitVec 1 := Scalar.cmpi .slt v2353 c0_i32_1981
  let c0_i32_1982 : BitVec 32 := 0#32
  let v2356 : BitVec 1 := Scalar.cmpi .slt v2352 c0_i32_1982
  let v2357 : BitVec 1 := Scalar.xori v2355 v2356
  let c0_i32_1980 : BitVec 32 := 0#32
  let v2354 : BitVec 1 := Scalar.cmpi .ne v2353 c0_i32_1980
  let v2358 : BitVec 1 := Scalar.andi v2357 v2354
  let v2359 : BitVec 32 := Scalar.addi v2353 v2352
  let v2360 : BitVec 32 := Scalar.select v2358 v2359 v2353
  let c512_i32 : BitVec 32 := 512#32
  let v2372 : BitVec 32 := Scalar.muli v2360 c512_i32
  let v2373 : Index := Scalar.indexCast v2372
  let c0_1987 : Index := 0#32
  ![v2373.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1989 : BitVec 32 := 512#32
  let v2378 : BitVec 32 := Scalar.muli v2 c512_i32_1989
  let c0_i32_1994 : BitVec 32 := 0#32
  ![v2378.toNat, 0]
def k0_off27 (d0 : Dev nD) (c1_i32_1976 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2350 : BitVec 32 := Scalar.addi v2 c1_i32_1976
  let c8_i32_1977 : BitVec 32 := 8#32
  let c0_i32_1978 : BitVec 32 := 0#32
  let v2351 : BitVec 1 := Scalar.cmpi .eq c8_i32_1977 c0_i32_1978
  let c1_i32_1979 : BitVec 32 := 1#32
  let v2352 : BitVec 32 := Scalar.select v2351 c1_i32_1979 c8_i32_1977
  let v2353 : BitVec 32 := Scalar.remsi v2350 v2352
  let c0_i32_1981 : BitVec 32 := 0#32
  let v2355 : BitVec 1 := Scalar.cmpi .slt v2353 c0_i32_1981
  let c0_i32_1982 : BitVec 32 := 0#32
  let v2356 : BitVec 1 := Scalar.cmpi .slt v2352 c0_i32_1982
  let v2357 : BitVec 1 := Scalar.xori v2355 v2356
  let c0_i32_1980 : BitVec 32 := 0#32
  let v2354 : BitVec 1 := Scalar.cmpi .ne v2353 c0_i32_1980
  let v2358 : BitVec 1 := Scalar.andi v2357 v2354
  let v2359 : BitVec 32 := Scalar.addi v2353 v2352
  let v2360 : BitVec 32 := Scalar.select v2358 v2359 v2353
  let c512_i32_1988 : BitVec 32 := 512#32
  let v2377 : BitVec 32 := Scalar.muli v2360 c512_i32_1988
  let c0_i32_1995 : BitVec 32 := 0#32
  ![v2377.toNat, 0]
def k0_dev33 (d0 : Dev nD) : Nat :=
  let c0_i32_1993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1976 : BitVec 32 := 1#32
  let v2350 : BitVec 32 := Scalar.addi v2 c1_i32_1976
  let c8_i32_1977 : BitVec 32 := 8#32
  let c0_i32_1978 : BitVec 32 := 0#32
  let v2351 : BitVec 1 := Scalar.cmpi .eq c8_i32_1977 c0_i32_1978
  let c1_i32_1979 : BitVec 32 := 1#32
  let v2352 : BitVec 32 := Scalar.select v2351 c1_i32_1979 c8_i32_1977
  let v2353 : BitVec 32 := Scalar.remsi v2350 v2352
  let c0_i32_1981 : BitVec 32 := 0#32
  let v2355 : BitVec 1 := Scalar.cmpi .slt v2353 c0_i32_1981
  let c0_i32_1982 : BitVec 32 := 0#32
  let v2356 : BitVec 1 := Scalar.cmpi .slt v2352 c0_i32_1982
  let v2357 : BitVec 1 := Scalar.xori v2355 v2356
  let c0_i32_1980 : BitVec 32 := 0#32
  let v2354 : BitVec 1 := Scalar.cmpi .ne v2353 c0_i32_1980
  let v2358 : BitVec 1 := Scalar.andi v2357 v2354
  let v2359 : BitVec 32 := Scalar.addi v2353 v2352
  let v2360 : BitVec 32 := Scalar.select v2358 v2359 v2353
  let c1_i32_1992 : BitVec 32 := 1#32
  let v2379 : BitVec 32 := Scalar.muli v2360 c1_i32_1992
  let v2380 : BitVec 32 := Scalar.addi c0_i32_1993 v2379
  v2380.toNat
def k0_dev34 (d0 : Dev nD) : Nat :=
  let c0_i32_2014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1996 : BitVec 32 := 2#32
  let v2387 : BitVec 32 := Scalar.addi v2 c2_i32_1996
  let c8_i32_1997 : BitVec 32 := 8#32
  let c0_i32_1998 : BitVec 32 := 0#32
  let v2388 : BitVec 1 := Scalar.cmpi .eq c8_i32_1997 c0_i32_1998
  let c1_i32_1999 : BitVec 32 := 1#32
  let v2389 : BitVec 32 := Scalar.select v2388 c1_i32_1999 c8_i32_1997
  let v2390 : BitVec 32 := Scalar.remsi v2387 v2389
  let c0_i32_2001 : BitVec 32 := 0#32
  let v2392 : BitVec 1 := Scalar.cmpi .slt v2390 c0_i32_2001
  let c0_i32_2002 : BitVec 32 := 0#32
  let v2393 : BitVec 1 := Scalar.cmpi .slt v2389 c0_i32_2002
  let v2394 : BitVec 1 := Scalar.xori v2392 v2393
  let c0_i32_2000 : BitVec 32 := 0#32
  let v2391 : BitVec 1 := Scalar.cmpi .ne v2390 c0_i32_2000
  let v2395 : BitVec 1 := Scalar.andi v2394 v2391
  let v2396 : BitVec 32 := Scalar.addi v2390 v2389
  let v2397 : BitVec 32 := Scalar.select v2395 v2396 v2390
  let c1_i32_2013 : BitVec 32 := 1#32
  let v2416 : BitVec 32 := Scalar.muli v2397 c1_i32_2013
  let v2417 : BitVec 32 := Scalar.addi c0_i32_2014 v2416
  v2417.toNat
def k0_dev35 (d0 : Dev nD) : Nat :=
  let c0_i32_2035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2017 : BitVec 32 := 3#32
  let v2424 : BitVec 32 := Scalar.addi v2 c3_i32_2017
  let c8_i32_2018 : BitVec 32 := 8#32
  let c0_i32_2019 : BitVec 32 := 0#32
  let v2425 : BitVec 1 := Scalar.cmpi .eq c8_i32_2018 c0_i32_2019
  let c1_i32_2020 : BitVec 32 := 1#32
  let v2426 : BitVec 32 := Scalar.select v2425 c1_i32_2020 c8_i32_2018
  let v2427 : BitVec 32 := Scalar.remsi v2424 v2426
  let c0_i32_2022 : BitVec 32 := 0#32
  let v2429 : BitVec 1 := Scalar.cmpi .slt v2427 c0_i32_2022
  let c0_i32_2023 : BitVec 32 := 0#32
  let v2430 : BitVec 1 := Scalar.cmpi .slt v2426 c0_i32_2023
  let v2431 : BitVec 1 := Scalar.xori v2429 v2430
  let c0_i32_2021 : BitVec 32 := 0#32
  let v2428 : BitVec 1 := Scalar.cmpi .ne v2427 c0_i32_2021
  let v2432 : BitVec 1 := Scalar.andi v2431 v2428
  let v2433 : BitVec 32 := Scalar.addi v2427 v2426
  let v2434 : BitVec 32 := Scalar.select v2432 v2433 v2427
  let c1_i32_2034 : BitVec 32 := 1#32
  let v2453 : BitVec 32 := Scalar.muli v2434 c1_i32_2034
  let v2454 : BitVec 32 := Scalar.addi c0_i32_2035 v2453
  v2454.toNat
def k0_dev36 (d0 : Dev nD) : Nat :=
  let c0_i32_2056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2038 : BitVec 32 := 4#32
  let v2461 : BitVec 32 := Scalar.addi v2 c4_i32_2038
  let c8_i32_2039 : BitVec 32 := 8#32
  let c0_i32_2040 : BitVec 32 := 0#32
  let v2462 : BitVec 1 := Scalar.cmpi .eq c8_i32_2039 c0_i32_2040
  let c1_i32_2041 : BitVec 32 := 1#32
  let v2463 : BitVec 32 := Scalar.select v2462 c1_i32_2041 c8_i32_2039
  let v2464 : BitVec 32 := Scalar.remsi v2461 v2463
  let c0_i32_2043 : BitVec 32 := 0#32
  let v2466 : BitVec 1 := Scalar.cmpi .slt v2464 c0_i32_2043
  let c0_i32_2044 : BitVec 32 := 0#32
  let v2467 : BitVec 1 := Scalar.cmpi .slt v2463 c0_i32_2044
  let v2468 : BitVec 1 := Scalar.xori v2466 v2467
  let c0_i32_2042 : BitVec 32 := 0#32
  let v2465 : BitVec 1 := Scalar.cmpi .ne v2464 c0_i32_2042
  let v2469 : BitVec 1 := Scalar.andi v2468 v2465
  let v2470 : BitVec 32 := Scalar.addi v2464 v2463
  let v2471 : BitVec 32 := Scalar.select v2469 v2470 v2464
  let c1_i32_2055 : BitVec 32 := 1#32
  let v2490 : BitVec 32 := Scalar.muli v2471 c1_i32_2055
  let v2491 : BitVec 32 := Scalar.addi c0_i32_2056 v2490
  v2491.toNat
def k0_dev37 (d0 : Dev nD) : Nat :=
  let c0_i32_2077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2059 : BitVec 32 := 5#32
  let v2498 : BitVec 32 := Scalar.addi v2 c5_i32_2059
  let c8_i32_2060 : BitVec 32 := 8#32
  let c0_i32_2061 : BitVec 32 := 0#32
  let v2499 : BitVec 1 := Scalar.cmpi .eq c8_i32_2060 c0_i32_2061
  let c1_i32_2062 : BitVec 32 := 1#32
  let v2500 : BitVec 32 := Scalar.select v2499 c1_i32_2062 c8_i32_2060
  let v2501 : BitVec 32 := Scalar.remsi v2498 v2500
  let c0_i32_2064 : BitVec 32 := 0#32
  let v2503 : BitVec 1 := Scalar.cmpi .slt v2501 c0_i32_2064
  let c0_i32_2065 : BitVec 32 := 0#32
  let v2504 : BitVec 1 := Scalar.cmpi .slt v2500 c0_i32_2065
  let v2505 : BitVec 1 := Scalar.xori v2503 v2504
  let c0_i32_2063 : BitVec 32 := 0#32
  let v2502 : BitVec 1 := Scalar.cmpi .ne v2501 c0_i32_2063
  let v2506 : BitVec 1 := Scalar.andi v2505 v2502
  let v2507 : BitVec 32 := Scalar.addi v2501 v2500
  let v2508 : BitVec 32 := Scalar.select v2506 v2507 v2501
  let c1_i32_2076 : BitVec 32 := 1#32
  let v2527 : BitVec 32 := Scalar.muli v2508 c1_i32_2076
  let v2528 : BitVec 32 := Scalar.addi c0_i32_2077 v2527
  v2528.toNat
def k0_dev38 (d0 : Dev nD) : Nat :=
  let c0_i32_2098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2080 : BitVec 32 := 6#32
  let v2535 : BitVec 32 := Scalar.addi v2 c6_i32_2080
  let c8_i32_2081 : BitVec 32 := 8#32
  let c0_i32_2082 : BitVec 32 := 0#32
  let v2536 : BitVec 1 := Scalar.cmpi .eq c8_i32_2081 c0_i32_2082
  let c1_i32_2083 : BitVec 32 := 1#32
  let v2537 : BitVec 32 := Scalar.select v2536 c1_i32_2083 c8_i32_2081
  let v2538 : BitVec 32 := Scalar.remsi v2535 v2537
  let c0_i32_2085 : BitVec 32 := 0#32
  let v2540 : BitVec 1 := Scalar.cmpi .slt v2538 c0_i32_2085
  let c0_i32_2086 : BitVec 32 := 0#32
  let v2541 : BitVec 1 := Scalar.cmpi .slt v2537 c0_i32_2086
  let v2542 : BitVec 1 := Scalar.xori v2540 v2541
  let c0_i32_2084 : BitVec 32 := 0#32
  let v2539 : BitVec 1 := Scalar.cmpi .ne v2538 c0_i32_2084
  let v2543 : BitVec 1 := Scalar.andi v2542 v2539
  let v2544 : BitVec 32 := Scalar.addi v2538 v2537
  let v2545 : BitVec 32 := Scalar.select v2543 v2544 v2538
  let c1_i32_2097 : BitVec 32 := 1#32
  let v2564 : BitVec 32 := Scalar.muli v2545 c1_i32_2097
  let v2565 : BitVec 32 := Scalar.addi c0_i32_2098 v2564
  v2565.toNat
def k0_dev39 (d0 : Dev nD) : Nat :=
  let c0_i32_2119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2101 : BitVec 32 := 7#32
  let v2572 : BitVec 32 := Scalar.addi v2 c7_i32_2101
  let c8_i32_2102 : BitVec 32 := 8#32
  let c0_i32_2103 : BitVec 32 := 0#32
  let v2573 : BitVec 1 := Scalar.cmpi .eq c8_i32_2102 c0_i32_2103
  let c1_i32_2104 : BitVec 32 := 1#32
  let v2574 : BitVec 32 := Scalar.select v2573 c1_i32_2104 c8_i32_2102
  let v2575 : BitVec 32 := Scalar.remsi v2572 v2574
  let c0_i32_2106 : BitVec 32 := 0#32
  let v2577 : BitVec 1 := Scalar.cmpi .slt v2575 c0_i32_2106
  let c0_i32_2107 : BitVec 32 := 0#32
  let v2578 : BitVec 1 := Scalar.cmpi .slt v2574 c0_i32_2107
  let v2579 : BitVec 1 := Scalar.xori v2577 v2578
  let c0_i32_2105 : BitVec 32 := 0#32
  let v2576 : BitVec 1 := Scalar.cmpi .ne v2575 c0_i32_2105
  let v2580 : BitVec 1 := Scalar.andi v2579 v2576
  let v2581 : BitVec 32 := Scalar.addi v2575 v2574
  let v2582 : BitVec 32 := Scalar.select v2580 v2581 v2575
  let c1_i32_2118 : BitVec 32 := 1#32
  let v2601 : BitVec 32 := Scalar.muli v2582 c1_i32_2118
  let v2602 : BitVec 32 := Scalar.addi c0_i32_2119 v2601
  v2602.toNat
def k0_off28 (d0 : Dev nD) : Fin 2 → Nat :=
  let c0_2123 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_2122 : BitVec 32 := 256#32
  let v2609 : BitVec 32 := Scalar.muli v2 c256_i32_2122
  let v2610 : Index := Scalar.indexCast v2609
  ![0, v2610.toNat]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_2126 : BitVec 32 := 512#32
  let v2621 : BitVec 32 := Scalar.muli v2 c512_i32_2126
  let v2622 : Index := Scalar.indexCast v2621
  let c0_2127 : Index := 0#32
  ![v2622.toNat, 0]
def k0_off30 (d0 : Dev nD) (c1_i32_2128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2624 : BitVec 32 := Scalar.subi v2 c1_i32_2128
  let c8_i32_2129 : BitVec 32 := 8#32
  let c0_i32_2130 : BitVec 32 := 0#32
  let v2625 : BitVec 1 := Scalar.cmpi .eq c8_i32_2129 c0_i32_2130
  let c1_i32_2131 : BitVec 32 := 1#32
  let v2626 : BitVec 32 := Scalar.select v2625 c1_i32_2131 c8_i32_2129
  let v2627 : BitVec 32 := Scalar.remsi v2624 v2626
  let c0_i32_2133 : BitVec 32 := 0#32
  let v2629 : BitVec 1 := Scalar.cmpi .slt v2627 c0_i32_2133
  let c0_i32_2134 : BitVec 32 := 0#32
  let v2630 : BitVec 1 := Scalar.cmpi .slt v2626 c0_i32_2134
  let v2631 : BitVec 1 := Scalar.xori v2629 v2630
  let c0_i32_2132 : BitVec 32 := 0#32
  let v2628 : BitVec 1 := Scalar.cmpi .ne v2627 c0_i32_2132
  let v2632 : BitVec 1 := Scalar.andi v2631 v2628
  let v2633 : BitVec 32 := Scalar.addi v2627 v2626
  let v2634 : BitVec 32 := Scalar.select v2632 v2633 v2627
  let c512_i32_2135 : BitVec 32 := 512#32
  let v2635 : BitVec 32 := Scalar.muli v2634 c512_i32_2135
  let c0_i32_2140 : BitVec 32 := 0#32
  ![v2635.toNat, 0]
def k0_off31 (d0 : Dev nD) (c1_i32_2128 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2624 : BitVec 32 := Scalar.subi v2 c1_i32_2128
  let c8_i32_2129 : BitVec 32 := 8#32
  let c0_i32_2130 : BitVec 32 := 0#32
  let v2625 : BitVec 1 := Scalar.cmpi .eq c8_i32_2129 c0_i32_2130
  let c1_i32_2131 : BitVec 32 := 1#32
  let v2626 : BitVec 32 := Scalar.select v2625 c1_i32_2131 c8_i32_2129
  let v2627 : BitVec 32 := Scalar.remsi v2624 v2626
  let c0_i32_2133 : BitVec 32 := 0#32
  let v2629 : BitVec 1 := Scalar.cmpi .slt v2627 c0_i32_2133
  let c0_i32_2134 : BitVec 32 := 0#32
  let v2630 : BitVec 1 := Scalar.cmpi .slt v2626 c0_i32_2134
  let v2631 : BitVec 1 := Scalar.xori v2629 v2630
  let c0_i32_2132 : BitVec 32 := 0#32
  let v2628 : BitVec 1 := Scalar.cmpi .ne v2627 c0_i32_2132
  let v2632 : BitVec 1 := Scalar.andi v2631 v2628
  let v2633 : BitVec 32 := Scalar.addi v2627 v2626
  let v2634 : BitVec 32 := Scalar.select v2632 v2633 v2627
  let c512_i32_2143 : BitVec 32 := 512#32
  let v2642 : BitVec 32 := Scalar.muli v2634 c512_i32_2143
  let v2643 : Index := Scalar.indexCast v2642
  let c0_2144 : Index := 0#32
  ![v2643.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Mesh.lean ====
/-
  The mesh of the kernel: which device sends what to which, in which order, and what each step does to the pieces of
  the buffers a device holds. Everything here is finite arithmetic on eight devices, settled by evaluation.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

namespace Cert.MeshProof

open Cert.KernelIdeal Cert.KernelIdeal.Gen
open Idealize.ShloMosaic

/-! ## Transfers -/

/-- A transfer a device issues: the W pieces of buffer `r` (`k = 0`: first stage, `1`: second, `2 + j`: the third's four),
    a row of the table of maxima, a quantised tile. -/
inductive Xf
  | w (r : Fin 3) (k : Fin 6)
  | a (j : Fin 7)
  | t (j : Fin 7)
  deriving DecidableEq

def Xf.equiv : (Fin 3 × Fin 6) ⊕ Fin 7 ⊕ Fin 7 ≃ Xf where
  toFun
    | .inl p => .w p.1 p.2
    | .inr (.inl j) => .a j
    | .inr (.inr j) => .t j
  invFun
    | .w r k => .inl (r, k)
    | .a j => .inr (.inl j)
    | .t j => .inr (.inr j)
  left_inv := by rintro (_ | _ | _) <;> rfl
  right_inv := by rintro (_ | _ | _) <;> rfl

instance : Fintype Xf := Fintype.ofEquiv _ Xf.equiv

/-- The slot of device `c`'s own piece in W buffer `r`. -/
def sg (r : Fin 3) (c : Fin 8) : Nat :=
  ([[0, 1, 3, 2, 4, 5, 7, 6], [0, 4, 5, 1, 2, 6, 7, 3], [0, 2, 6, 4, 1, 3, 7, 5]].getD r.val []).getD c.val 0

/-- The device whose piece slot `s` of W buffer `r` holds. -/
def og (r : Fin 3) (s : Nat) : Nat :=
  ([[0, 1, 3, 2, 4, 5, 7, 6], [0, 3, 4, 7, 1, 2, 5, 6], [0, 4, 1, 5, 3, 7, 2, 6]].getD r.val []).getD s 0

/-- The stage of a W transfer. -/
def stage (k : Fin 6) : Nat := if k.val < 2 then k.val else 2

/-- The cube direction buffer `r` is exchanged along at stage `t`. -/
def mask (r : Fin 3) (t : Nat) : Nat := ([[1, 3, 4], [3, 4, 1], [4, 1, 3]].getD r.val []).getD t 0

/-- The device transfer `x` goes to, -/
def peer (x : Xf) (c : Dev nD) : Dev nD := match x with
  | .w r k => ⟨(c.val ^^^ mask r (stage k)) % 8, Nat.mod_lt _ (by decide)⟩
  | .a j => ⟨(c.val + j.val + 1) % 8, Nat.mod_lt _ (by decide)⟩
  | .t j => ⟨(c.val + j.val + 1) % 8, Nat.mod_lt _ (by decide)⟩
/-- and the device whose transfer `x` comes here. -/
def reep (x : Xf) (c : Dev nD) : Dev nD := match x with
  | .w r k => ⟨(c.val ^^^ mask r (stage k)) % 8, Nat.mod_lt _ (by decide)⟩
  | .a j => ⟨(c.val + 7 - j.val) % 8, Nat.mod_lt _ (by decide)⟩
  | .t j => ⟨(c.val + 7 - j.val) % 8, Nat.mod_lt _ (by decide)⟩

theorem reep_peer : ∀ (x : Xf) (c : Dev nD), reep x (peer x c) = c := by decide +kernel
theorem peer_reep : ∀ (x : Xf) (c : Dev nD), peer x (reep x c) = c := by decide +kernel
theorem peer_ne : ∀ (x : Xf) (c : Dev nD), peer x c ≠ c := by decide +kernel
theorem reep_ne : ∀ (x : Xf) (c : Dev nD), reep x c ≠ c := by decide +kernel

def peerEquiv (x : Xf) : Dev nD ≃ Dev nD := ⟨peer x, reep x, reep_peer x, peer_reep x⟩

/-- The DMA semaphores a transfer's two ends credit. -/
def sIx (x : Xf) : Nat := match x with
  | .w r k => 3 + 6 * r.val + k.val
  | .t j => 39 + j.val
  | .a j => 53 + j.val
def rIx (x : Xf) : Nat := match x with
  | .w r k => 21 + 6 * r.val + k.val
  | .t j => 46 + j.val
  | .a j => 60 + j.val

theorem sIx_lt : ∀ x, sIx x < sig.nDmaSem := by decide +kernel
theorem rIx_lt : ∀ x, rIx x < sig.nDmaSem := by decide +kernel

def sSem (x : Xf) : DmaSem sig := ⟨sIx x, sIx_lt x⟩
def rSem (x : Xf) : DmaSem sig := ⟨rIx x, rIx_lt x⟩

/-- Which end of which transfer a DMA semaphore is. -/
def dec (n : DmaSem sig) : Option (Bool × Xf) :=
  let n := n.val
  if h : 3 ≤ n ∧ n < 21 then some (true, .w ⟨(n - 3) / 6, by omega⟩ ⟨(n - 3) % 6, by omega⟩)
  else if h : 21 ≤ n ∧ n < 39 then some (false, .w ⟨(n - 21) / 6, by omega⟩ ⟨(n - 21) % 6, by omega⟩)
  else if h : 39 ≤ n ∧ n < 46 then some (true, .t ⟨n - 39, by omega⟩)
  else if h : 46 ≤ n ∧ n < 53 then some (false, .t ⟨n - 46, by omega⟩)
  else if h : 53 ≤ n ∧ n < 60 then some (true, .a ⟨n - 53, by omega⟩)
  else if h : 60 ≤ n ∧ n < 67 then some (false, .a ⟨n - 60, by omega⟩)
  else none

theorem dec_sSem : ∀ x, dec (sSem x) = some (true, x) := by decide +kernel
theorem dec_rSem : ∀ x, dec (rSem x) = some (false, x) := by decide +kernel

/-! ## Pieces of buffers -/

/-- The buffers held piece by piece: the three W buffers, the table of maxima, the received tiles, the quantised
    product, the result. -/
inductive Bk
  | w (r : Fin 3)
  | am
  | ti
  | q
  | o
  deriving DecidableEq

def Bk.equiv : Fin 3 ⊕ Fin 4 ≃ Bk where
  toFun
    | .inl r => .w r
    | .inr 0 => .am
    | .inr 1 => .ti
    | .inr 2 => .q
    | .inr 3 => .o
  invFun
    | .w r => .inl r
    | .am => .inr 0
    | .ti => .inr 1
    | .q => .inr 2
    | .o => .inr 3
  left_inv := by
    rintro (_ | j)
    · rfl
    · fin_cases j <;> rfl
  right_inv := by rintro (_ | _ | _ | _ | _) <;> rfl

instance : Fintype Bk := Fintype.ofEquiv _ Bk.equiv

/-- Into how many shares (a power of two) a piece is cut: halves for W, eighths for a row of maxima. -/
def lvl (k : Bk) : Nat := match k with
  | .w _ => 1
  | .am => 3
  | _ => 0

/-- What a device holds, one by one: its end of sending and of receiving a transfer, a share of a piece whose contents
    are known, a piece at any contents. -/
inductive Item
  | snd (x : Xf)
  | rcv (x : Xf)
  | pc (k : Bk) (s : Fin 8) (l : Fin 8)
  | gb (k : Bk) (s : Fin 8)
  deriving DecidableEq

def Item.equiv : (Xf ⊕ Xf) ⊕ (Bk × Fin 8 × Fin 8) ⊕ (Bk × Fin 8) ≃ Item where
  toFun
    | .inl (.inl x) => .snd x
    | .inl (.inr x) => .rcv x
    | .inr (.inl p) => .pc p.1 p.2.1 p.2.2
    | .inr (.inr p) => .gb p.1 p.2
  invFun
    | .snd x => .inl (.inl x)
    | .rcv x => .inl (.inr x)
    | .pc k s l => .inr (.inl (k, s, l))
    | .gb k s => .inr (.inr (k, s))
  left_inv := by rintro ((_ | _) | _ | _) <;> rfl
  right_inv := by rintro (_ | _ | _ | _) <;> rfl

instance : Fintype Item := Fintype.ofEquiv _ Item.equiv

/-- First slot and number of slots of the region W transfer `(r, k)` moves. -/
def lo (r : Fin 3) (k : Fin 6) (c : Fin 8) : Nat :=
  if k.val = 0 then sg r c else if k.val = 1 then sg r c / 2 * 2 else sg r c / 4 * 4 + (k.val - 2)
def len (k : Fin 6) : Nat := if k.val = 1 then 2 else 1

def f8 (n : Nat) : Fin 8 := ⟨n % 8, Nat.mod_lt _ (by decide)⟩

/-- The slot of W buffer `r` that device `c` multiplies as its `i`-th. -/
def slotAt (r : Fin 3) (i : Fin 8) (c : Fin 8) : Fin 8 :=
  if i.val = 0 then f8 (sg r c) else if i.val = 1 then f8 (sg r c ^^^ 1)
  else if i.val < 4 then f8 ((sg r c / 2 ^^^ 1) * 2 + (i.val - 2)) else f8 ((sg r c / 4 ^^^ 1) * 4 + (i.val - 4))

/-- The piece of buffer `k` that device `c` fills as its `j`-th. -/
def slot (k : Bk) (j : Fin 8) (c : Fin 8) : Fin 8 := match k with
  | .w r => slotAt r j c
  | .am => f8 (c.val + j.val)
  | .q => f8 (c.val + j.val)
  | .ti => f8 (c.val + 8 - j.val)
  | .o => f8 (c.val + 8 - j.val)

/-- The buffer a transfer reads and the one it writes, -/
def sbuf (x : Xf) : Bk := match x with
  | .w r _ => .w r
  | .a _ => .am
  | .t _ => .q
def dbuf (x : Xf) : Bk := match x with
  | .w r _ => .w r
  | .a _ => .am
  | .t _ => .ti
/-- the number of pieces it moves, the first of them at either end, and the share of them it borrows. -/
def xlen (x : Xf) : Nat := match x with
  | .w _ k => len k
  | _ => 1
def slo (x : Xf) (c : Dev nD) : Nat := match x with
  | .w r k => lo r k c
  | .a _ => c.val
  | .t j => (peer (.t j) c).val
def dlo (x : Xf) (c : Dev nD) : Nat := match x with
  | .w r k => lo r k c
  | _ => c.val
def sleaf (x : Xf) : Fin 8 := match x with
  | .w _ _ => 1
  | .a j => f8 (j.val + 1)
  | .t _ => 0

/-- The pieces a transfer reads on its issuer `c`, with the share lent; -/
def srcP (x : Xf) (c : Fin 8) : List (Bk × Fin 8 × Fin 8) :=
  (List.range (xlen x)).map fun i => (sbuf x, f8 (slo x c + i), sleaf x)
/-- the pieces it writes on the device it goes to. -/
def dstS (x : Xf) (c : Fin 8) : List (Bk × Fin 8) :=
  (List.range (xlen x)).map fun i => (dbuf x, f8 (dlo x c + i))

theorem slo_le : ∀ x c, slo x c + xlen x ≤ 8 := by decide +kernel
theorem dlo_le : ∀ x c, dlo x c + xlen x ≤ 8 := by decide +kernel
theorem sleaf_lt : ∀ x, (sleaf x).val < 2 ^ lvl (sbuf x) := by decide +kernel

def leaves (k : Bk) : List (Fin 8) := (List.range (2 ^ lvl k)).map f8
def allP (ks : Bk × Fin 8) : List (Bk × Fin 8 × Fin 8) := (leaves ks.1).map fun l => (ks.1, ks.2, l)
def dstP (x : Xf) (c : Fin 8) : List (Bk × Fin 8 × Fin 8) := (dstS x c).flatMap allP

def Item.ofP (p : Bk × Fin 8 × Fin 8) : Item := .pc p.1 p.2.1 p.2.2

/-! ## The order of events -/

/-- A step of the kernel that changes what a device holds: it fills a piece, issues a transfer, waits for one of its
    ends, adds a product to the accumulator. -/
inductive Ev
  | own (k : Bk) (j : Fin 8)
  | send (x : Xf)
  | sw (x : Xf)
  | rw (x : Xf)
  | mm (r : Fin 3) (i : Fin 8)
  deriving DecidableEq

def prog : List Ev :=
  [.own (.w 0) 0, .send (.w 0 0), .own (.w 1) 0, .send (.w 1 0), .own (.w 2) 0, .send (.w 2 0), .mm 0 0, .mm 1 0, .mm 2 0,
   .sw (.w 0 0), .rw (.w 0 0), .sw (.w 1 0), .rw (.w 1 0), .sw (.w 2 0), .rw (.w 2 0),
   .send (.w 0 1), .send (.w 1 1), .send (.w 2 1), .mm 0 1, .mm 1 1, .mm 2 1,
   .sw (.w 0 1), .rw (.w 0 1), .sw (.w 1 1), .rw (.w 1 1), .sw (.w 2 1), .rw (.w 2 1)]
  ++ ([0, 1, 2] : List (Fin 3)).flatMap (fun r => ([2, 3, 4, 5] : List (Fin 6)).map fun k => .send (.w r k))
  ++ ([0, 1, 2] : List (Fin 3)).flatMap (fun r => [.mm r 2, .mm r 3])
  ++ ([(2, 4), (3, 5), (4, 6), (5, 7)] : List (Fin 6 × Fin 8)).flatMap (fun k =>
      ([0, 1, 2] : List (Fin 3)).flatMap (fun r => [.sw (.w r k.1), .rw (.w r k.1)])
      ++ ([0, 1, 2] : List (Fin 3)).map fun r => .mm r k.2)
  ++ [.own .am 0] ++ ([0, 1, 2, 3, 4, 5, 6] : List (Fin 7)).map (fun j => .send (.a j))
  ++ ([0, 1, 2, 3, 4, 5, 6] : List (Fin 7)).map (fun j => .rw (.a j))
  ++ ([0, 1, 2, 3, 4, 5, 6] : List (Fin 7)).flatMap (fun j => [.own .q (f8 (j.val + 1)), .send (.t j)])
  ++ [.own .o 0]
  ++ ([0, 1, 2, 3, 4, 5, 6] : List (Fin 7)).flatMap (fun j => [.rw (.t j), .own .o (f8 (j.val + 1))])
  ++ ([0, 1, 2, 3, 4, 5, 6] : List (Fin 7)).map (fun j => .sw (.t j))
  ++ ([0, 1, 2, 3, 4, 5, 6] : List (Fin 7)).map (fun j => .sw (.a j))

/-- The pieces (first shares) an event reads on device `c`. -/
def reads (c : Fin 8) (e : Ev) : List (Bk × Fin 8 × Fin 8) := match e with
  | .mm r i => [(.w r, slotAt r i c, 0)]
  | .own .q _ => (List.range 8).map fun s => (.am, f8 s, 0)
  | .own .o j => if j.val = 0 then [] else [(.ti, slot .o j c, 0)]
  | _ => []

/-- What an event changes on device `c`: each item with its state before and after. -/
def touch (c : Fin 8) (e : Ev) : List (Item × Nat × Nat) := match e with
  | .own k j => (.gb k (slot k j c), 1, 0) :: (allP (k, slot k j c)).map fun p => (.ofP p, 0, 2)
  | .send x => (.snd x, 0, 1) :: (srcP x c).map fun p => (.ofP p, 2, 0)
  | .sw x => (.snd x, 1, 2) :: (srcP x c).map fun p => (.ofP p, 0, 2)
  | .rw x => (.rcv x, 0, 1) :: (dstP x (reep x c)).map fun p => (.ofP p, 0, 2)
  | .mm _ _ => []

/-- The states before any event: nothing sent or received, the pieces not handed to another device at any contents. -/
def init (c : Fin 8) (i : Item) : Nat := match i with
  | .gb (.w r) s => if s = slotAt r 0 c then 1 else 0
  | .gb .am s => if s = c then 1 else 0
  | .gb .ti s => if s = c then 1 else 0
  | .gb _ _ => 1
  | _ => 0

/-! ## The states along the order of events

  The states of all items at once are one number, written in base four. -/

def Xf.code (x : Xf) : Nat := match x with
  | .w r k => 6 * r.val + k.val
  | .a j => 18 + j.val
  | .t j => 25 + j.val
def Bk.code (k : Bk) : Nat := match k with
  | .w r => r.val
  | .am => 3
  | .ti => 4
  | .q => 5
  | .o => 6
/-- The digit an item's state is, -/
def Item.code (i : Item) : Nat := match i with
  | .snd x => x.code
  | .rcv x => 32 + x.code
  | .pc k s l => 64 + ((k.code * 8 + s.val) * 8 + l.val)
  | .gb k s => 512 + (k.code * 8 + s.val)

def Xf.decode (n : Nat) : Xf :=
  if n < 18 then .w ⟨n / 6 % 3, Nat.mod_lt _ (by decide)⟩ ⟨n % 6, Nat.mod_lt _ (by decide)⟩
  else if n < 25 then .a ⟨(n - 18) % 7, Nat.mod_lt _ (by decide)⟩ else .t ⟨(n - 25) % 7, Nat.mod_lt _ (by decide)⟩
def Bk.decode (n : Nat) : Bk :=
  if n < 3 then .w ⟨n % 3, Nat.mod_lt _ (by decide)⟩ else if n = 3 then .am else if n = 4 then .ti else if n = 5 then .q else .o
def Item.decode (n : Nat) : Item :=
  if n < 32 then .snd (Xf.decode n) else if n < 64 then .rcv (Xf.decode (n - 32))
  else if n < 512 then .pc (Bk.decode ((n - 64) / 64)) (f8 ((n - 64) / 8)) (f8 (n - 64)) else .gb (Bk.decode ((n - 512) / 8)) (f8 (n - 512))

theorem Item.decode_code : ∀ i : Item, Item.decode i.code = i := by decide +kernel
theorem Item.code_injective : Function.Injective Item.code := Function.LeftInverse.injective Item.decode_code

/-- reading a digit and writing one. -/
def digit (s i : Nat) : Nat := s / 4 ^ i % 4
def setDigit (s i v : Nat) : Nat := (s / 4 ^ (i + 1) * 4 + v % 4) * 4 ^ i + s % 4 ^ i

theorem digit_self (s i v : Nat) : digit (setDigit s i v) i = v % 4 := by
  unfold digit setDigit
  rw [Nat.add_comm, Nat.add_mul_div_right _ _ (Nat.pow_pos (by decide)), Nat.div_eq_of_lt (Nat.mod_lt _ (Nat.pow_pos (by decide)))]
  omega
theorem digit_ne (s i v j : Nat) (h : j ≠ i) : digit (setDigit s i v) j = digit s j := by
  unfold digit
  have hp : ∀ n : Nat, 0 < 4 ^ n := fun n => Nat.pow_pos (by decide)
  rcases Nat.lt_or_gt_of_ne h with h | h
  · obtain ⟨d, rfl⟩ := Nat.exists_eq_add_of_lt h
    have e1 : setDigit s (j + d + 1) v % 4 ^ (j + 1) = s % 4 ^ (j + 1) := by
      unfold setDigit
      have e : 4 ^ (j + d + 1) = 4 ^ (j + 1) * 4 ^ d := by rw [← Nat.pow_add]; congr 1; omega
      rw [e, Nat.mul_comm _ (4 ^ (j + 1) * 4 ^ d), Nat.mul_assoc, Nat.mul_add_mod]
      exact Nat.mod_mod_of_dvd _ ⟨4 ^ d, rfl⟩
    have e2 : ∀ t : Nat, t / 4 ^ j % 4 = t % 4 ^ (j + 1) / 4 ^ j := fun t => by
      rw [Nat.pow_succ, Nat.mod_mul_right_div_self]
    rw [e2, e2, e1]
  · obtain ⟨d, rfl⟩ := Nat.exists_eq_add_of_lt h
    have e : 4 ^ (i + d + 1) = 4 ^ (i + 1) * 4 ^ d := by rw [← Nat.pow_add]; congr 1; omega
    have e1 : setDigit s i v / 4 ^ (i + 1) = s / 4 ^ (i + 1) := by
      unfold setDigit
      rw [Nat.pow_succ, ← Nat.div_div_eq_div_mul, Nat.add_comm, Nat.add_mul_div_right _ _ (hp i), Nat.div_eq_of_lt (Nat.mod_lt _ (hp i))]
      omega
    rw [e, ← Nat.div_div_eq_div_mul, ← Nat.div_div_eq_div_mul, e1]

/-- An event's effect on the states, -/
def stepN (c : Fin 8) (s : Nat) (e : Ev) : Nat := (touch c e).foldl (fun s p => setDigit s p.1.code p.2.2) s
/-- the states at the start, -/
def iniN (c : Fin 8) : Nat :=
  ((((List.range 7).map Bk.decode).flatMap fun k => (List.range 8).map fun s => (k, f8 s)).filter fun p => init c (.gb p.1 p.2) == 1).foldl
    (fun s p => setDigit s (Item.gb p.1 p.2).code 1) 0
/-- and after the first `n` events. -/
def statN (c : Fin 8) (n : Nat) : Nat := (prog.take n).foldl (stepN c) (iniN c)
def stat (c : Fin 8) (n : Nat) (i : Item) : Nat := digit (statN c n) i.code

theorem stat_zero : ∀ c i, stat c 0 i = init c i := by decide +kernel

/-- Every event finds the items it changes and the pieces it reads in the states it expects, and changes each item once. -/
def fits (c : Fin 8) (e : Ev) (s : Nat) : Bool :=
  (touch c e).all (fun p => digit s p.1.code == p.2.1 && decide (p.2.2 < 4)) && (reads c e).all (fun p => digit s (Item.ofP p).code == 2)
    && decide ((touch c e).map (·.1.code)).Nodup
def fitsAll (c : Fin 8) : List Ev → Nat → Bool
  | [], _ => true
  | e :: l, s => fits c e s && fitsAll c l (stepN c s e)

theorem fits_all : ∀ c, fitsAll c prog (iniN c) = true := by decide +kernel

theorem fits_get (c : Fin 8) (e : Ev) : ∀ (l : List Ev) (s n : Nat), fitsAll c l s = true → l[n]? = some e → fits c e ((l.take n).foldl (stepN c) s) = true
  | [], _, _, _, h => by simp at h
  | d :: l, s, 0, hf, h => by
    have : d = e := by simpa using h
    subst this
    exact (Bool.and_eq_true_iff.mp hf).1
  | d :: l, s, n + 1, hf, h => fits_get c e l (stepN c s d) n (Bool.and_eq_true_iff.mp hf).2 (by simpa using h)

theorem fits_at (c : Fin 8) {n : Nat} {e : Ev} (h : prog[n]? = some e) : fits c e (statN c n) = true := fits_get c e prog (iniN c) n (fits_all c) h

theorem before_at (c : Fin 8) {n : Nat} {e : Ev} (h : prog[n]? = some e) : ∀ p ∈ touch c e, stat c n p.1 = p.2.1 := by
  have := fits_at c h
  unfold fits at this
  simp only [Bool.and_eq_true, List.all_eq_true, beq_iff_eq, decide_eq_true_eq] at this
  exact fun p hp => (this.1.1 p hp).1
theorem reads_at (c : Fin 8) {n : Nat} {e : Ev} (h : prog[n]? = some e) : ∀ p ∈ reads c e, stat c n (Item.ofP p) = 2 := by
  have := fits_at c h
  unfold fits at this
  simp only [Bool.and_eq_true, List.all_eq_true, beq_iff_eq, decide_eq_true_eq] at this
  exact this.1.2
theorem nodup_at (c : Fin 8) {n : Nat} {e : Ev} (h : prog[n]? = some e) : ((touch c e).map (·.1)).Nodup := by
  have := fits_at c h
  unfold fits at this
  simp only [Bool.and_eq_true, List.all_eq_true, beq_iff_eq, decide_eq_true_eq] at this
  refine List.Nodup.of_map Item.code ?_
  rw [List.map_map]; exact this.2

theorem statN_succ (c : Fin 8) {n : Nat} {e : Ev} (h : prog[n]? = some e) : statN c (n + 1) = stepN c (statN c n) e := by
  unfold statN
  rw [List.take_add_one, h]; simp

theorem foldl_off : ∀ (l : List (Item × Nat × Nat)) (s : Nat) (i : Item), i ∉ l.map (·.1) →
    digit (l.foldl (fun s p => setDigit s p.1.code p.2.2) s) i.code = digit s i.code
  | [], _, _, _ => rfl
  | p :: l, s, i, h => by
    rw [List.map_cons, List.mem_cons, not_or] at h
    rw [List.foldl_cons, foldl_off l _ i h.2, digit_ne _ _ _ _ fun e => h.1 (Item.code_injective e)]
theorem foldl_on : ∀ (l : List (Item × Nat × Nat)) (s : Nat), (l.map (·.1)).Nodup → ∀ p ∈ l,
    digit (l.foldl (fun s p => setDigit s p.1.code p.2.2) s) p.1.code = p.2.2 % 4
  | [], _, _, _, hp => by simp at hp
  | q :: l, s, hn, p, hp => by
    rw [List.map_cons, List.nodup_cons] at hn
    rw [List.foldl_cons]
    rcases List.mem_cons.mp hp with rfl | hp
    · rw [foldl_off l _ p.1 hn.1, digit_self]
    · exact foldl_on l _ hn.2 p hp

theorem after_at (c : Fin 8) {n : Nat} {e : Ev} (h : prog[n]? = some e) : ∀ p ∈ touch c e, stat c (n + 1) p.1 = p.2.2 := by
  intro p hp
  have h4 : p.2.2 < 4 := by
    have := fits_at c h
    unfold fits at this
    simp only [Bool.and_eq_true, List.all_eq_true, beq_iff_eq, decide_eq_true_eq] at this
    exact (this.1.1 p hp).2
  unfold stat
  rw [statN_succ c h, stepN, foldl_on _ _ (nodup_at c h) p hp, Nat.mod_eq_of_lt h4]
theorem same_at (c : Fin 8) {n : Nat} {e : Ev} (h : prog[n]? = some e) (i : Item) (hi : i ∉ (touch c e).map (·.1)) : stat c (n + 1) i = stat c n i := by
  unfold stat
  rw [statN_succ c h, stepN, foldl_off _ _ _ hi]

/-- The rank of the cell a transfer arrives at: the receive cells are waited for in this order. -/
def rank (x : Xf) : Nat := match x with
  | .w _ k => 2 + stage k
  | .a _ => 5
  | .t _ => 6

/-- When an event waits for the end of a transfer, every transfer still to be issued ranks above what is waited for. -/
def calm (n : Nat) : Bool := match prog[n]? with
  | some (.rw x) => (prog.drop n).all fun e => match e with
    | .send y => decide (rank x < rank y)
    | _ => true
  | _ => true

theorem calm_all : ∀ n < 139, calm n = true := by decide +kernel

theorem prog_length : prog.length = 139 := by decide +kernel

end Cert.MeshProof
-- ==== Proof.Regions.lean ====
/-
  The buffers a device holds piece by piece: where their pieces lie, the rectangles the program reads and writes them
  through, contents given piece by piece, and pieces cut into shares.
-/
module

public import proofs.«01_k».proof.Proof.Mesh

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Geometry -/

/-- The buffer of a kind, -/
def rix (k : Bk) : Fin (sig.nNear .tc .vmem) := match k with
  | .w 0 => cc0_scratch0.idx
  | .w 1 => cc0_scratch1.idx
  | .w 2 => cc0_scratch2.idx
  | .am => cc0_scratch11.idx
  | .ti => cc0_scratch8.idx
  | .q => cc0_scratch7.idx
  | .o => cc0_stg2_0.idx
theorem rix_names (k : Bk) : sig.names .tc .vmem (rix k) = true := by revert k; decide +kernel
abbrev ref (k : Bk) : Ref sig .tc := ⟨.vmem, rix k, rix_names k⟩
/-- the rows of one of its eight pieces, -/
def un (k : Bk) : Nat := match k with
  | .w 0 => 1376
  | .w 1 => 1360
  | .w 2 => 1360
  | .am => 1
  | _ => 512
abbrev shp (k : Bk) : Shape := (ref k).ty.shape
/-- and a piece's sizes. -/
def psz (k : Bk) : Fin (shp k).rank → Nat := match k with
  | .w 0 => S1376x256.size
  | .w 1 => S1360x256.size
  | .w 2 => S1360x256.size
  | .am => S1x1x128.size
  | .ti => S512x256.size
  | .q => S512x256.size
  | .o => S512x256.size

theorem un_pos (k : Bk) : 0 < un k := by revert k; decide +kernel
theorem rank_pos (k : Bk) : 0 < (shp k).rank := by revert k; decide +kernel
theorem size0 (k : Bk) : (shp k).size ⟨0, rank_pos k⟩ = un k * 8 := by revert k; decide +kernel

/-- An index's row, -/
def row (k : Bk) (i : (shp k).Idx) : Nat := (i ⟨0, rank_pos k⟩).val
theorem row_lt (k : Bk) (i : (shp k).Idx) : row k i < un k * 8 := lt_of_lt_of_eq (i ⟨0, rank_pos k⟩).isLt (size0 k)
/-- the piece it lies in, -/
def slotOf (k : Bk) (i : (shp k).Idx) : Fin 8 := ⟨row k i / un k, Nat.div_lt_of_lt_mul (row_lt k i)⟩
/-- the pieces, and the runs of pieces. -/
def piece (k : Bk) (s : Fin 8) : Finset (shp k).Idx := Finset.univ.filter fun i => slotOf k i = s
def slab (k : Bk) (l n : Nat) : Finset (shp k).Idx := Finset.univ.filter fun i => l ≤ (slotOf k i).val ∧ (slotOf k i).val < l + n

theorem mem_piece {k : Bk} {s : Fin 8} {i : (shp k).Idx} : i ∈ piece k s ↔ slotOf k i = s := by simp [piece]
theorem mem_slab {k : Bk} {l n : Nat} {i : (shp k).Idx} : i ∈ slab k l n ↔ l ≤ (slotOf k i).val ∧ (slotOf k i).val < l + n := by simp [slab]

/-- A rectangle of whole rows from piece `l`, `n` pieces long. -/
def Full (k : Bk) (l n : Nat) (off size : Fin (shp k).rank → Nat) : Prop :=
  ∀ a, if a.val = 0 then off a = un k * l ∧ size a = un k * n else off a = 0 ∧ size a = (shp k).size a
instance (k : Bk) (l n : Nat) (off size : Fin (shp k).rank → Nat) : Decidable (Full k l n off size) := by unfold Full; infer_instance

theorem full_set {k : Bk} {l n : Nat} {off size : Fin (shp k).rank → Nat} (h : Full k l n off size) (inb : ∀ a, off a + size a ≤ (shp k).size a) :
    (Rect.unit (s := shp k) off size inb).set = slab k l n := by
  ext i
  rw [Rect.mem_set_unit, mem_slab]
  have hu := un_pos k
  have key : (off ⟨0, rank_pos k⟩ ≤ (i ⟨0, rank_pos k⟩).val ∧ (i ⟨0, rank_pos k⟩).val < off ⟨0, rank_pos k⟩ + size ⟨0, rank_pos k⟩)
      ↔ (l ≤ (slotOf k i).val ∧ (slotOf k i).val < l + n) := by
    have h0 := h ⟨0, rank_pos k⟩
    rw [if_pos rfl] at h0
    rw [h0.1, h0.2]
    show un k * l ≤ row k i ∧ row k i < un k * l + un k * n ↔ l ≤ row k i / un k ∧ row k i / un k < l + n
    rw [Nat.le_div_iff_mul_le hu, Nat.div_lt_iff_lt_mul hu, ← Nat.mul_add, Nat.mul_comm l, Nat.mul_comm (l + n)]
  rw [← key]
  refine ⟨fun H => H _, fun H a => ?_⟩
  by_cases ha : a.val = 0
  · have : a = ⟨0, rank_pos k⟩ := Fin.ext ha
    rw [this]; exact H
  · have h1 := h a
    rw [if_neg ha] at h1
    rw [h1.1, h1.2]
    exact ⟨Nat.zero_le _, by rw [Nat.zero_add]; exact (i a).isLt⟩

theorem slab_one (k : Bk) (s : Fin 8) : slab k s.val 1 = piece k s := by
  ext i; rw [mem_slab, mem_piece]
  exact ⟨fun h => Fin.ext (by omega), fun h => by rw [h]; omega⟩

/-- Where piece `s` starts, and the rectangle it is. -/
def poff (k : Bk) (s : Fin 8) : Fin (shp k).rank → Nat := fun a => if a.val = 0 then un k * s.val else 0
theorem poff_full (k : Bk) (s : Fin 8) : Full k s.val 1 (poff k s) (psz k) := by revert k s; decide +kernel
theorem poff_inb (k : Bk) (s : Fin 8) : ∀ a, poff k s a + psz k a ≤ (shp k).size a := by revert k s; decide +kernel
abbrev prect (k : Bk) (s : Fin 8) : Rect (shp k) := Rect.unit (s := shp k) (poff k s) (psz k) (poff_inb k s)

theorem prect_set (k : Bk) (s : Fin 8) : (prect k s).set = piece k s := by
  rw [full_set (poff_full k s) (poff_inb k s), slab_one]

/-! ## Contents given piece by piece -/

/-- The index within its piece. -/
def within (k : Bk) (i : (shp k).Idx) : (prect k (slotOf k i)).shape.Idx := fun a =>
  ⟨(i a).val - poff k (slotOf k i) a, by
    have h : i ∈ (prect k (slotOf k i)).set := by rw [prect_set, mem_piece]
    have := Rect.mem_set_unit.mp h a
    show (i a).val - poff k (slotOf k i) a < psz k a
    omega⟩

def cont {Val : EltTy → Type} (k : Bk) (v : ∀ s, (prect k s).shape.Idx → Val (ref k).ty.elt) : (ref k).ty.Contents Val :=
  fun i => v (slotOf k i) (within k i)

theorem slotOf_emb (k : Bk) (s : Fin 8) (j : (prect k s).shape.Idx) : slotOf k ((prect k s).emb j) = s := by
  have h : (prect k s).emb j ∈ (prect k s).set := (prect k s).idx_mem j
  rw [prect_set, mem_piece] at h; exact h

theorem cont_emb {Val : EltTy → Type} (k : Bk) (v : ∀ s, (prect k s).shape.Idx → Val (ref k).ty.elt) (s : Fin 8) (j : (prect k s).shape.Idx) :
    cont k v ((prect k s).emb j) = v s j := by
  have key : ∀ i : (shp k).Idx, (hi : slotOf k i = s) → (prect k s).emb j = i → v (slotOf k i) (within k i) = v s j := by
    intro i hi hj
    subst hi
    refine congrArg _ ((prect k (slotOf k i)).emb.injective ?_)
    rw [hj]
    funext a
    refine Fin.ext ?_
    have h : i ∈ (prect k (slotOf k i)).set := by rw [prect_set, mem_piece]
    have := Rect.mem_set_unit.mp h a
    show poff k (slotOf k i) a + 1 * ((i a).val - poff k (slotOf k i) a) = (i a).val
    omega
  exact key _ (slotOf_emb k s j) rfl

abbrev wh (k : Bk) : Memref sig .tc .vmem (shp k) (ref k).ty.elt := Memref.whole (ref k)

theorem read_piece {Val : EltTy → Type} (k : Bk) (v : ∀ s, (prect k s).shape.Idx → Val (ref k).ty.elt) (s : Fin 8) :
    (wh k).view.readAt Val (prect k s).toLoadRect (cont k v) = v s := by
  funext j; exact cont_emb k v s j

/-- A store of piece `s` leaves it as the contents have it. -/
theorem write_piece {Val : EltTy → Type} (k : Bk) (v : ∀ s, (prect k s).shape.Idx → Val (ref k).ty.elt) (s : Fin 8) (f : (ref k).ty.Contents Val) :
    ∀ i ∈ piece k s, ((wh k).access (prect k s) : View sig .tc _ _ _).write Val f (v s) Finset.univ i = cont k v i := by
  intro i hi
  rw [← prect_set, ← Rect.map_emb_univ, Finset.mem_map] at hi
  obtain ⟨j, -, rfl⟩ := hi
  rw [cont_emb]
  exact View.write_emb_of_mem (v := ((wh k).access (prect k s) : View sig .tc _ _ _)) f (v s) (Finset.mem_univ j)

end Cert.MeshProof

end
-- ==== Proof.Protocol.lean ====
/-
  The protocol: what the buffers come to hold, what each semaphore's credits carry, and what a device holds between two
  events of its order.
-/
module

public import proofs.«01_k».proof.Proof.Regions
public import Idealize.ShloMosaic.Lib.ShareLeaves
public import Idealize.ShloMosaic.Lib.Pipeline.BigSepL

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Contents -/

/-- A device's blocks of the two operands as staged, -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
/-- and its block of `x` in the narrow type. -/
def xb (c : Dev nD) : (cc0_scratch5 : Ref sig .tc).ty.Contents (Elt F) := k0_pay1 (xstg m ρ c)

/-- The device whose piece slot `s` of W buffer `r` holds. -/
def ogd (r : Fin 3) (s : Fin 8) : Fin 8 := f8 (og r s.val)

/-- The rows of a device's W block that buffer `r` carries. -/
abbrev wr0 : Rect S4096x256 := Rect.unit (s := S4096x256) ![0, 0] S1376x256.size inb_S4096x256_S1376x256_0_0
abbrev wr1 : Rect S4096x256 := Rect.unit (s := S4096x256) ![1376, 0] S1360x256.size inb_S4096x256_S1360x256_1376_0
abbrev wr2 : Rect S4096x256 := Rect.unit (s := S4096x256) ![2736, 0] S1360x256.size inb_S4096x256_S1360x256_2736_0
abbrev wM : Memref sig .tc .vmem S4096x256 .f32 := Memref.whole cc0_stg1_0
abbrev xM : Memref sig .tc .vmem S512x4096 .f32 := Memref.whole cc0_stg0_0
abbrev xbM : Memref sig .tc .vmem S512x4096 .bf16 := Memref.whole cc0_scratch5
abbrev yM : Memref sig .tc .vmem S512x2048 .f32 := Memref.whole cc0_scratch6

def wvec (r : Fin 3) (s : Fin 8) : (prect (.w r) s).shape.Idx → Elt F (ref (.w r)).ty.elt := match r with
  | 0 => k0_pay3 (wM.view.readAt (Elt F) wr0.toLoadRect (wstg m ρ (ogd 0 s)))
  | 1 => k0_pay4 (wM.view.readAt (Elt F) wr1.toLoadRect (wstg m ρ (ogd 1 s)))
  | 2 => k0_pay5 (wM.view.readAt (Elt F) wr2.toLoadRect (wstg m ρ (ogd 2 s)))

/-- The columns of the narrow `x` that meet them. -/
abbrev xr0 : Rect S512x4096 := Rect.unit (s := S512x4096) ![0, 0] S512x1376.size inb_S512x4096_S512x1376_0_0
abbrev xr1 : Rect S512x4096 := Rect.unit (s := S512x4096) ![0, 1376] S512x1360.size inb_S512x4096_S512x1360_0_1376
abbrev xr2 : Rect S512x4096 := Rect.unit (s := S512x4096) ![0, 2736] S512x1360.size inb_S512x4096_S512x1360_0_2736

def yoff (o : Fin 8) : Fin 2 → Nat := fun a => if a.val = 0 then 0 else 256 * o.val
theorem yoff_inb (o : Fin 8) : ∀ a, yoff o a + S512x256.size a ≤ S512x2048.size a := by revert o; decide +kernel
/-- A block of columns of the product. -/
abbrev yrect (o : Fin 8) : Rect S512x2048 := Rect.unit (s := S512x2048) (yoff o) S512x256.size (yoff_inb o)

/-- The product of slot `s` of buffer `r` added to a block of the accumulator, -/
def mmv (c : Dev nD) (r : Fin 3) (s : Fin 8) (y : Vec F S512x256 .f32) : Vec F S512x256 .f32 := match r with
  | 0 => k0_pay6 (xbM.view.readAt (Elt F) xr0.toLoadRect (xb m ρ c)) (wvec m ρ 0 s) y
  | 1 => k0_pay7 (xbM.view.readAt (Elt F) xr1.toLoadRect (xb m ρ c)) (wvec m ρ 1 s) y
  | 2 => k0_pay8 (xbM.view.readAt (Elt F) xr2.toLoadRect (xb m ρ c)) (wvec m ρ 2 s) y
/-- in the accumulator; -/
def ystep (c : Dev nD) (f : (cc0_scratch6 : Ref sig .tc).ty.Contents (Elt F)) (e : Ev) : (cc0_scratch6 : Ref sig .tc).ty.Contents (Elt F) := match e with
  | .mm r i => (yM.access (yrect (ogd r (slotAt r i c))) : View sig .tc _ _ _).write (Elt F) f
      (mmv m ρ c r (slotAt r i c) (yM.view.readAt (Elt F) (yrect (ogd r (slotAt r i c))).toLoadRect f)) Finset.univ
  | _ => f
/-- the accumulator after `n` events, and at the end. -/
def yAt (c : Dev nD) (n : Nat) : (cc0_scratch6 : Ref sig .tc).ty.Contents (Elt F) := (prog.take n).foldl (ystep m ρ c) (k0_pay2 (F := F))
def yF (c : Dev nD) : (cc0_scratch6 : Ref sig .tc).ty.Contents (Elt F) := prog.foldl (ystep m ρ c) (k0_pay2 (F := F))

def Ev.isMM (e : Ev) : Bool := match e with
  | .mm _ _ => true
  | _ => false
theorem no_mm : ∀ n < 140, 81 ≤ n → (prog.drop n).all (fun e => !e.isMM) = true := by decide +kernel

theorem foldl_no_mm (c : Dev nD) : ∀ (l : List Ev) (f : (cc0_scratch6 : Ref sig .tc).ty.Contents (Elt F)), l.all (fun e => !e.isMM) = true → l.foldl (ystep m ρ c) f = f
  | [], _, _ => rfl
  | e :: l, f, h => by
    rw [List.all_cons, Bool.and_eq_true] at h
    rw [List.foldl_cons, foldl_no_mm c l _ h.2]
    cases e <;> first | rfl | exact absurd h.1 (by simp [Ev.isMM])

theorem yAt_end (c : Dev nD) (n : Nat) (h1 : n < 140) (h2 : 81 ≤ n) : yAt m ρ c n = yF m ρ c := by
  unfold yF
  rw [← List.take_append_drop n prog, List.foldl_append, foldl_no_mm m ρ c _ _ (no_mm n h1 h2)]; rfl

theorem yAt_succ (c : Dev nD) {n : Nat} {e : Ev} (h : prog[n]? = some e) : yAt m ρ c (n + 1) = ystep m ρ c (yAt m ρ c n) e := by
  unfold yAt
  rw [List.take_add_one, h]; simp

/-- A device's row of the table of maxima, the table, -/
def amrow (d : Dev nD) : Vec F S1x1x128 .f32 := k0_pay36 (k0_pay35 (yF m ρ d))
def tbl : (ref .am).ty.Contents (Elt F) := cont .am fun s => amrow m ρ s
/-- the final product's blocks, quantised, and the result's. -/
def yblk (c : Dev nD) (o : Fin 8) : Vec F S512x256 .f32 := yM.view.readAt (Elt F) (yrect o).toLoadRect (yF m ρ c)
def qv (c : Dev nD) (o : Fin 8) : Vec F S512x256 .i8 := k0_pay40 (tbl m ρ) (yblk m ρ c o)
def ov (c : Dev nD) (d : Fin 8) : Vec F S512x256 .f32 :=
  if d = c then k0_pay47 (k0_pay38 (tbl m ρ)) (k0_pay39 (tbl m ρ)) (yblk m ρ c c) else k0_pay48 (k0_pay38 (tbl m ρ)) (qv m ρ d c)

/-- What the pieces of a device's buffers come to hold. -/
def vec (c : Dev nD) (k : Bk) : ∀ s, (prect k s).shape.Idx → Elt F (ref k).ty.elt := match k with
  | .w r => fun s => wvec m ρ r s
  | .am => fun s => amrow m ρ s
  | .q => fun s => qv m ρ c s
  | .ti => fun s => qv m ρ s c
  | .o => fun s => ov m ρ c s
def ct (c : Dev nD) (k : Bk) : (ref k).ty.Contents (Elt F) := cont k (vec m ρ c k)

/-! ## Pieces held -/

abbrev lf (k : Bk) (l : Fin 8) (h : l.val < 2 ^ lvl k) : PosShare TreeShare := ShareLeaves.leaf (lvl k) fullShare ⟨l.val, h⟩

abbrev pts (c : Dev nD) (k : Bk) (S : Finset (shp k).Idx) (q : PosShare TreeShare) (f : (ref k).ty.Contents (Elt F)) : sProp 𝕄 :=
  ((c : Thread nD τ).loc (ref k)) ↦[S]{q} f

/-- A share of a piece at its final contents; a piece at any. -/
def pcA (c : Dev nD) (p : Bk × Fin 8 × Fin 8) : sProp 𝕄 :=
  if h : p.2.2.val < 2 ^ lvl p.1 then pts c p.1 (piece p.1 p.2.1) (lf p.1 p.2.2 h) (ct m ρ c p.1) else iprop(emp)
def gbA (c : Dev nD) (p : Bk × Fin 8) : sProp 𝕄 := iprop(∃ f, pts (F := F) c p.1 (piece p.1 p.2) fullShare f)

instance pcA_storable (c : Dev nD) (p) : BI.Storable (upEmb : UEmb _ 𝕄) (pcA m ρ c p) := by unfold pcA; split <;> infer_instance
instance gbA_storable (c : Dev nD) (p) : BI.Storable (upEmb : UEmb _ 𝕄) (gbA (F := F) c p) := by unfold gbA; infer_instance

instance bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih =>
    rw [bigSepL_cons]
    exact (inferInstance : BI.Storable (upEmb : UEmb _ 𝕄) (iprop(Φ i ∗ bigSepL l Φ) : sProp 𝕄))

/-! ## Cells -/

abbrev barS : Sem sig := (SemArray.scalar (sig.barrier 0 rfl) : Sems sig S_).sem
/-- A device's cells: the barrier's, and both ends of every transfer. -/
abbrev CI : Type := Option (Bool × Xf)
def csem (k : CI) : SemLoc sig := match k with
  | none => .reg barS
  | some (true, x) => .dma (sSem x)
  | some (false, x) => .dma (rSem x)
abbrev kcell (ck : Dev nD × CI) : GSem nD τ sig := ((ck.1 : Thread nD τ), csem ck.2)
abbrev barCell (c : Dev nD) : GSem nD τ sig := ((c : Thread nD τ), .reg barS)
abbrev sCell (c : Dev nD) (x : Xf) : GSem nD τ sig := ((c : Thread nD τ), .dma (sSem x))
abbrev rCell (c : Dev nD) (x : Xf) : GSem nD τ sig := ((c : Thread nD τ), .dma (rSem x))

/-- The shape a transfer moves, and what it credits. -/
def xsz (x : Xf) : Fin (shp (dbuf x)).rank → Nat := match x with
  | .w 0 k => if k.val = 1 then S2752x256.size else S1376x256.size
  | .w 1 k => if k.val = 1 then S2720x256.size else S1360x256.size
  | .w 2 k => if k.val = 1 then S2720x256.size else S1360x256.size
  | .a _ => S1x1x128.size
  | .t _ => S512x256.size
def amt (x : Xf) : ℕ := sig.dmaCredit .tc ((Kind.tc).table (ref (dbuf x)).space) (ref (dbuf x)).idx ⟨(shp (dbuf x)).rank, xsz x⟩ (ref (dbuf x)).ty.elt

theorem amt_pos (x : Xf) : 0 < amt x := sig.dmaCredit_pos _ _ _ _ _ (by revert x; decide +kernel)

/-! ## The schedule -/

/-- What device `d`'s signal hands device `c`: the pieces of `d`'s buffers that `c` will write. -/
def barPay (c d : Dev nD) : sProp 𝕄 := bigSep Finset.univ fun x : Xf => if peer x c = d then bigSepL (dstS x c) (gbA (F := F) d) else iprop(emp)
/-- What a transfer's two ends hand back: the pieces it read, the pieces it wrote. -/
def sPay (c : Dev nD) (x : Xf) : sProp 𝕄 := bigSepL (srcP x c) (pcA m ρ c)
def rPay (c : Dev nD) (x : Xf) : sProp 𝕄 := bigSepL (dstP x (reep x c)) (pcA m ρ c)

instance ite_storable {p : Prop} [Decidable p] (P : sProp 𝕄) [BI.Storable (upEmb : UEmb _ 𝕄) P] :
    BI.Storable (upEmb : UEmb _ 𝕄) (if p then P else iprop(emp)) := by split <;> infer_instance

instance barPay_storable (c d : Dev nD) : BI.Storable (upEmb : UEmb _ 𝕄) (barPay (F := F) c d) := by unfold barPay; infer_instance
instance sPay_storable (c : Dev nD) (x) : BI.Storable (upEmb : UEmb _ 𝕄) (sPay m ρ c x) := by unfold sPay; infer_instance
instance rPay_storable (c : Dev nD) (x) : BI.Storable (upEmb : UEmb _ 𝕄) (rPay m ρ c x) := by unfold rPay; infer_instance

/-- One round at every cell: the barrier's with a duty of one unit for each other device, a transfer's end with the one
    duty of the transfer's credit. -/
def Rd : Rounds.Schedule (GSem nD τ sig) (Dev nD) 𝕄 where
  duties g r := if r = 0 ∧ g.1.2 = .tc then (match g.2 with
    | .reg s => if s = barS then Finset.univ.erase g.1.1 else ∅
    | .dma n => match dec n with
      | some _ => {0}
      | none => ∅) else ∅
  unitless _ := False
  amount g _ _ := match g.2 with
    | .reg _ => 1
    | .dma n => match dec n with
      | some (_, x) => amt x
      | none => 1
  payload g _ d := match g.2 with
    | .reg _ => barPay g.1.1 d
    | .dma n => match dec n with
      | some (true, x) => sPay m ρ g.1.1 x
      | some (false, x) => rPay m ρ g.1.1 x
      | none => iprop(emp)
  amount_pos g _ _ _ := by
    rcases g with ⟨_, _ | n⟩
    · exact Nat.one_pos
    · dsimp only
      rcases dec n with _ | ⟨_, x⟩
      · exact Nat.one_pos
      · exact amt_pos x

instance Rd_payload_storable (g : GSem nD τ sig) (r : ℕ) (d : Dev nD) :
    BI.Storable (upEmb : UEmb _ 𝕄) ((Rd (F := F) m ρ).payload g r d) := by
  rcases g with ⟨_, _ | n⟩
  · exact barPay_storable _ _
  · dsimp only [Rd]
    rcases dec n with _ | ⟨_ | _, x⟩
    · dsimp only; infer_instance
    · exact rPay_storable m ρ _ _
    · exact sPay_storable m ρ _ _

section Sched
variable (c : Dev nD) (x : Xf) (d : Dev nD)

theorem duties_bar : (Rd (F := F) m ρ).duties (barCell c) 0 = Finset.univ.erase c := by
  dsimp only [Rd]; rw [if_pos ⟨rfl, rfl⟩]; exact if_pos rfl
theorem duties_s : (Rd (F := F) m ρ).duties (sCell c x) 0 = {0} := by
  dsimp only [Rd]; rw [if_pos ⟨rfl, rfl⟩, dec_sSem]
theorem duties_r : (Rd (F := F) m ρ).duties (rCell c x) 0 = {0} := by
  dsimp only [Rd]; rw [if_pos ⟨rfl, rfl⟩, dec_rSem]
theorem duties_later (g : GSem nD τ sig) : ∀ r, 1 ≤ r → (Rd (F := F) m ρ).duties g r = ∅ :=
  fun r hr => by dsimp only [Rd]; rw [if_neg fun h => by omega]
theorem amount_bar : (Rd (F := F) m ρ).amount (barCell c) 0 d = 1 := rfl
theorem amount_s : (Rd (F := F) m ρ).amount (sCell c x) 0 d = amt x := by dsimp only [Rd]; rw [dec_sSem]
theorem amount_r : (Rd (F := F) m ρ).amount (rCell c x) 0 d = amt x := by dsimp only [Rd]; rw [dec_rSem]
theorem payload_bar : (Rd (F := F) m ρ).payload (barCell c) 0 d = barPay c d := rfl
theorem payload_s : (Rd (F := F) m ρ).payload (sCell c x) 0 d = sPay m ρ c x := by dsimp only [Rd]; rw [dec_sSem]
theorem payload_r : (Rd (F := F) m ρ).payload (rCell c x) 0 d = rPay m ρ c x := by dsimp only [Rd]; rw [dec_rSem]

theorem expect_bar : (Rd (F := F) m ρ).expect (barCell c) 0 = 7 := by
  unfold Schedule.expect Schedule.amountOf
  rw [duties_bar, Finset.sum_congr rfl fun d _ => amount_bar m ρ c d, Finset.sum_const, smul_eq_mul, mul_one, Finset.card_erase_of_mem (Finset.mem_univ _),
    Finset.card_univ, Fintype.card_fin]; rfl
theorem expect_s : (Rd (F := F) m ρ).expect (sCell c x) 0 = amt x := by
  unfold Schedule.expect Schedule.amountOf; rw [duties_s, Finset.sum_singleton, amount_s]
theorem expect_r : (Rd (F := F) m ρ).expect (rCell c x) 0 = amt x := by
  unfold Schedule.expect Schedule.amountOf; rw [duties_r, Finset.sum_singleton, amount_r]
theorem rest_s : bigSep ((Rd (F := F) m ρ).duties (sCell c x) 0 \ ∅) (fun d => (Rd (F := F) m ρ).payload (sCell c x) 0 d) = sPay m ρ c x := by
  rw [Finset.sdiff_empty, duties_s, bigSep_singleton, payload_s]
theorem rest_r : bigSep ((Rd (F := F) m ρ).duties (rCell c x) 0 \ ∅) (fun d => (Rd (F := F) m ρ).payload (rCell c x) 0 d) = rPay m ρ c x := by
  rw [Finset.sdiff_empty, duties_r, bigSep_singleton, payload_r]
theorem rest_bar : bigSep ((Rd (F := F) m ρ).duties (barCell c) 0 \ ∅) (fun d => (Rd (F := F) m ρ).payload (barCell c) 0 d)
    = bigSep (Finset.univ.erase c) fun d => barPay (F := F) c d := by
  rw [Finset.sdiff_empty, duties_bar]; rfl
end Sched

/-! ## What a device owes; levels -/

/-- The credits the transfers of a list of events will add on other devices. -/
def owedL (c : Dev nD) : List Ev → CellTallies nD τ sig Unit
  | [] => 0
  | .send x :: l => owedL c l + tallyAt (rCell (peer x c) x) () (amt x)
  | _ :: l => owedL c l
def owed (c : Dev nD) (n : ℕ) : CellTallies nD τ sig Unit := owedL c (prog.drop n)

def L (g : GSem nD τ sig) : Finset Unit := if g.1.2 = .tc then {()} else ∅
/-- Barrier cells at 1, receive cells at their rank, everything else at 0. -/
def lv (g : GSem nD τ sig) (_ : Unit) : ℕ := match g.2 with
  | .reg _ => 1
  | .dma n => match dec n with
    | some (false, x) => rank x
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (x : Xf) (u : Unit) : lv (rCell c x) u = rank x := by dsimp only [lv]; rw [dec_rSem]
theorem lv_s (c : Dev nD) (x : Xf) (u : Unit) : lv (sCell c x) u = 0 := by dsimp only [lv]; rw [dec_sSem]
theorem rank_pos' : ∀ x, 1 < rank x := by decide +kernel

theorem owedL_pos (c : Dev nD) : ∀ (l : List Ev) {g : GSem nD τ sig} {u : Unit}, 0 < owedL c l g u → ∃ x, .send x ∈ l ∧ g = rCell (peer x c) x
  | [], g, u, h => by exact absurd h (Nat.lt_irrefl 0)
  | .send x :: l, g, u, h => by
    unfold owedL at h
    rw [Pi.add_apply, Finsupp.add_apply, tallyAt_apply] at h
    by_cases hg : g = rCell (peer x c) x ∧ u = ()
    · exact ⟨x, List.mem_cons_self, hg.1⟩
    · rw [if_neg hg] at h
      obtain ⟨y, hy, e⟩ := owedL_pos c l h
      exact ⟨y, List.mem_cons_of_mem _ hy, e⟩
  | .own _ _ :: l, g, u, h => (owedL_pos c l h).imp fun y hy => ⟨List.mem_cons_of_mem _ hy.1, hy.2⟩
  | .sw _ :: l, g, u, h => (owedL_pos c l h).imp fun y hy => ⟨List.mem_cons_of_mem _ hy.1, hy.2⟩
  | .rw _ :: l, g, u, h => (owedL_pos c l h).imp fun y hy => ⟨List.mem_cons_of_mem _ hy.1, hy.2⟩
  | .mm _ _ :: l, g, u, h => (owedL_pos c l h).imp fun y hy => ⟨List.mem_cons_of_mem _ hy.1, hy.2⟩

/-- A device may wait for a cell that ranks below every transfer it has still to issue. -/
theorem mayWait_list (c : Dev nD) (sm : SemLoc sig) (l : List Ev) (h : ∀ x, .send x ∈ l → lv ((c : Thread nD τ), sm) () < rank x) :
    (levAts L lv : sProp 𝕄) ⊢ MayWait (c : Thread nD τ) sm () (owedL c l) :=
  MayOwe.of_cut (L := L) (lev := lv) (lv ((c : Thread nD τ), sm) ())
    (fun p hp => by rw [Finset.mem_singleton.mp hp, L_tc]; exact Finset.mem_singleton_self _)
    (fun g u hg => by obtain ⟨x, _, rfl⟩ := owedL_pos c l hg; rw [L_tc]; exact Finset.mem_singleton_self _)
    (fun p hp => by rw [Finset.mem_singleton.mp hp])
    (fun g u hg => by obtain ⟨x, hx, rfl⟩ := owedL_pos c l hg; rw [lv_r]; exact h x hx)

/-! ## Between two events -/

/-- What a device holds of an item in a given state: an end of a transfer not yet used (its duty tokens and the pieces
    it will write), in flight, and closed; a share of a piece; a piece at any contents. -/
def R (c : Dev nD) (i : Item) (s : ℕ) : sProp 𝕄 := match i, s with
  | .snd x, 0 => iprop(dutyTok ER (sCell c x) 0 0 ∗ dutyTok ER (rCell (peer x c) x) 0 0 ∗ atPos ER (sCell c x) 0 ∅ 0 ∗ bigSepL (dstS x c) (gbA (F := F) (peer x c)))
  | .snd x, 1 => iprop(cred (tallyAt (sCell c x) () (amt x)) ∗ atPos ER (sCell c x) 0 ∅ 0)
  | .snd x, 2 => semVal (sCell c x) 0
  | .rcv x, 0 => iprop(cred (tallyAt (rCell c x) () (amt x)) ∗ atPos ER (rCell c x) 0 ∅ 0)
  | .rcv x, 1 => semVal (rCell c x) 0
  | .pc k s l, 2 => pcA m ρ c (k, s, l)
  | .gb k s, 1 => gbA c (k, s)
  | _, _ => iprop(emp)

def records (K : Dev nD × CI → ℕ) : sProp 𝕄 :=
  iprop((bigSep Finset.univ fun ck : Dev nD × CI => cellInv ER (Rd m ρ) (K ck) (kcell ck))
    ∗ (bigSep Finset.univ fun ck : Dev nD × CI => reached ER (kcell ck) 0) ∗ levAts L lv)
instance records_persistent (K : Dev nD × CI → ℕ) : BI.Persistent (records m ρ K) := by unfold records; infer_instance

/-- What no event changes: the staged operands, the narrow `x`, the closed barrier cell. -/
def Kn (c : Dev nD) : sProp 𝕄 :=
  iprop((((c : Thread nD τ).loc cc0_stg0_0) ↦{fullShare} xstg m ρ c) ∗ (((c : Thread nD τ).loc cc0_stg1_0) ↦{fullShare} wstg m ρ c)
    ∗ (((c : Thread nD τ).loc cc0_scratch5) ↦{fullShare} xb m ρ c) ∗ semVal (barCell c) 0)
def Ow (c : Dev nD) (n : ℕ) : sProp 𝕄 := iprop(∃ W, owes (c : Thread nD τ) (owed c n) W)
def Yn (c : Dev nD) (n : ℕ) : sProp 𝕄 := ((c : Thread nD τ).loc cc0_scratch6) ↦{fullShare} yAt m ρ c n
def Its (c : Dev nD) (n : ℕ) : sProp 𝕄 := bigSep Finset.univ fun i => R m ρ c i (stat c n i)

/-- What device `c` holds after the first `n` events. -/
def St (K : Dev nD × CI → ℕ) (c : Dev nD) (n : ℕ) : sProp 𝕄 :=
  iprop(records m ρ K ∗ Kn m ρ c ∗ Ow c n ∗ Yn m ρ c n ∗ Its m ρ c n)

end Cert.MeshProof

end
-- ==== Proof.Pieces.lean ====
/-
  Pieces joined and split: the shares of a piece are the piece, a run of pieces is a slab, all eight are the buffer; and
  the items an event touches, taken out of what a device holds and put back.
-/
module

public import proofs.«01_k».proof.Proof.Protocol

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-! ## Lists of things held -/

theorem bigSepL_congr {I : Type} (l : List I) {Φ Ψ : I → sProp 𝕄} (h : ∀ i ∈ l, Φ i = Ψ i) : bigSepL l Φ = bigSepL l Ψ :=
  (bigSepL_mono fun i hi => Entails.of_eq (h i hi)).antisymm (bigSepL_mono fun i hi => Entails.of_eq (h i hi).symm)

theorem bigSepL_flat {I J : Type} (l : List I) (g : I → List J) (Φ : J → sProp 𝕄) : bigSepL (l.flatMap g) Φ = bigSepL l fun i => bigSepL (g i) Φ := by
  induction l with
  | nil => rfl
  | cons i l ih => rw [List.flatMap_cons, bigSepL_append, bigSepL_cons', ih]

theorem bigSepL_emp {I : Type} (l : List I) : bigSepL l (fun _ => (iprop(emp) : sProp 𝕄)) = iprop(emp) := by
  induction l with
  | nil => rfl
  | cons i l ih => rw [bigSepL_cons', ih]; exact equiv_iff.mp emp_sep

/-! ## Runs of pieces -/

theorem f8_val {n : Nat} (h : n < 8) : (f8 n).val = n := Nat.mod_eq_of_lt h

theorem slab_zero (k : Bk) (l : Nat) : slab k l 0 = ∅ := by
  ext i; rw [mem_slab]; simp
theorem slab_succ (k : Bk) {l n : Nat} (h : l + (n + 1) ≤ 8) : slab k l (n + 1) = slab k l n ∪ piece k (f8 (l + n)) := by
  ext i
  rw [Finset.mem_union, mem_slab, mem_slab, mem_piece, Fin.ext_iff, f8_val (by omega)]; omega
theorem slab_disj (k : Bk) {l n : Nat} (h : l + (n + 1) ≤ 8) : Disjoint (slab k l n) (piece k (f8 (l + n))) :=
  Finset.disjoint_left.mpr fun i hi hj => by
    rw [mem_slab] at hi; rw [mem_piece, Fin.ext_iff, f8_val (by omega)] at hj; omega
theorem slab_all (k : Bk) : slab k 0 8 = Finset.univ := by
  ext i; rw [mem_slab]; have := (slotOf k i).isLt; simp

/-- A run of pieces at one share and one contents is the slab. -/
theorem pts_run (c : Dev nD) (k : Bk) (q : PosShare TreeShare) (f : (ref k).ty.Contents (Elt F)) (l : Nat) : ∀ n, l + n ≤ 8 →
    bigSepL ((List.range n).map fun i => f8 (l + i)) (fun s => pts (F := F) c k (piece k s) q f) = pts c k (slab k l n) q f
  | 0, _ => by rw [slab_zero]; exact pointsTo_empty.symm
  | n + 1, h => by
    rw [List.range_succ, List.map_append, bigSepL_append, pts_run c k q f l n (by omega), slab_succ k h]
    exact ((pointsTo_union (slab_disj k h)).2).antisymm (pointsTo_union (slab_disj k h)).1

/-- Pieces at any contents are the slab at some. -/
theorem gb_run (c : Dev nD) (k : Bk) (l : Nat) : ∀ n, l + n ≤ 8 →
    bigSepL ((List.range n).map fun i => (k, f8 (l + i))) (gbA (F := F) c) ⊢ iprop(∃ f, pts (F := F) c k (slab k l n) fullShare f)
  | 0, _ => by
    iintro -
    iexists (fun _ => Classical.arbitrary _)
    unfold pts
    rw [slab_zero]
    rw [show ((((c : Thread nD τ).loc (ref k)) ↦[∅]{fullShare} (fun _ => Classical.arbitrary _)) : sProp 𝕄) = iprop(emp) from pointsTo_empty]
    iempintro
  | n + 1, h => by
    rw [List.range_succ, List.map_append, bigSepL_append, slab_succ k h]
    iintro ⟨H, Hp⟩
    ihave H := (gb_run c k l n (by omega)) $$ H
    icases H with ⟨%f, H⟩
    ihave Hp := (Entails.of_eq (show bigSepL ((List.map (fun i => (k, f8 (l + i))) [n])) (gbA (F := F) c) = gbA c (k, f8 (l + n)) from rfl)) $$ Hp
    unfold gbA
    icases Hp with ⟨%g, Hp⟩
    iexists ((piece k (f8 (l + n))).piecewise g f)
    iapply (pointsTo_join (slab_disj k h))
    isplitl [H] <;> iassumption

theorem pcA_pos (c : Dev nD) (k : Bk) (s l : Fin 8) (h : l.val < 2 ^ lvl k) : pcA m ρ c (k, s, l) = pts c k (piece k s) (lf k l h) (ct m ρ c k) := dif_pos h

/-- The shares of a piece are the piece. -/
theorem leaves_piece (c : Dev nD) (k : Bk) (s : Fin 8) :
    bigSepL (allP (k, s)) (pcA m ρ c) = pts c k (piece k s) fullShare (ct m ρ c k) := by
  unfold allP
  rw [bigSepL_map]
  have h8 : 2 ^ lvl k ≤ 8 := by revert k; decide +kernel
  have hl : leaves k = (List.finRange (2 ^ lvl k)).map fun i => (⟨i.val, by omega⟩ : Fin 8) := by revert k; decide +kernel
  rw [hl, bigSepL_map]
  have hp : pts c k (piece k s) fullShare (ct m ρ c k)
      = bigSep Finset.univ fun i : Fin (2 ^ lvl k) => pts c k (piece k s) (ShareLeaves.leaf (lvl k) fullShare i) (ct m ρ c k) :=
    ShareLeaves.pointsTo_leaves (ℓ := (c : Thread nD τ).loc (ref k)) (piece k s) (ct m ρ c k) (lvl k) fullShare
  rw [hp, bigSep_univ_eq_bigSepL (List.finRange (2 ^ lvl k)) (by rw [List.toFinset_finRange]) (List.nodup_finRange _)]
  refine bigSepL_congr _ fun i _ => ?_
  exact pcA_pos m ρ c k s _ i.isLt

/-! ## A transfer's pieces -/

theorem src_eq (c d : Dev nD) (x : Xf) : bigSepL (srcP x c) (pcA m ρ d) = pts d (sbuf x) (slab (sbuf x) (slo x c) (xlen x)) (lf (sbuf x) (sleaf x) (sleaf_lt x)) (ct m ρ d (sbuf x)) := by
  rw [← pts_run d (sbuf x) _ _ (slo x c) (xlen x) (slo_le x c)]
  unfold srcP
  rw [bigSepL_map, bigSepL_map]
  exact bigSepL_congr _ fun i _ => pcA_pos m ρ d _ _ _ (sleaf_lt x)

theorem dst_eq (c d : Dev nD) (x : Xf) : bigSepL (dstP x c) (pcA m ρ d) = pts d (dbuf x) (slab (dbuf x) (dlo x c) (xlen x)) fullShare (ct m ρ d (dbuf x)) := by
  rw [← pts_run d (dbuf x) _ _ (dlo x c) (xlen x) (dlo_le x c)]
  unfold dstP dstS
  rw [bigSepL_flat, bigSepL_map, bigSepL_map]
  exact bigSepL_congr _ fun i _ => leaves_piece m ρ d _ _

theorem dst_gb (c d : Dev nD) (x : Xf) : bigSepL (dstS x c) (gbA (F := F) d) ⊢ iprop(∃ f, pts (F := F) d (dbuf x) (slab (dbuf x) (dlo x c) (xlen x)) fullShare f) :=
  gb_run d (dbuf x) (dlo x c) (xlen x) (dlo_le x c)

/-- A buffer's contents at any piece agree with those that agree there. -/
theorem pts_congr (c : Dev nD) (k : Bk) (S : Finset (shp k).Idx) (q : PosShare TreeShare) {f g : (ref k).ty.Contents (Elt F)} (h : ∀ i ∈ S, f i = g i) :
    pts c k S q f ⊢ pts c k S q g := Entails.of_eq (pointsTo_congr h)

/-! ## An event's items -/

theorem bigSepL_items (c : Dev nD) (n : Nat) (l : List (Item × Nat × Nat)) (hl : (l.map (·.1)).Nodup) (st : Item → Nat) :
    bigSep Finset.univ (fun i => R m ρ c i (st i))
      = iprop(bigSepL l (fun p => R m ρ c p.1 (st p.1)) ∗ bigSep (Finset.univ \ (l.map (·.1)).toFinset) fun i => R m ρ c i (st i)) := by
  rw [bigSep_sdiff_split (Finset.subset_univ (l.map (·.1)).toFinset), bigSep_eq_bigSepL _ hl, bigSepL_map]
  rfl

/-- An event takes its items out in the state it finds them and puts them back in the state it leaves them. -/
theorem its_step (c : Dev nD) {n : Nat} {e : Ev} (h : prog[n]? = some e) :
    Its m ρ c n ⊢ iprop(bigSepL (touch c e) (fun p => R m ρ c p.1 p.2.1) ∗ (bigSepL (touch c e) (fun p => R m ρ c p.1 p.2.2) -∗ Its m ρ c (n + 1))) := by
  unfold Its
  rw [bigSepL_items m ρ c n (touch c e) (nodup_at c h) (stat c n), bigSepL_items m ρ c n (touch c e) (nodup_at c h) (stat c (n + 1)),
    bigSepL_congr (touch c e) (fun p hp => by rw [before_at c h p hp] : ∀ p ∈ touch c e, R m ρ c p.1 (stat c n p.1) = R m ρ c p.1 p.2.1),
    bigSepL_congr (touch c e) (fun p hp => by rw [after_at c h p hp] : ∀ p ∈ touch c e, R m ρ c p.1 (stat c (n + 1) p.1) = R m ρ c p.1 p.2.2),
    bigSep_congr (s := Finset.univ \ ((touch c e).map (·.1)).toFinset) (fun i hi => by
      rw [same_at c h i (by simpa using hi)] : ∀ i ∈ Finset.univ \ ((touch c e).map (·.1)).toFinset, R m ρ c i (stat c (n + 1) i) = R m ρ c i (stat c n i))]
  iintro ⟨H, Hr⟩
  isplitl [H]; · iexact H
  iintro H
  isplitl [H] <;> iassumption

/-- Any one item may be looked at. -/
theorem its_peek (c : Dev nD) (n : Nat) (i : Item) (s : Nat) (h : stat c n i = s) :
    Its m ρ c n ⊢ iprop(R m ρ c i s ∗ (R m ρ c i s -∗ Its m ρ c n)) := by
  subst h
  unfold Its
  rw [show bigSep Finset.univ (fun j => R m ρ c j (stat c n j)) = iprop(R m ρ c i (stat c n i) ∗ bigSep (Finset.univ.erase i) fun j => R m ρ c j (stat c n j)) from
    bigSep_univ_split i]
  iintro ⟨H, Hr⟩
  isplitl [H]; · iexact H
  iintro H
  isplitl [H] <;> iassumption

theorem reads_nodup : ∀ e ∈ prog, ∀ c, ((reads c e).map Item.ofP).Nodup := by decide +kernel

/-- All the pieces an event reads may be looked at together. -/
theorem its_reads (c : Dev nD) {n : Nat} {e : Ev} (h : prog[n]? = some e) :
    Its m ρ c n ⊢ iprop(bigSepL (reads c e) (pcA m ρ c) ∗ (bigSepL (reads c e) (pcA m ρ c) -∗ Its m ρ c n)) := by
  have hn := reads_nodup e (List.mem_of_getElem? h) c
  have hs : Its m ρ c n = iprop(bigSepL (reads c e) (pcA m ρ c) ∗ bigSep (Finset.univ \ ((reads c e).map Item.ofP).toFinset) fun i => R m ρ c i (stat c n i)) := by
    unfold Its
    rw [bigSep_sdiff_split (Finset.subset_univ ((reads c e).map Item.ofP).toFinset), bigSep_eq_bigSepL _ hn, bigSepL_map,
      bigSepL_congr (reads c e) (fun p hp => by rw [reads_at c h p hp]; rfl : ∀ p ∈ reads c e, R m ρ c (Item.ofP p) (stat c n (Item.ofP p)) = pcA m ρ c p)]
    rfl
  rw [hs]
  iintro ⟨H, Hr⟩
  isplitl [H]; · iexact H
  iintro H
  isplitl [H] <;> iassumption

end Cert.MeshProof

end
-- ==== Proof.Steps.lean ====
/-
  The steps: each memory operation of the kernel as a move from what a device holds after `n` events.
-/
module

public import proofs.«01_k».proof.Proof.Pieces

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-- A program run by a device's core to a postcondition. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Gluing -/

theorem WP_bind {α : Type} {Q : α → sProp 𝕄} {β : Type} {P : sProp 𝕄} {p : Prog (TpuEff nD τ sig (Elt F) Λ₀ .tc) β} {f : β → Prog (TpuEff nD τ sig (Elt F) Λ₀ .tc) α}
    (R : β → sProp 𝕄) (h₁ : P ⊢ WP c p R) (h₂ : ∀ v, R v ⊢ WP c (f v) Q) : P ⊢ WP c (p >>= f) Q := by
  unfold WP
  rw [wp_bind]
  exact h₁.trans (wp_mono _ _ _ h₂)

theorem WP_ret {α : Type} {Q : α → sProp 𝕄} {P : sProp 𝕄} {v : α} (h : P ⊢ Q v) : P ⊢ WP c (.ret v) Q := by
  unfold WP
  rw [wp_ret]
  exact h.trans fupd_intro

/-! ## Records -/

theorem rec_inv (ck : Dev nD × CI) : records m ρ K ⊢ cellInv ER (Rd m ρ) (K ck) (kcell ck) := by
  have h : (bigSep Finset.univ fun ck : Dev nD × CI => cellInv ER (Rd m ρ) (K ck) (kcell ck)) ⊢ cellInv ER (Rd m ρ) (K ck) (kcell ck) := bigSep_elim (Finset.mem_univ ck)
  unfold records
  iintro ⟨H, -, -⟩
  iapply h $$ H
theorem rec_reached (ck : Dev nD × CI) : records m ρ K ⊢ reached ER (kcell ck) 0 := by
  have h : (bigSep Finset.univ fun ck : Dev nD × CI => (reached ER (kcell ck) 0 : sProp 𝕄)) ⊢ reached ER (kcell ck) 0 := bigSep_elim (Finset.mem_univ ck)
  unfold records
  iintro ⟨-, H, -⟩
  iapply h $$ H
theorem rec_lev : records m ρ K ⊢ (levAts L lv : sProp 𝕄) := by
  unfold records
  iintro ⟨-, -, H⟩
  iexact H

/-! ## Offsets -/

/-- An offset is a piece's; a rectangle is a run of pieces; an offset is a block of columns'. -/
def isOff (k : Bk) (off : Fin (shp k).rank → Nat) (s : Fin 8) : Bool := decide (off = poff k s)
def isFull (k : Bk) (l n : Nat) (off size : Fin (shp k).rank → Nat) : Bool := decide (Full k l n off size)
def isY (off : Fin 2 → Nat) (o : Fin 8) : Bool := decide (off = yoff o)
theorem isOff_eq {k : Bk} {off : Fin (shp k).rank → Nat} {s : Fin 8} (h : isOff k off s = true) : off = poff k s := of_decide_eq_true h
theorem isFull_eq {k : Bk} {l n : Nat} {off size : Fin (shp k).rank → Nat} (h : isFull k l n off size = true) : Full k l n off size := of_decide_eq_true h
theorem isY_eq {off : Fin 2 → Nat} {o : Fin 8} (h : isY off o = true) : off = yoff o := of_decide_eq_true h

/-! ## Loads -/

section Loads
variable {cs : CoreSpace} {s : Shape} {e : EltTy}

/-- A load from a buffer a state can show and take back. -/
theorem load_of {α : Type} {Q : α → sProp 𝕄} {P : sProp 𝕄} {mr : Memref sig .tc cs s e} {r : Rect s} {hl : mr.view.LoadsAt r.toLoadRect} {k : (r.shape.Idx → Elt F e) → Prog (TpuEff nD τ sig (Elt F) Λ₀ .tc) α}
    {S : Finset (Idx ((mr.access r : View sig .tc _ _ _).loc (c : Thread nD τ)))} {q : PosShare TreeShare} {f : Buf (Elt F) ((mr.access r : View sig .tc _ _ _).loc (c : Thread nD τ))}
    (hS : (mr.access r : View sig .tc _ _ _).set ⊆ S)
    (hP : P ⊢ iprop(((mr.access r : View sig .tc _ _ _).loc (c : Thread nD τ) ↦[S]{q} f) ∗ (((mr.access r : View sig .tc _ _ _).loc (c : Thread nD τ) ↦[S]{q} f) -∗ P)))
    (h : P ⊢ WP c (k (mr.view.readAt (Elt F) r.toLoadRect f)) Q) : P ⊢ WP c (.op (.load mr r.toLoadRect hl) k) Q := by
  refine hP.trans ?_
  iintro ⟨H, Hr⟩
  iapply (wp_load_rect 𝒱₀ (c : Thread nD τ) none Set.univ (m := mr) (r := r) (hl := hl) (S := S) (q := q) (f := f) hS) $$ H
  iintro H
  ihave HP := Hr $$ H
  iapply h $$ HP

end Loads

theorem St_w (n : ℕ) : St m ρ K c n ⊢ iprop((((c : Thread nD τ).loc cc0_stg1_0) ↦{fullShare} wstg m ρ c) ∗ ((((c : Thread nD τ).loc cc0_stg1_0) ↦{fullShare} wstg m ρ c) -∗ St m ρ K c n)) := by
  unfold St Kn
  iintro ⟨#Hr, ⟨Hx, Hw, Hxb, Hb⟩, HO, HY, HI⟩
  isplitl [Hw]; · iexact Hw
  iintro Hw
  iframe
  iexact Hr
theorem St_xb (n : ℕ) : St m ρ K c n ⊢ iprop((((c : Thread nD τ).loc cc0_scratch5) ↦{fullShare} xb m ρ c) ∗ ((((c : Thread nD τ).loc cc0_scratch5) ↦{fullShare} xb m ρ c) -∗ St m ρ K c n)) := by
  unfold St Kn
  iintro ⟨#Hr, ⟨Hx, Hw, Hxb, Hb⟩, HO, HY, HI⟩
  isplitl [Hxb]; · iexact Hxb
  iintro Hxb
  iframe
  iexact Hr
theorem St_y (n : ℕ) : St m ρ K c n ⊢ iprop((((c : Thread nD τ).loc cc0_scratch6) ↦{fullShare} yAt m ρ c n) ∗ ((((c : Thread nD τ).loc cc0_scratch6) ↦{fullShare} yAt m ρ c n) -∗ St m ρ K c n)) := by
  unfold St Yn
  iintro ⟨#Hr, HK, HO, HY, HI⟩
  isplitl [HY]; · iexact HY
  iintro HY
  iframe
  iexact Hr
theorem St_its {n : ℕ} {P : sProp 𝕄} (h : Its m ρ c n ⊢ iprop(P ∗ (P -∗ Its m ρ c n))) : St m ρ K c n ⊢ iprop(P ∗ (P -∗ St m ρ K c n)) := by
  unfold St
  iintro ⟨#Hr, HK, HO, HY, HI⟩
  ihave HI := h $$ HI
  icases HI with ⟨HP, HI⟩
  isplitl [HP]; · iexact HP
  iintro HP
  ihave HI := HI $$ HP
  iframe
  iexact Hr

theorem load_w {α : Type} {Q : α → sProp 𝕄} {n : ℕ} {r : Rect S4096x256} {hl : wM.view.LoadsAt r.toLoadRect} {k : (r.shape.Idx → Elt F .f32) → Prog (TpuEff nD τ sig (Elt F) Λ₀ .tc) α}
    (h : St m ρ K c n ⊢ WP c (k (wM.view.readAt (Elt F) r.toLoadRect (wstg m ρ c))) Q) : St m ρ K c n ⊢ WP c (.op (.load wM r.toLoadRect hl) k) Q :=
  load_of c (Finset.subset_univ _) (St_w m ρ K c n) h
theorem load_xb {α : Type} {Q : α → sProp 𝕄} {n : ℕ} {r : Rect S512x4096} {hl : xbM.view.LoadsAt r.toLoadRect} {k : (r.shape.Idx → Elt F .bf16) → Prog (TpuEff nD τ sig (Elt F) Λ₀ .tc) α}
    (h : St m ρ K c n ⊢ WP c (k (xbM.view.readAt (Elt F) r.toLoadRect (xb m ρ c))) Q) : St m ρ K c n ⊢ WP c (.op (.load xbM r.toLoadRect hl) k) Q :=
  load_of c (Finset.subset_univ _) (St_xb m ρ K c n) h
theorem load_y' {α : Type} {Q : α → sProp 𝕄} {n : ℕ} {r : Rect S512x2048} {hl : yM.view.LoadsAt r.toLoadRect} {k : (r.shape.Idx → Elt F .f32) → Prog (TpuEff nD τ sig (Elt F) Λ₀ .tc) α}
    (h : St m ρ K c n ⊢ WP c (k (yM.view.readAt (Elt F) r.toLoadRect (yAt m ρ c n))) Q) : St m ρ K c n ⊢ WP c (.op (.load yM r.toLoadRect hl) k) Q :=
  load_of c (Finset.subset_univ _) (St_y m ρ K c n) h

/-- A load of a block of columns of the accumulator. -/
theorem load_y {α : Type} {Q : α → sProp 𝕄} (o : Dev nD → Fin 8) {n : ℕ} {off : Dev nD → Fin 2 → Nat} (ho : ∀ d, isY (off d) (o d) = true) {inb : ∀ a, off c a + S512x256.size a ≤ S512x2048.size a}
    {hl : yM.view.LoadsAt (Rect.unit (s := S512x2048) (off c) S512x256.size inb).toLoadRect} {k : (S512x256.Idx → Elt F .f32) → Prog (TpuEff nD τ sig (Elt F) Λ₀ .tc) α}
    (h : St m ρ K c n ⊢ WP c (k (yM.view.readAt (Elt F) (yrect (o c)).toLoadRect (yAt m ρ c n))) Q) :
    St m ρ K c n ⊢ WP c (.op (.load yM (Rect.unit (s := S512x2048) (off c) S512x256.size inb).toLoadRect hl) k) Q := by
  have := isY_eq (ho c)
  generalize off c = of at this inb hl
  subst this
  exact load_y' m ρ K c h

theorem leaf_zero (k : Bk) : (0 : Fin 8).val < 2 ^ lvl k := by revert k; decide +kernel

theorem St_piece (k : Bk) (s : Fin 8) {n : ℕ} {e : Ev} (hn : prog[n]? = some e) (hm : (k, s, 0) ∈ reads c e) :
    St m ρ K c n ⊢ iprop(pts c k (piece k s) (lf k 0 (leaf_zero k)) (ct m ρ c k) ∗ (pts c k (piece k s) (lf k 0 (leaf_zero k)) (ct m ρ c k) -∗ St m ρ K c n)) := by
  have h := its_peek m ρ c n (Item.ofP (k, s, 0)) 2 (reads_at c hn (k, s, 0) hm)
  rw [show R m ρ c (Item.ofP (k, s, 0)) 2 = pts c k (piece k s) (lf k 0 (leaf_zero k)) (ct m ρ c k) from pcA_pos m ρ c k s 0 _] at h
  exact St_its m ρ K c h

/-- A load of a piece the event reads. -/
theorem load_pc {α : Type} {Q : α → sProp 𝕄} (bk : Bk) (sl : Dev nD → Fin 8) {e : Ev} {n : ℕ} (hn : prog[n]? = some e) (hm : ∀ d, (bk, sl d, 0) ∈ reads d e)
    {off : Dev nD → Fin (shp bk).rank → Nat} (ho : ∀ d, isOff bk (off d) (sl d) = true) {inb : ∀ a, off c a + psz bk a ≤ (shp bk).size a}
    {hl : (wh bk).view.LoadsAt (Rect.unit (s := shp bk) (off c) (psz bk) inb).toLoadRect} {k : ((prect bk (sl c)).shape.Idx → Elt F (ref bk).ty.elt) → Prog (TpuEff nD τ sig (Elt F) Λ₀ .tc) α}
    (h : St m ρ K c n ⊢ WP c (k (vec m ρ c bk (sl c))) Q) :
    St m ρ K c n ⊢ WP c (.op (.load (wh bk) (Rect.unit (s := shp bk) (off c) (psz bk) inb).toLoadRect hl) k) Q := by
  have := isOff_eq (ho c)
  generalize off c = of at this inb hl
  subst this
  refine load_of c (S := piece bk (sl c)) ?_ (St_piece m ρ K c bk (sl c) hn (hm c)) ?_
  · exact (View.set_slice_whole _ _).trans (prect_set bk (sl c)) |>.subset
  · unfold ct; rw [read_piece]; exact h

theorem St_gb (k : Bk) (s : Fin 8) {n : ℕ} (hs : stat c n (.gb k s) = 1) :
    St m ρ K c n ⊢ iprop(gbA c (k, s) ∗ (gbA c (k, s) -∗ St m ρ K c n)) :=
  St_its m ρ K c (its_peek m ρ c n (.gb k s) 1 hs)

/-- A load of a piece about to be overwritten: what it reads does not matter. -/
theorem load_gb {α : Type} {Q : α → sProp 𝕄} (bk : Bk) (j : Fin 8) {n : ℕ} (hn : prog[n]? = some (.own bk j))
    {off : Dev nD → Fin (shp bk).rank → Nat} (ho : ∀ d, isOff bk (off d) (slot bk j d) = true) {inb : ∀ a, off c a + psz bk a ≤ (shp bk).size a}
    {hl : (wh bk).view.LoadsAt (Rect.unit (s := shp bk) (off c) (psz bk) inb).toLoadRect} {k : ((prect bk (slot bk j c)).shape.Idx → Elt F (ref bk).ty.elt) → Prog (TpuEff nD τ sig (Elt F) Λ₀ .tc) α}
    (h : ∀ v, St m ρ K c n ⊢ WP c (k v) Q) :
    St m ρ K c n ⊢ WP c (.op (.load (wh bk) (Rect.unit (s := shp bk) (off c) (psz bk) inb).toLoadRect hl) k) Q := by
  have := isOff_eq (ho c)
  generalize off c = of at this inb hl
  subst this
  refine (St_gb m ρ K c bk (slot bk j c) (before_at c hn (.gb bk (slot bk j c), 1, 0) List.mem_cons_self)).trans ?_
  unfold gbA
  iintro ⟨⟨%f, H⟩, Hr⟩
  iapply (wp_load_rect 𝒱₀ (c : Thread nD τ) none Set.univ (m := wh bk) (r := prect bk (slot bk j c)) (hl := hl) (S := piece bk (slot bk j c)) (q := fullShare) (f := f)
    ((View.set_slice_whole _ _).trans (prect_set bk (slot bk j c))).subset) $$ H
  iintro H
  ihave HP := Hr $$ [H]
  · iexists f; iexact H
  iapply (h _) $$ HP

/-! ## Stores -/

theorem owed_skip (n : ℕ) {e : Ev} (hn : prog[n]? = some e) (he : ∀ x, e ≠ .send x) : owed c n = owed c (n + 1) := by
  obtain ⟨hlt, rfl⟩ := List.getElem?_eq_some_iff.mp hn
  unfold owed
  rw [List.drop_eq_getElem_cons hlt]
  generalize prog[n] = e at *
  cases e <;> first | rfl | exact absurd rfl (he _)

theorem owed_send (n : ℕ) {x : Xf} (hn : prog[n]? = some (.send x)) : owed c n = owed c (n + 1) + tallyAt (rCell (peer x c) x) () (amt x) := by
  obtain ⟨hlt, h⟩ := List.getElem?_eq_some_iff.mp hn
  unfold owed
  rw [List.drop_eq_getElem_cons hlt, h]; rfl

theorem yAt_skip (n : ℕ) {e : Ev} (hn : prog[n]? = some e) (he : e.isMM = false) : yAt m ρ c n = yAt m ρ c (n + 1) := by
  rw [yAt_succ m ρ c hn]
  cases e <;> first | rfl | exact absurd he (by simp [Ev.isMM])

/-- A store of an event's own piece. -/
theorem store_own {α : Type} {Q : α → sProp 𝕄} (bk : Bk) (j : Fin 8) {n : ℕ} (hn : prog[n]? = some (.own bk j))
    {off : Dev nD → Fin (shp bk).rank → Nat} (ho : ∀ d, isOff bk (off d) (slot bk j d) = true) {inb : ∀ a, off c a + psz bk a ≤ (shp bk).size a}
    {v : (prect bk (slot bk j c)).shape.Idx → Elt F (ref bk).ty.elt} (hv : v = vec m ρ c bk (slot bk j c))
    {hx : ((wh bk).access (Rect.unit (s := shp bk) (off c) (psz bk) inb) : View sig .tc _ _ _).Stores Finset.univ} {hm}
    {k : PUnit → Prog (TpuEff nD τ sig (Elt F) Λ₀ .tc) α}
    (h : St m ρ K c (n + 1) ⊢ WP c (k ⟨⟩) Q) :
    St m ρ K c n ⊢ WP c (.op (.store (wh bk) (Rect.unit (s := shp bk) (off c) (psz bk) inb) v Finset.univ hx hm) k) Q := by
  have := isOff_eq (ho c)
  generalize off c = of at this inb hx hm
  subst this
  subst hv
  unfold St Ow Yn
  rw [owed_skip c n hn (fun _ => nofun), yAt_skip m ρ c n hn rfl]
  iintro ⟨#Hr, HK, HO, HY, HI⟩
  ihave HI := (its_step m ρ c hn) $$ HI
  icases HI with ⟨HP, HI⟩
  ihave HP := (Entails.of_eq (show bigSepL (touch c (.own bk j)) (fun p => R m ρ c p.1 p.2.1)
    = iprop(gbA c (bk, slot bk j c) ∗ bigSepL (allP (bk, slot bk j c)) fun _ => iprop(emp)) from by
      unfold touch; rw [bigSepL_cons', bigSepL_map]; rfl)) $$ HP
  icases HP with ⟨HP, -⟩
  unfold gbA
  icases HP with ⟨%f, HP⟩
  iapply (wp_store 𝒱₀ (c : Thread nD τ) none Set.univ (m := wh bk) (r := prect bk (slot bk j c)) (w := vec m ρ c bk (slot bk j c)) (Mk := Finset.univ) (hx := hx) (hm := hm) (S := piece bk (slot bk j c)) (f := f)
    ((View.set_slice_whole _ _).trans (prect_set bk (slot bk j c))).subset) $$ HP
  iintro HP
  ihave HP := (pts_congr c bk (piece bk (slot bk j c)) fullShare (g := ct m ρ c bk) (write_piece bk (vec m ρ c bk) (slot bk j c) f)) $$ HP
  iapply h
  unfold St Ow Yn
  isplitr; · iexact Hr
  isplitl [HK]; · iexact HK
  isplitl [HO]; · iexact HO
  isplitl [HY]; · iexact HY
  iapply HI
  iapply (Entails.of_eq (show iprop(emp ∗ bigSepL (allP (bk, slot bk j c)) (pcA m ρ c))
    = bigSepL (touch c (.own bk j)) (fun p => R m ρ c p.1 p.2.2) from by
      unfold touch; rw [bigSepL_cons', bigSepL_map]; rfl))
  isplitr; · iempintro
  iapply (Entails.of_eq (leaves_piece m ρ c bk (slot bk j c)).symm) $$ HP

/-- A store of a product into the accumulator. -/
theorem store_mm {α : Type} {Q : α → sProp 𝕄} (r : Fin 3) (i : Fin 8) {n : ℕ} (hn : prog[n]? = some (.mm r i))
    {off : Dev nD → Fin 2 → Nat} (ho : ∀ d, isY (off d) (ogd r (slotAt r i d)) = true) {inb : ∀ a, off c a + S512x256.size a ≤ S512x2048.size a}
    {v : S512x256.Idx → Elt F .f32}
    (hv : v = mmv m ρ c r (slotAt r i c) (yM.view.readAt (Elt F) (yrect (ogd r (slotAt r i c))).toLoadRect (yAt m ρ c n)))
    {hx : (yM.access (Rect.unit (s := S512x2048) (off c) S512x256.size inb) : View sig .tc _ _ _).Stores Finset.univ} {hm}
    {k : PUnit → Prog (TpuEff nD τ sig (Elt F) Λ₀ .tc) α}
    (h : St m ρ K c (n + 1) ⊢ WP c (k ⟨⟩) Q) :
    St m ρ K c n ⊢ WP c (.op (.store yM (Rect.unit (s := S512x2048) (off c) S512x256.size inb) v Finset.univ hx hm) k) Q := by
  have := isY_eq (ho c)
  generalize off c = of at this inb hx hm
  subst this
  subst hv
  unfold St Ow Yn
  rw [owed_skip c n hn (fun _ => nofun)]
  iintro ⟨#Hr, HK, HO, HY, HI⟩
  ihave HI := (its_step m ρ c hn) $$ HI
  icases HI with ⟨-, HI⟩
  iapply (wp_store 𝒱₀ (c : Thread nD τ) none Set.univ (m := yM) (r := yrect (ogd r (slotAt r i c))) (Mk := Finset.univ) (hx := hx) (hm := hm) (S := Finset.univ) (f := yAt m ρ c n)
    (Finset.subset_univ _)) $$ HY
  iintro HY
  iapply h
  unfold St Ow Yn
  rw [yAt_succ m ρ c hn]
  isplitr; · iexact Hr
  isplitl [HK]; · iexact HK
  isplitl [HO]; · iexact HO
  isplitl [HY]; · iexact HY
  iapply HI
  unfold touch
  iempintro

/-! ## Waits -/

/-- The wait for a transfer's send end: the pieces it read come back. -/
theorem step_sw {α : Type} {Q : α → sProp 𝕄} (x : Xf) {n : ℕ} (hn : prog[n]? = some (.sw x)) {sp sp' : Space} {s s' : Shape} {e e' : EltTy} {ss : DmaSem sig} (hss : ss = sSem x)
    {src : Memref sig .tc sp' s' e'} {κ' : Kind} {dst : Memref sig κ' sp s e} (hN : dst.view.dmaCredit = amt x) {hsrc : src.view.WordExact} {hdst : dst.view.WordExact}
    {k : PUnit → Prog (TpuEff nD τ sig (Elt F) Λ₀ .tc) α} (h : St m ρ K c (n + 1) ⊢ WP c (k ⟨⟩) Q) :
    St m ρ K c n ⊢ WP c (.op (.waitDma2 ss src dst hsrc hdst) k) Q := by
  subst hss
  unfold St Ow Yn
  rw [owed_skip c n hn (fun _ => nofun), yAt_skip m ρ c n hn rfl]
  iintro ⟨#Hr, HK, ⟨%W, HO⟩, HY, HI⟩
  ihave HI := (its_step m ρ c hn) $$ HI
  icases HI with ⟨HP, HI⟩
  ihave HP := (Entails.of_eq (show bigSepL (touch c (.sw x)) (fun p => R m ρ c p.1 p.2.1)
    = iprop((cred (tallyAt (sCell c x) () (amt x)) ∗ atPos ER (sCell c x) 0 ∅ 0) ∗ bigSepL (srcP x c) fun _ => iprop(emp)) from by
      unfold touch; rw [bigSepL_cons', bigSepL_map]; rfl)) $$ HP
  icases HP with ⟨⟨Hc, Hat⟩, -⟩
  ihave #Hinv := (rec_inv m ρ K (c, some (true, x))) $$ Hr
  ihave #Hlev := (rec_lev m ρ K) $$ Hr
  iapply (Rounds.wp_wait_rest_token 𝒱₀ ER (Rd m ρ) (c : Thread nD τ) none (κ := K (c, some (true, x)))
      (wpE_waitDma2_eq 𝒱₀ (c : Thread nD τ) none Set.univ) (Set.mem_univ _) () (O := owed c (n + 1)) (W := W) (R := 0) (m := 0) (T := ∅)
      (by rw [Nat.zero_add, hN]; exact (expect_s m ρ c x).symm)) $$ [Hc HO Hat]
  · isplitr; · iexact Hinv
    isplitl [Hc]; · rw [hN]; iexact Hc
    isplitl [HO]; · iexact HO
    isplitr
    · iapply (mayWait_list (F := F) c (.dma (sSem x)) (prog.drop (n + 1)) (fun y _ => by rw [show lv ((c : Thread nD τ), .dma (sSem x)) () = 0 from lv_s c x ()]; have := rank_pos' y; omega))
      iexact Hlev
    iexact Hat
  iintro ⟨HO, Hat, -, Hpay⟩
  ihave HP := (Entails.of_eq (rest_s m ρ c x)) $$ Hpay
  imod (Rounds.cell_close ER (Rd m ρ) (Set.mem_univ (K (c, some (true, x)))) (fun h => h) (R := 0 + 1) (duties_later m ρ (sCell c x))) $$ [Hat] with Hz
  · isplitr; · iexact Hinv
    iexact Hat
  iapply h
  unfold St Ow Yn
  isplitr; · iexact Hr
  isplitl [HK]; · iexact HK
  isplitl [HO]; · iexists _; iexact HO
  isplitl [HY]; · iexact HY
  iapply HI
  iapply (Entails.of_eq (show iprop(semVal (sCell c x) 0 ∗ bigSepL (srcP x c) (pcA m ρ c))
    = bigSepL (touch c (.sw x)) (fun p => R m ρ c p.1 p.2.2) from by
      unfold touch; rw [bigSepL_cons', bigSepL_map]; rfl))
  isplitl [Hz]; · iexact Hz
  unfold sPay
  iexact HP

theorem calm_rank {n : ℕ} {x y : Xf} (hn : prog[n]? = some (.rw x)) (hy : .send y ∈ prog.drop (n + 1)) : rank x < rank y := by
  obtain ⟨hlt, he⟩ := List.getElem?_eq_some_iff.mp hn
  have h := calm_all n (by rw [← prog_length]; exact hlt)
  have hd : prog.drop n = .rw x :: prog.drop (n + 1) := by rw [List.drop_eq_getElem_cons hlt, he]
  unfold calm at h
  rw [hn] at h
  have h' := List.all_eq_true.mp h (.send y) (by rw [hd]; exact List.mem_cons_of_mem _ hy)
  simpa using h'

/-- The wait for a transfer's receive end: the pieces it wrote come. -/
theorem step_rw {α : Type} {Q : α → sProp 𝕄} (x : Xf) {n : ℕ} (hn : prog[n]? = some (.rw x)) {sp sp' : Space} {s s' : Shape} {e e' : EltTy} {ss : DmaSem sig} (hss : ss = rSem x)
    {src : Memref sig .tc sp' s' e'} {κ' : Kind} {dst : Memref sig κ' sp s e} (hN : dst.view.dmaCredit = amt x) {hsrc : src.view.WordExact} {hdst : dst.view.WordExact}
    {k : PUnit → Prog (TpuEff nD τ sig (Elt F) Λ₀ .tc) α} (h : St m ρ K c (n + 1) ⊢ WP c (k ⟨⟩) Q) :
    St m ρ K c n ⊢ WP c (.op (.waitDma2 ss src dst hsrc hdst) k) Q := by
  subst hss
  unfold St Ow Yn
  rw [owed_skip c n hn (fun _ => nofun), yAt_skip m ρ c n hn rfl]
  iintro ⟨#Hr, HK, ⟨%W, HO⟩, HY, HI⟩
  ihave HI := (its_step m ρ c hn) $$ HI
  icases HI with ⟨HP, HI⟩
  ihave HP := (Entails.of_eq (show bigSepL (touch c (.rw x)) (fun p => R m ρ c p.1 p.2.1)
    = iprop((cred (tallyAt (rCell c x) () (amt x)) ∗ atPos ER (rCell c x) 0 ∅ 0) ∗ bigSepL (dstP x (reep x c)) fun _ => iprop(emp)) from by
      unfold touch; rw [bigSepL_cons', bigSepL_map]; rfl)) $$ HP
  icases HP with ⟨⟨Hc, Hat⟩, -⟩
  ihave #Hinv := (rec_inv m ρ K (c, some (false, x))) $$ Hr
  ihave #Hlev := (rec_lev m ρ K) $$ Hr
  iapply (Rounds.wp_wait_rest_token 𝒱₀ ER (Rd m ρ) (c : Thread nD τ) none (κ := K (c, some (false, x)))
      (wpE_waitDma2_eq 𝒱₀ (c : Thread nD τ) none Set.univ) (Set.mem_univ _) () (O := owed c (n + 1)) (W := W) (R := 0) (m := 0) (T := ∅)
      (by rw [Nat.zero_add, hN]; exact (expect_r m ρ c x).symm)) $$ [Hc HO Hat]
  · isplitr; · iexact Hinv
    isplitl [Hc]; · rw [hN]; iexact Hc
    isplitl [HO]; · iexact HO
    isplitr
    · iapply (mayWait_list (F := F) c (.dma (rSem x)) (prog.drop (n + 1)) (fun y hy => by rw [show lv ((c : Thread nD τ), .dma (rSem x)) () = rank x from lv_r c x ()]; exact calm_rank hn hy))
      iexact Hlev
    iexact Hat
  iintro ⟨HO, Hat, -, Hpay⟩
  ihave HP := (Entails.of_eq (rest_r m ρ c x)) $$ Hpay
  imod (Rounds.cell_close ER (Rd m ρ) (Set.mem_univ (K (c, some (false, x)))) (fun h => h) (R := 0 + 1) (duties_later m ρ (rCell c x))) $$ [Hat] with Hz
  · isplitr; · iexact Hinv
    iexact Hat
  iapply h
  unfold St Ow Yn
  isplitr; · iexact Hr
  isplitl [HK]; · iexact HK
  isplitl [HO]; · iexists _; iexact HO
  isplitl [HY]; · iexact HY
  iapply HI
  iapply (Entails.of_eq (show iprop(semVal (rCell c x) 0 ∗ bigSepL (dstP x (reep x c)) (pcA m ρ c))
    = bigSepL (touch c (.rw x)) (fun p => R m ρ c p.1 p.2.2) from by
      unfold touch; rw [bigSepL_cons', bigSepL_map]; rfl))
  isplitl [Hz]; · iexact Hz
  unfold rPay
  iexact HP

/-! ## Transfers -/

/-- A transfer, from the pieces it reads and the pieces it will write. -/
theorem step_send {α : Type} {Q : α → sProp 𝕄} (x : Xf) {n : ℕ} (hn : prog[n]? = some (.send x)) {s : Shape} {e : EltTy} {ss rs : DmaSem sig} (hss : ss = sSem x) (hrs : rs = rSem x)
    {c' : Dev nD} (hc : c' = peer x c) {src dst : Memref sig .tc .vmem s e} (hN : dst.view.amount (.dma (rSem x)) = amt x)
    {q : PosShare TreeShare} {fs : Buf (Elt F) (src.view.loc (c : Thread nD τ))}
    (hS : bigSepL (srcP x c) (pcA m ρ c) = (src.view.loc (c : Thread nD τ) ↦[src.view.set]{q} fs : sProp 𝕄))
    (hG : bigSepL (dstS x c) (gbA (F := F) (peer x c)) ⊢ (iprop(∃ fd, dst.view.loc (peer x c : Thread nD τ) ↦[dst.view.set]{fullShare} fd) : sProp 𝕄))
    (hP : ∀ fd, (dst.view.loc (peer x c : Thread nD τ) ↦[dst.view.set]{fullShare} (dst.view.write (Elt F) fd (src.view.read (Elt F) fs) Finset.univ) : sProp 𝕄)
      ⊢ bigSepL (dstP x c) (pcA m ρ (peer x c)))
    {hsc : (dst : Memref sig (Dev.tc c' : Thread nD τ).2.kind .vmem s e).view.ref.isScScratch = false} {hsrc : src.view.WordExact} {hdst : dst.view.WordExact}
    {hsem : DmaTarget.Typed .vmem (.dma rs) (.remote (Dev.tc c' : Thread nD τ) dst (.dma ss) hsc)}
    {k : PUnit → Prog (TpuEff nD τ sig (Elt F) Λ₀ .tc) α} (h : St m ρ K c (n + 1) ⊢ WP c (k ⟨⟩) Q) :
    St m ρ K c n ⊢ WP c (.op (.enqueueDma src (.remote (Dev.tc c' : Thread nD τ) dst (.dma ss) hsc) (.dma rs) hsrc hdst hsem) k) Q := by
  subst hss; subst hrs; subst hc
  unfold St Ow Yn
  rw [yAt_skip m ρ c n hn rfl]
  iintro ⟨#Hr, HK, ⟨%W, HO⟩, HY, HI⟩
  ihave HI := (its_step m ρ c hn) $$ HI
  icases HI with ⟨HP, HI⟩
  ihave HP := (Entails.of_eq (show bigSepL (touch c (.send x)) (fun p => R m ρ c p.1 p.2.1)
    = iprop((dutyTok ER (sCell c x) 0 0 ∗ dutyTok ER (rCell (peer x c) x) 0 0 ∗ atPos ER (sCell c x) 0 ∅ 0 ∗ bigSepL (dstS x c) (gbA (F := F) (peer x c))) ∗ bigSepL (srcP x c) (pcA m ρ c)) from by
      unfold touch; rw [bigSepL_cons', bigSepL_map]; rfl)) $$ HP
  icases HP with ⟨⟨Ht1, Ht2, Hat, Hg⟩, Hsrc⟩
  ihave Hg := hG $$ Hg
  icases Hg with ⟨%fd, Hg⟩
  ihave Hsrc := (Entails.of_eq hS) $$ Hsrc
  ihave #Hinv1 := (rec_inv m ρ K (c, some (true, x))) $$ Hr
  ihave #Hinv2 := (rec_inv m ρ K (peer x c, some (false, x))) $$ Hr
  ihave #Hre1 := (rec_reached m ρ K (c, some (true, x))) $$ Hr
  ihave #Hre2 := (rec_reached m ρ K (peer x c, some (false, x))) $$ Hr
  iapply (Rounds.wp_send_pointsTo 𝒱₀ ER (Rd m ρ) (c : Thread nD τ) none (κ₁ := K (c, some (true, x))) (κ₂ := K (peer x c, some (false, x)))
    (r₁ := 0) (r₂ := 0) (d₁ := 0) (d₂ := 0) (fd := fd) (fs := fs) (q := q)
    (by rw [duties_s]; exact Finset.mem_singleton_self _) (by rw [duties_r]; exact Finset.mem_singleton_self _)
    () () (amt x) hN (amount_s m ρ c x 0) (amount_r m ρ (peer x c) x 0) (owed c (n + 1)) (owed_send c n hn) (W := W)
    (by rw [payload_s]; unfold sPay; rw [hS])
    (by rw [payload_r]; unfold rPay; rw [reep_peer]; exact hP fd)) $$ [Ht1 Ht2 Hg Hsrc HO]
  · isplitr; · iexact Hinv1
    isplitr; · iexact Hinv2
    isplitl [Hsrc]; · iexact Hsrc
    isplitl [Hg]; · iexact Hg
    isplitl [HO]; · iexact HO
    isplitl [Ht1]; · iexact Ht1
    isplitr; · iexact Hre1
    isplitl [Ht2]; · iexact Ht2
    iexact Hre2
  iintro ⟨Hc, HO⟩
  iapply h
  unfold St Ow Yn
  isplitr; · iexact Hr
  isplitl [HK]; · iexact HK
  isplitl [HO]; · iexists _; iexact HO
  isplitl [HY]; · iexact HY
  iapply HI
  iapply (Entails.of_eq (show iprop((cred (tallyAt (sCell c x) () (amt x)) ∗ atPos ER (sCell c x) 0 ∅ 0) ∗ bigSepL (srcP x c) fun _ => iprop(emp))
    = bigSepL (touch c (.send x)) (fun p => R m ρ c p.1 p.2.2) from by
      unfold touch; rw [bigSepL_cons', bigSepL_map]; rfl))
  isplitl [Hc Hat]
  · isplitl [Hc] <;> iassumption
  · iapply (Entails.of_eq (bigSepL_emp (F := F) (srcP x c)).symm); iempintro

end Cert.MeshProof

end
-- ==== Proof.Moves.lean ====
/-
  The transfers by kind, the read of the whole table of maxima, and a part of the body run on a device's buffers.
-/
module

public import proofs.«01_k».proof.Proof.Steps

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-! ## Transfers by kind -/

theorem slice_set (k : Bk) {l n : Nat} {off size : Fin (shp k).rank → Nat} {inb : ∀ a, off a + size a ≤ (shp k).size a} (hf : Full k l n off size)
    (hu : ∀ a, (Rect.unit (s := shp k) off size inb).stride a = 1) :
    ((wh k).slice (Rect.unit (s := shp k) off size inb) hu).view.set = slab k l n :=
  (View.set_slice_whole _ _).trans (full_set hf inb)

/-- A transfer between the same rows of two devices' buffers of one kind, whose contents are the same on both. -/
theorem send_same {α : Type} {Q : α → sProp 𝕄} (x : Xf) (bk : Bk) {n : ℕ} (hn : prog[n]? = some (.send x)) {ss rs : DmaSem sig} (hss : ss = sSem x) (hrs : rs = rSem x)
    {dv : Dev nD → Dev nD} (hc : ∀ d, dv d = peer x d) (l k : Nat) (lq : Fin 8) (hq : lq.val < 2 ^ lvl bk)
    (hS : bigSepL (srcP x c) (pcA m ρ c) = pts c bk (slab bk l k) (lf bk lq hq) (ct m ρ c bk))
    (hG : bigSepL (dstS x c) (gbA (F := F) (peer x c)) ⊢ iprop(∃ f, pts (F := F) (peer x c) bk (slab bk l k) fullShare f))
    (hP : bigSepL (dstP x c) (pcA m ρ (peer x c)) = pts (peer x c) bk (slab bk l k) fullShare (ct m ρ (peer x c) bk))
    (hct : ct m ρ c bk = ct m ρ (peer x c) bk)
    {off : Fin (shp bk).rank → Nat} {size : Fin (shp bk).rank → Nat} (hf : Full bk l k off size) {inb : ∀ a, off a + size a ≤ (shp bk).size a} {hu hu'}
    (hN : ((wh bk).slice (Rect.unit (s := shp bk) off size inb) hu).view.amount (.dma (rSem x)) = amt x)
    {hsc : ((wh bk).slice (Rect.unit (s := shp bk) off size inb) hu : Memref sig (Dev.tc (dv c) : Thread nD τ).2.kind .vmem _ _).view.ref.isScScratch = false}
    {hsrc : ((wh bk).slice (Rect.unit (s := shp bk) off size inb) hu').view.WordExact} {hdst : ((wh bk).slice (Rect.unit (s := shp bk) off size inb) hu).view.WordExact}
    {hsem : DmaTarget.Typed .vmem (.dma rs) (.remote (Dev.tc (dv c) : Thread nD τ) ((wh bk).slice (Rect.unit (s := shp bk) off size inb) hu) (.dma ss) hsc)}
    {k' : PUnit → Prog (TpuEff nD τ sig (Elt F) Λ₀ .tc) α} (h : St m ρ K c (n + 1) ⊢ WP c (k' ⟨⟩) Q) :
    St m ρ K c n ⊢ WP c (.op (.enqueueDma ((wh bk).slice (Rect.unit (s := shp bk) off size inb) hu') (.remote (Dev.tc (dv c) : Thread nD τ) ((wh bk).slice (Rect.unit (s := shp bk) off size inb) hu) (.dma ss) hsc) (.dma rs) hsrc hdst hsem) k') Q := by
  have hset := slice_set bk (inb := inb) hf hu
  refine step_send m ρ K c x hn hss hrs (hc c) hN (q := lf bk lq hq) (fs := ct m ρ c bk) ?_ ?_ ?_ h
  · rw [hS]
    exact congrArg (fun S => (pts c bk S (lf bk lq hq) (ct m ρ c bk) : sProp 𝕄)) hset.symm
  · refine hG.trans (Entails.of_eq ?_)
    exact congrArg (fun S => iprop(∃ f, pts (F := F) (peer x c) bk S fullShare f)) hset.symm
  · intro fd
    rw [hP]
    refine Entails.trans (Entails.of_eq ?_) (pts_congr (peer x c) bk (slab bk l k) fullShare
      (f := ((wh bk).slice (Rect.unit (s := shp bk) off size inb) hu).view.write (Elt F) fd (((wh bk).slice (Rect.unit (s := shp bk) off size inb) hu).view.read (Elt F) (ct m ρ c bk)) Finset.univ) ?_)
    · exact congrArg (fun S => (pts (peer x c) bk S fullShare (((wh bk).slice (Rect.unit (s := shp bk) off size inb) hu).view.write (Elt F) fd (((wh bk).slice (Rect.unit (s := shp bk) off size inb) hu).view.read (Elt F) (ct m ρ c bk)) Finset.univ) : sProp 𝕄)) hset
    · intro i hi
      rw [View.write_read_eq_piecewise, View.setOn_univ, ← hct]
      exact Finset.piecewise_eq_of_mem _ _ _ (by rw [hset]; exact hi)

/-- A transfer of pieces of W. -/
theorem send_w {α : Type} {Q : α → sProp 𝕄} (r : Fin 3) (k : Fin 6) {n : ℕ} (hn : prog[n]? = some (.send (.w r k))) {ss rs : DmaSem sig} (hss : ss = sSem (.w r k)) (hrs : rs = rSem (.w r k))
    {dv : Dev nD → Dev nD} (hc : ∀ d, dv d = peer (.w r k) d)
    {off : Dev nD → Fin (shp (.w r)).rank → Nat} {size : Fin (shp (.w r)).rank → Nat} (hf : ∀ d, isFull (.w r) (lo r k d) (len k) (off d) size = true) {inb : ∀ a, off c a + size a ≤ (shp (.w r)).size a} {hu hu'}
    (hN : ((wh (.w r)).slice (Rect.unit (s := shp (.w r)) (off c) size inb) hu).view.amount (.dma (rSem (.w r k))) = amt (.w r k))
    {hsc : ((wh (.w r)).slice (Rect.unit (s := shp (.w r)) (off c) size inb) hu : Memref sig (Dev.tc (dv c) : Thread nD τ).2.kind .vmem _ _).view.ref.isScScratch = false}
    {hsrc : ((wh (.w r)).slice (Rect.unit (s := shp (.w r)) (off c) size inb) hu').view.WordExact} {hdst : ((wh (.w r)).slice (Rect.unit (s := shp (.w r)) (off c) size inb) hu).view.WordExact}
    {hsem : DmaTarget.Typed .vmem (.dma rs) (.remote (Dev.tc (dv c) : Thread nD τ) ((wh (.w r)).slice (Rect.unit (s := shp (.w r)) (off c) size inb) hu) (.dma ss) hsc)}
    {k' : PUnit → Prog (TpuEff nD τ sig (Elt F) Λ₀ .tc) α} (h : St m ρ K c (n + 1) ⊢ WP c (k' ⟨⟩) Q) :
    St m ρ K c n ⊢ WP c (.op (.enqueueDma ((wh (.w r)).slice (Rect.unit (s := shp (.w r)) (off c) size inb) hu') (.remote (Dev.tc (dv c) : Thread nD τ) ((wh (.w r)).slice (Rect.unit (s := shp (.w r)) (off c) size inb) hu) (.dma ss) hsc) (.dma rs) hsrc hdst hsem) k') Q :=
  send_same m ρ K c (.w r k) (.w r) hn hss hrs hc (lo r k c) (len k) 1 (sleaf_lt (.w r k)) (src_eq m ρ c c (.w r k)) (dst_gb c (peer (.w r k) c) (.w r k)) (dst_eq m ρ c (peer (.w r k) c) (.w r k)) rfl (isFull_eq (hf c)) hN h

/-- A transfer of a device's row of maxima. -/
theorem send_a {α : Type} {Q : α → sProp 𝕄} (j : Fin 7) {n : ℕ} (hn : prog[n]? = some (.send (.a j))) {ss rs : DmaSem sig} (hss : ss = sSem (.a j)) (hrs : rs = rSem (.a j))
    {dv : Dev nD → Dev nD} (hc : ∀ d, dv d = peer (.a j) d)
    {off : Dev nD → Fin (shp .am).rank → Nat} {size : Fin (shp .am).rank → Nat} (hf : ∀ d : Dev nD, isFull .am d.val 1 (off d) size = true) {inb : ∀ a, off c a + size a ≤ (shp .am).size a} {hu hu'}
    (hN : ((wh .am).slice (Rect.unit (s := shp .am) (off c) size inb) hu).view.amount (.dma (rSem (.a j))) = amt (.a j))
    {hsc : ((wh .am).slice (Rect.unit (s := shp .am) (off c) size inb) hu : Memref sig (Dev.tc (dv c) : Thread nD τ).2.kind .vmem _ _).view.ref.isScScratch = false}
    {hsrc : ((wh .am).slice (Rect.unit (s := shp .am) (off c) size inb) hu').view.WordExact} {hdst : ((wh .am).slice (Rect.unit (s := shp .am) (off c) size inb) hu).view.WordExact}
    {hsem : DmaTarget.Typed .vmem (.dma rs) (.remote (Dev.tc (dv c) : Thread nD τ) ((wh .am).slice (Rect.unit (s := shp .am) (off c) size inb) hu) (.dma ss) hsc)}
    {k' : PUnit → Prog (TpuEff nD τ sig (Elt F) Λ₀ .tc) α} (h : St m ρ K c (n + 1) ⊢ WP c (k' ⟨⟩) Q) :
    St m ρ K c n ⊢ WP c (.op (.enqueueDma ((wh .am).slice (Rect.unit (s := shp .am) (off c) size inb) hu') (.remote (Dev.tc (dv c) : Thread nD τ) ((wh .am).slice (Rect.unit (s := shp .am) (off c) size inb) hu) (.dma ss) hsc) (.dma rs) hsrc hdst hsem) k') Q :=
  send_same m ρ K c (.a j) .am hn hss hrs hc c.val 1 (sleaf (.a j)) (sleaf_lt (.a j)) (src_eq m ρ c c (.a j)) (dst_gb c (peer (.a j) c) (.a j)) (dst_eq m ρ c (peer (.a j) c) (.a j)) rfl (isFull_eq (hf c)) hN h

/-- A transfer of a quantised tile. -/
theorem send_t {α : Type} {Q : α → sProp 𝕄} (j : Fin 7) {n : ℕ} (hn : prog[n]? = some (.send (.t j))) {ss rs : DmaSem sig} (hss : ss = sSem (.t j)) (hrs : rs = rSem (.t j))
    {dv : Dev nD → Dev nD} (hc : ∀ d, dv d = peer (.t j) d)
    {offS : Dev nD → Fin (shp .q).rank → Nat} (hfS : ∀ d, isOff .q (offS d) (peer (.t j) d) = true) {inbS : ∀ a, offS c a + psz .q a ≤ (shp .q).size a}
    {offD : Dev nD → Fin (shp .ti).rank → Nat} (hfD : ∀ d, isOff .ti (offD d) d = true) {inbD : ∀ a, offD c a + psz .ti a ≤ (shp .ti).size a} {hu hu'}
    (hN : ((wh .ti).slice (Rect.unit (s := shp .ti) (offD c) (psz .ti) inbD) hu).view.amount (.dma (rSem (.t j))) = amt (.t j))
    {hsc : ((wh .ti).slice (Rect.unit (s := shp .ti) (offD c) (psz .ti) inbD) hu : Memref sig (Dev.tc (dv c) : Thread nD τ).2.kind .vmem S512x256 .i8).view.ref.isScScratch = false}
    {hsrc : ((wh .q).slice (Rect.unit (s := shp .q) (offS c) (psz .q) inbS) hu' : Memref sig .tc .vmem S512x256 .i8).view.WordExact} {hdst : ((wh .ti).slice (Rect.unit (s := shp .ti) (offD c) (psz .ti) inbD) hu : Memref sig .tc .vmem S512x256 .i8).view.WordExact}
    {hsem : DmaTarget.Typed .vmem (.dma rs) (.remote (Dev.tc (dv c) : Thread nD τ) ((wh .ti).slice (Rect.unit (s := shp .ti) (offD c) (psz .ti) inbD) hu : Memref sig .tc .vmem S512x256 .i8) (.dma ss) hsc)}
    {k' : PUnit → Prog (TpuEff nD τ sig (Elt F) Λ₀ .tc) α} (h : St m ρ K c (n + 1) ⊢ WP c (k' ⟨⟩) Q) :
    St m ρ K c n ⊢ WP c (.op (.enqueueDma ((wh .q).slice (Rect.unit (s := shp .q) (offS c) (psz .q) inbS) hu' : Memref sig .tc .vmem S512x256 .i8) (.remote (Dev.tc (dv c) : Thread nD τ) ((wh .ti).slice (Rect.unit (s := shp .ti) (offD c) (psz .ti) inbD) hu : Memref sig .tc .vmem S512x256 .i8) (.dma ss) hsc) (.dma rs) hsrc hdst hsem) k') Q := by
  have eS := isOff_eq (hfS c)
  generalize offS c = oS at eS inbS hu' hsrc
  subst eS
  have eD := isOff_eq (hfD c)
  generalize offD c = oD at eD inbD hu hN hsc hdst hsem
  subst eD
  have hsetS : ((wh .q).slice (prect .q (peer (.t j) c)) hu').view.set = slab .q (peer (.t j) c).val 1 := slice_set .q (poff_full .q _) hu'
  have hsetD : ((wh .ti).slice (prect .ti c) hu).view.set = slab .ti c.val 1 := slice_set .ti (poff_full .ti c) hu
  refine step_send m ρ K c (.t j) hn hss hrs (hc c) hN (src := ((wh .q).slice (prect .q (peer (.t j) c)) hu' : Memref sig .tc .vmem S512x256 .i8))
    (dst := ((wh .ti).slice (prect .ti c) hu : Memref sig .tc .vmem S512x256 .i8)) (q := lf .q 0 (leaf_zero .q)) (fs := ct m ρ c .q) ?_ ?_ ?_ h
  · rw [src_eq m ρ c c (.t j)]
    exact congrArg (fun S => (pts c .q S (lf .q 0 (leaf_zero .q)) (ct m ρ c .q) : sProp 𝕄)) hsetS.symm
  · refine (dst_gb c (peer (.t j) c) (.t j)).trans (Entails.of_eq ?_)
    exact congrArg (fun S => iprop(∃ f, pts (F := F) (peer (.t j) c) .ti S fullShare f)) hsetD.symm
  · intro fd
    rw [dst_eq m ρ c (peer (.t j) c) (.t j)]
    refine Entails.trans (Entails.of_eq ?_) (pts_congr (peer (.t j) c) .ti (slab .ti c.val 1) fullShare
      (f := ((wh .ti).slice (prect .ti c) hu).view.write (Elt F) fd (((wh .q).slice (prect .q (peer (.t j) c)) hu').view.read (Elt F) (ct m ρ c .q)) Finset.univ) ?_)
    · exact congrArg (fun S => (pts (peer (.t j) c) .ti S fullShare (((wh .ti).slice (prect .ti c) hu).view.write (Elt F) fd (((wh .q).slice (prect .q (peer (.t j) c)) hu').view.read (Elt F) (ct m ρ c .q)) Finset.univ) : sProp 𝕄)) hsetD
    · have hr : ((wh .q).slice (prect .q (peer (.t j) c)) hu').view.read (Elt F) (ct m ρ c .q) = vec m ρ (peer (.t j) c) .ti c := by
        funext i; exact cont_emb .q (vec m ρ c .q) (peer (.t j) c) i
      rw [hr]
      intro i hi
      exact write_piece .ti (vec m ρ (peer (.t j) c) .ti) c fd i (by rw [← slab_one]; exact hi)

/-! ## The table of maxima -/

abbrev tM : Memref sig .tc .vmem S8x1x128 .f32 := Memref.whole cc0_scratch11

theorem St_tbl {n : ℕ} {j : Fin 8} (hn : prog[n]? = some (.own .q j)) :
    St m ρ K c n ⊢ iprop((((c : Thread nD τ).loc cc0_scratch11) ↦{lf .am 0 (leaf_zero .am)} tbl m ρ) ∗ ((((c : Thread nD τ).loc cc0_scratch11) ↦{lf .am 0 (leaf_zero .am)} tbl m ρ) -∗ St m ρ K c n)) := by
  have h := its_reads m ρ c hn
  have e : bigSepL (reads c (.own .q j)) (pcA m ρ c) = ((((c : Thread nD τ).loc cc0_scratch11) ↦{lf .am 0 (leaf_zero .am)} tbl m ρ : sProp 𝕄)) := by
    have h2 := pts_run c .am (lf .am 0 (leaf_zero .am)) (ct m ρ c .am) 0 8 (le_refl 8)
    rw [slab_all] at h2
    refine Eq.trans ?_ h2
    rw [show reads c (.own .q j) = ((List.range 8).map fun i => f8 (0 + i)).map fun s => (Bk.am, s, (0 : Fin 8)) from rfl, bigSepL_map]
    exact bigSepL_congr _ fun s _ => pcA_pos m ρ c .am s 0 (leaf_zero .am)
  rw [e] at h
  exact St_its m ρ K c h

/-- A read of the whole table. -/
theorem load_tbl {α : Type} {Q : α → sProp 𝕄} {n : ℕ} {j : Fin 8} (hn : prog[n]? = some (.own .q j)) {inb : ∀ a, (![0, 0, 0] : Fin 3 → Nat) a + S8x1x128.size a ≤ S8x1x128.size a}
    {hl : tM.view.LoadsAt (Rect.unit (s := S8x1x128) ![0, 0, 0] S8x1x128.size inb).toLoadRect} {k : (S8x1x128.Idx → Elt F .f32) → Prog (TpuEff nD τ sig (Elt F) Λ₀ .tc) α}
    (h : St m ρ K c n ⊢ WP c (k (tbl m ρ)) Q) :
    St m ρ K c n ⊢ WP c (.op (.load tM (Rect.unit (s := S8x1x128) ![0, 0, 0] S8x1x128.size inb).toLoadRect hl) k) Q := by
  refine load_of c (Finset.subset_univ _) (St_tbl m ρ K c hn) ?_
  rw [show tM.view.readAt (Elt F) (Rect.unit (s := S8x1x128) ![0, 0, 0] S8x1x128.size inb).toLoadRect (tbl m ρ) = tbl m ρ from
    Memref.readAt_unit_zero (Elt F) cc0_scratch11 (by decide) _ _]
  exact h

/-- A read of the accumulator once it holds the final product. -/
theorem load_yF {α : Type} {Q : α → sProp 𝕄} (o : Dev nD → Fin 8) {n : ℕ} (h1 : n < 140) (h2 : 81 ≤ n) {off : Dev nD → Fin 2 → Nat} (ho : ∀ d, isY (off d) (o d) = true) {inb : ∀ a, off c a + S512x256.size a ≤ S512x2048.size a}
    {hl : yM.view.LoadsAt (Rect.unit (s := S512x2048) (off c) S512x256.size inb).toLoadRect} {k : (S512x256.Idx → Elt F .f32) → Prog (TpuEff nD τ sig (Elt F) Λ₀ .tc) α}
    (h : St m ρ K c n ⊢ WP c (k (yblk m ρ c (o c))) Q) :
    St m ρ K c n ⊢ WP c (.op (.load yM (Rect.unit (s := S512x2048) (off c) S512x256.size inb).toLoadRect hl) k) Q :=
  load_y m ρ K c o ho (by rw [yAt_end m ρ c n h1 h2]; exact h)

theorem load_yW {α : Type} {Q : α → sProp 𝕄} {n : ℕ} (h1 : n < 140) (h2 : 81 ≤ n) {inb : ∀ a, (![0, 0] : Fin 2 → Nat) a + S512x2048.size a ≤ S512x2048.size a}
    {hl : yM.view.LoadsAt (Rect.unit (s := S512x2048) ![0, 0] S512x2048.size inb).toLoadRect} {k : (S512x2048.Idx → Elt F .f32) → Prog (TpuEff nD τ sig (Elt F) Λ₀ .tc) α}
    (h : St m ρ K c n ⊢ WP c (k (yF m ρ c)) Q) :
    St m ρ K c n ⊢ WP c (.op (.load yM (Rect.unit (s := S512x2048) ![0, 0] S512x2048.size inb).toLoadRect hl) k) Q := by
  refine load_y' m ρ K c ?_
  rw [yAt_end m ρ c n h1 h2, show yM.view.readAt (Elt F) (Rect.unit (s := S512x2048) ![0, 0] S512x2048.size inb).toLoadRect (yF m ρ c) = yF m ρ c from
    Memref.readAt_unit_zero (Elt F) cc0_scratch6 (by decide) _ _]
  exact h

/-! ## A device's own pieces -/

theorem og_own : ∀ (r : Fin 3) (c : Dev nD), ogd r (slotAt r 0 c) = c := by decide +kernel
theorem own_w0 : k0_pay3 (wM.view.readAt (Elt F) wr0.toLoadRect (wstg m ρ c)) = vec m ρ c (.w 0) (slot (.w 0) 0 c) := by
  show _ = k0_pay3 (wM.view.readAt (Elt F) wr0.toLoadRect (wstg m ρ (ogd 0 (slotAt 0 0 c))))
  rw [og_own]
theorem own_w1 : k0_pay4 (wM.view.readAt (Elt F) wr1.toLoadRect (wstg m ρ c)) = vec m ρ c (.w 1) (slot (.w 1) 0 c) := by
  show _ = k0_pay4 (wM.view.readAt (Elt F) wr1.toLoadRect (wstg m ρ (ogd 1 (slotAt 1 0 c))))
  rw [og_own]
theorem own_w2 : k0_pay5 (wM.view.readAt (Elt F) wr2.toLoadRect (wstg m ρ c)) = vec m ρ c (.w 2) (slot (.w 2) 0 c) := by
  show _ = k0_pay5 (wM.view.readAt (Elt F) wr2.toLoadRect (wstg m ρ (ogd 2 (slotAt 2 0 c))))
  rw [og_own]

theorem slot_am : ∀ c : Dev nD, slot .am 0 c = c := by decide +kernel
theorem own_am : k0_pay36 (k0_pay35 (yF m ρ c)) = vec m ρ c .am (slot .am 0 c) := by rw [slot_am]; rfl
theorem slot_o0 : ∀ c : Dev nD, slot .o 0 c = c := by decide +kernel
theorem slot_oj : ∀ (j : Fin 7) (c : Dev nD), slot .o (f8 (j.val + 1)) c ≠ c := by decide +kernel
theorem own_o0 : k0_pay47 (k0_pay38 (tbl m ρ)) (k0_pay39 (tbl m ρ)) (yblk m ρ c c) = vec m ρ c .o (slot .o 0 c) := by
  rw [slot_o0]; show _ = ov m ρ c c; unfold ov; rw [if_pos rfl]
theorem own_oj (j : Fin 7) : k0_pay48 (k0_pay38 (tbl m ρ)) (vec m ρ c .ti (slot .o (f8 (j.val + 1)) c)) = vec m ρ c .o (slot .o (f8 (j.val + 1)) c) := by
  show _ = ov m ρ c _; unfold ov; rw [if_neg (slot_oj j c)]; rfl

/-! ## A part run on a device's buffers -/

/-- A part of the body, given the buffers and semaphores the launch gives the body. -/
abbrev app {β : Type 1} (f : (a0 : Memref sig .tc .vmem S512x4096 .f32) → a0.IsWhole → (a1 : Memref sig .tc .vmem S4096x256 .f32) → a1.IsWhole → (a2 : Memref sig .tc .vmem S4096x256 .f32) → a2.IsWhole
    → (a3 : Memref sig .tc .vmem S11008x256 .bf16) → a3.IsWhole → (a4 : Memref sig .tc .vmem S10880x256 .bf16) → a4.IsWhole → (a5 : Memref sig .tc .vmem S10880x256 .bf16) → a5.IsWhole
    → DmaSems sig S3x6 → DmaSems sig S3x6 → (a8 : Memref sig .tc .vmem S512x4096 .bf16) → a8.IsWhole → (a9 : Memref sig .tc .vmem S512x2048 .f32) → a9.IsWhole
    → (a10 : Memref sig .tc .vmem S4096x256 .i8) → a10.IsWhole → (a11 : Memref sig .tc .vmem S4096x256 .i8) → a11.IsWhole → DmaSems sig S7 → DmaSems sig S7
    → (a14 : Memref sig .tc .vmem S8x1x128 .f32) → a14.IsWhole → DmaSems sig S7 → DmaSems sig S7 → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 (Memref.whole cc0_scratch5) (Memref.isWhole_whole _) (Memref.whole cc0_scratch6) (Memref.isWhole_whole _)
    (Memref.whole cc0_scratch7) (Memref.isWhole_whole _) (Memref.whole cc0_scratch8) (Memref.isWhole_whole _) cc0_scratch9 cc0_scratch10
    (Memref.whole cc0_scratch11) (Memref.isWhole_whole _) cc0_scratch12 cc0_scratch13

end Cert.MeshProof

end
-- ==== Proof.PartsA.lean ====
/-
  The parts of the body that exchange the first two stages of the right operand and send the third.
-/
module

public import proofs.«01_k».proof.Proof.Moves

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-! ## The order in which each third of the columns is walked -/

abbrev q0 {β : Sort _} (f : Dev nD → BitVec 32 → BitVec 32 → BitVec 32 → BitVec 32 → BitVec 32 → BitVec 32 → β) (d : Dev nD) : β := f d 1#32 3#32 2#32 4#32 5#32 6#32
abbrev q1 {β : Sort _} (f : Dev nD → BitVec 32 → BitVec 32 → BitVec 32 → BitVec 32 → BitVec 32 → BitVec 32 → β) (d : Dev nD) : β := f d 4#32 5#32 1#32 2#32 6#32 3#32
abbrev q2 {β : Sort _} (f : Dev nD → BitVec 32 → BitVec 32 → BitVec 32 → BitVec 32 → BitVec 32 → BitVec 32 → β) (d : Dev nD) : β := f d 2#32 6#32 4#32 1#32 3#32 5#32
/-- The block of the accumulator a piece belongs to, as the kernel finds it: -/
abbrev y0 {β : Sort _} (f : Dev nD → BitVec 32 → BitVec 32 → BitVec 32 → BitVec 32 → BitVec 32 → BitVec 32 → BitVec 32 → BitVec 32 → BitVec 32 → BitVec 32 → BitVec 32 → BitVec 32 → β) (d : Dev nD) : β := q0 f d 1#32 3#32 2#32 4#32 5#32 7#32
abbrev y1 {β : Sort _} (f : Dev nD → BitVec 32 → BitVec 32 → BitVec 32 → BitVec 32 → BitVec 32 → BitVec 32 → BitVec 32 → BitVec 32 → BitVec 32 → BitVec 32 → BitVec 32 → BitVec 32 → β) (d : Dev nD) : β := q1 f d 3#32 4#32 7#32 1#32 2#32 5#32
abbrev y2 {β : Sort _} (f : Dev nD → BitVec 32 → BitVec 32 → BitVec 32 → BitVec 32 → BitVec 32 → BitVec 32 → BitVec 32 → BitVec 32 → BitVec 32 → BitVec 32 → BitVec 32 → BitVec 32 → β) (d : Dev nD) : β := q2 f d 4#32 1#32 5#32 3#32 7#32 2#32
/-- the same for a piece of the last four. -/
abbrev z0 (j : BitVec 32) (d : Dev nD) : Fin 2 → Nat := q0 k0_off20 d j 1#32 3#32 2#32 4#32 5#32 7#32
abbrev z1 (j : BitVec 32) (d : Dev nD) : Fin 2 → Nat := q1 k0_off20 d j 3#32 4#32 7#32 1#32 2#32 5#32
abbrev z2 (j : BitVec 32) (d : Dev nD) : Fin 2 → Nat := q2 k0_off20 d j 4#32 1#32 5#32 3#32 7#32 2#32

/-! ## A product added to the accumulator -/

/-- The last three operations: the block is loaded twice, the second time for nothing, and the sum is stored. -/
theorem mm_tail {α : Type} {Q : α → sProp 𝕄} (r : Fin 3) (i : Fin 8) {n : ℕ} (hn : prog[n]? = some (.mm r i))
    {oY : Dev nD → Fin 2 → Nat} (hY : ∀ d, isY (oY d) (ogd r (slotAt r i d)) = true) {i1 i2 i3 : ∀ a, oY c a + S512x256.size a ≤ S512x2048.size a}
    {l1 : yM.view.LoadsAt (Rect.unit (s := S512x2048) (oY c) S512x256.size i1).toLoadRect} {l2 : yM.view.LoadsAt (Rect.unit (s := S512x2048) (oY c) S512x256.size i2).toLoadRect}
    {v : (S512x256.Idx → Elt F .f32) → S512x256.Idx → Elt F .f32} (hv : ∀ y, v y = mmv m ρ c r (slotAt r i c) y)
    {hx : (yM.access (Rect.unit (s := S512x2048) (oY c) S512x256.size i3) : View sig .tc _ _ _).Stores Finset.univ} {hm}
    {k : Prog (TpuEff nD τ sig (Elt F) Λ₀ .tc) α} (h : St m ρ K c (n + 1) ⊢ WP c k Q) :
    St m ρ K c n ⊢ WP c (.op (.load yM (Rect.unit (s := S512x2048) (oY c) S512x256.size i1).toLoadRect l1) fun y =>
      .op (.load yM (Rect.unit (s := S512x2048) (oY c) S512x256.size i2).toLoadRect l2) fun _ =>
      .op (.store yM (Rect.unit (s := S512x2048) (oY c) S512x256.size i3) (v y) Finset.univ hx hm) fun _ => k) Q :=
  load_y m ρ K c (fun d => ogd r (slotAt r i d)) (off := oY) hY (load_y' m ρ K c (store_mm m ρ K c r i (off := oY) hn hY (hv _) h))

/-- The same after the load of the piece; -/
theorem mm_piece {α : Type} {Q : α → sProp 𝕄} (r : Fin 3) (i : Fin 8) {n : ℕ} (hn : prog[n]? = some (.mm r i))
    {oB : Dev nD → Fin (shp (.w r)).rank → Nat} (hB : ∀ d, isOff (.w r) (oB d) (slotAt r i d) = true) {i0 : ∀ a, oB c a + psz (.w r) a ≤ (shp (.w r)).size a}
    {l0 : (wh (.w r)).view.LoadsAt (Rect.unit (s := shp (.w r)) (oB c) (psz (.w r)) i0).toLoadRect}
    {oY : Dev nD → Fin 2 → Nat} (hY : ∀ d, isY (oY d) (ogd r (slotAt r i d)) = true) {i1 i2 i3 : ∀ a, oY c a + S512x256.size a ≤ S512x2048.size a}
    {l1 : yM.view.LoadsAt (Rect.unit (s := S512x2048) (oY c) S512x256.size i1).toLoadRect} {l2 : yM.view.LoadsAt (Rect.unit (s := S512x2048) (oY c) S512x256.size i2).toLoadRect}
    {v : ((prect (.w r) (slotAt r i c)).shape.Idx → Elt F (ref (.w r)).ty.elt) → (S512x256.Idx → Elt F .f32) → S512x256.Idx → Elt F .f32}
    (hv : ∀ y, v (vec m ρ c (.w r) (slotAt r i c)) y = mmv m ρ c r (slotAt r i c) y)
    {hx : (yM.access (Rect.unit (s := S512x2048) (oY c) S512x256.size i3) : View sig .tc _ _ _).Stores Finset.univ} {hm}
    {k : Prog (TpuEff nD τ sig (Elt F) Λ₀ .tc) α} (h : St m ρ K c (n + 1) ⊢ WP c k Q) :
    St m ρ K c n ⊢ WP c (.op (.load (wh (.w r)) (Rect.unit (s := shp (.w r)) (oB c) (psz (.w r)) i0).toLoadRect l0) fun w =>
      .op (.load yM (Rect.unit (s := S512x2048) (oY c) S512x256.size i1).toLoadRect l1) fun y =>
      .op (.load yM (Rect.unit (s := S512x2048) (oY c) S512x256.size i2).toLoadRect l2) fun _ =>
      .op (.store yM (Rect.unit (s := S512x2048) (oY c) S512x256.size i3) (v w y) Finset.univ hx hm) fun _ => k) Q :=
  load_pc m ρ K c (.w r) (slotAt r i) (off := oB) (e := .mm r i) hn (fun _ => List.mem_singleton_self _) hB (mm_tail m ρ K c r i hn (oY := oY) hY hv h)

/-- and after the load of the columns of the left operand. -/
theorem mm_all {α : Type} {Q : α → sProp 𝕄} (r : Fin 3) (i : Fin 8) {n : ℕ} (hn : prog[n]? = some (.mm r i))
    {xr : Rect S512x4096} {lx : xbM.view.LoadsAt xr.toLoadRect}
    {oB : Dev nD → Fin (shp (.w r)).rank → Nat} (hB : ∀ d, isOff (.w r) (oB d) (slotAt r i d) = true) {i0 : ∀ a, oB c a + psz (.w r) a ≤ (shp (.w r)).size a}
    {l0 : (wh (.w r)).view.LoadsAt (Rect.unit (s := shp (.w r)) (oB c) (psz (.w r)) i0).toLoadRect}
    {oY : Dev nD → Fin 2 → Nat} (hY : ∀ d, isY (oY d) (ogd r (slotAt r i d)) = true) {i1 i2 i3 : ∀ a, oY c a + S512x256.size a ≤ S512x2048.size a}
    {l1 : yM.view.LoadsAt (Rect.unit (s := S512x2048) (oY c) S512x256.size i1).toLoadRect} {l2 : yM.view.LoadsAt (Rect.unit (s := S512x2048) (oY c) S512x256.size i2).toLoadRect}
    {v : (xr.shape.Idx → Elt F .bf16) → ((prect (.w r) (slotAt r i c)).shape.Idx → Elt F (ref (.w r)).ty.elt) → (S512x256.Idx → Elt F .f32) → S512x256.Idx → Elt F .f32}
    (hv : ∀ y, v (xbM.view.readAt (Elt F) xr.toLoadRect (xb m ρ c)) (vec m ρ c (.w r) (slotAt r i c)) y = mmv m ρ c r (slotAt r i c) y)
    {hx : (yM.access (Rect.unit (s := S512x2048) (oY c) S512x256.size i3) : View sig .tc _ _ _).Stores Finset.univ} {hm}
    {k : Prog (TpuEff nD τ sig (Elt F) Λ₀ .tc) α} (h : St m ρ K c (n + 1) ⊢ WP c k Q) :
    St m ρ K c n ⊢ WP c (.op (.load xbM xr.toLoadRect lx) fun x =>
      .op (.load (wh (.w r)) (Rect.unit (s := shp (.w r)) (oB c) (psz (.w r)) i0).toLoadRect l0) fun w =>
      .op (.load yM (Rect.unit (s := S512x2048) (oY c) S512x256.size i1).toLoadRect l1) fun y =>
      .op (.load yM (Rect.unit (s := S512x2048) (oY c) S512x256.size i2).toLoadRect l2) fun _ =>
      .op (.store yM (Rect.unit (s := S512x2048) (oY c) S512x256.size i3) (v x w y) Finset.univ hx hm) fun _ => k) Q :=
  load_xb m ρ K c (mm_piece m ρ K c r i hn (oB := oB) hB (oY := oY) hY hv h)

/-- A part that ends with a known value. -/
theorem WP_retp {α : Type} {P : sProp 𝕄} {φ : α → Prop} {v : α} (h : φ v) : P ⊢ WP c (.ret v) fun v => iprop(⌜φ v⌝ ∗ P) := by
  refine WP_ret c ?_
  iintro H
  isplitr
  · ipureintro; exact h
  · iexact H

/-! ## The parts -/

theorem part10 (v50 v122 v277 : BitVec 32) :
    St m ρ K c 1 ⊢ WP c (app (k0_part10 (F := F)) c v50 v122 v277) fun _ => St m ρ K c 3 := by
  rw [k0_part10_eq_skeleton]
  unfold app k0_part10_skel
  simp only [Prog.lift, Prog.bind_op, Prog.bind_ret, Prog.pure_eq_ret]
  refine send_w m ρ K c 0 0 rfl rfl rfl (dv := fun d => ⟨k0_dev8 d, k0_dev8_lt d⟩) (by decide +kernel) (off := k0_off2) (by decide +kernel) rfl ?_
  refine load_w m ρ K c ?_
  refine load_gb m ρ K c (.w 1) 0 (n := 2) (off := (q1 k0_off3)) rfl (by decide +kernel) fun _ => ?_
  refine store_own m ρ K c (.w 1) 0 (n := 2) (off := (q1 k0_off3)) rfl (by decide +kernel) (own_w1 m ρ c) ?_
  exact WP_ret c .rfl

theorem part11 (v74 v146 v313 : BitVec 32) :
    St m ρ K c 3 ⊢ WP c (app (k0_part11 (F := F)) c v74 v146 v313) fun _ => St m ρ K c 5 := by
  rw [k0_part11_eq_skeleton]
  unfold app k0_part11_skel
  simp only [Prog.lift, Prog.bind_op, Prog.bind_ret, Prog.pure_eq_ret]
  refine send_w m ρ K c 1 0 rfl rfl rfl (dv := fun d => ⟨k0_dev9 d, k0_dev9_lt d⟩) (by decide +kernel) (off := (q1 k0_off4)) (by decide +kernel) rfl ?_
  refine load_w m ρ K c ?_
  refine load_gb m ρ K c (.w 2) 0 (n := 4) (off := (q2 k0_off3)) rfl (by decide +kernel) fun _ => ?_
  refine store_own m ρ K c (.w 2) 0 (n := 4) (off := (q2 k0_off3)) rfl (by decide +kernel) (own_w2 m ρ c) ?_
  exact WP_ret c .rfl

theorem part12 (v98 v349 : BitVec 32) :
    St m ρ K c 5 ⊢ WP c (app (k0_part12 (F := F)) c v98 v349) fun _ => St m ρ K c 6 := by
  rw [k0_part12_eq_skeleton]
  unfold app k0_part12_skel
  simp only [Prog.lift, Prog.bind_op, Prog.bind_ret, Prog.pure_eq_ret]
  refine send_w m ρ K c 2 0 rfl rfl rfl (dv := fun d => ⟨k0_dev10 d, k0_dev10_lt d⟩) (by decide +kernel) (off := (q2 k0_off4)) (by decide +kernel) rfl ?_
  exact WP_ret c .rfl

theorem part13 (v98 v122 v380 : BitVec 32) :
    St m ρ K c 6 ⊢ WP c (app (k0_part13 (F := F)) c v98 v122 v380) fun _ => St m ρ K c 7 := by
  rw [k0_part13_eq_skeleton]
  unfold app k0_part13_skel
  simp only [Prog.lift, Prog.bind_op, Prog.bind_ret, Prog.pure_eq_ret]
  refine mm_all m ρ K c 0 0 (n := 6) rfl (oB := k0_off1) (by decide +kernel) (oY := (y0 k0_off5)) (by decide +kernel) (fun _ => rfl) ?_
  exact WP_ret c .rfl

theorem part14 (v122 v146 v409 v411 : BitVec 32) :
    St m ρ K c 7 ⊢ WP c (app (k0_part14 (F := F)) c v122 v146 v409 v411) fun _ => St m ρ K c 8 := by
  rw [k0_part14_eq_skeleton]
  unfold app k0_part14_skel
  simp only [Prog.lift, Prog.bind_op, Prog.bind_ret, Prog.pure_eq_ret]
  refine mm_all m ρ K c 1 0 (n := 7) rfl (oB := (q1 k0_off3)) (by decide +kernel) (oY := (y1 k0_off5)) (by decide +kernel) (fun _ => rfl) ?_
  exact WP_ret c .rfl

theorem part15 (v146 v441 : BitVec 32) (v442 : BitVec 1) (c5_i32_359 c0_i32_360 : BitVec 32) :
    St m ρ K c 8 ⊢ WP c (app (k0_part15 (F := F)) c v146 v441 v442 c5_i32_359 c0_i32_360) fun _ => St m ρ K c 9 := by
  rw [k0_part15_eq_skeleton]
  unfold app k0_part15_skel
  simp only [Prog.lift, Prog.bind_op, Prog.bind_ret, Prog.pure_eq_ret]
  refine mm_all m ρ K c 2 0 (n := 8) rfl (oB := (q2 k0_off3)) (by decide +kernel) (oY := (y2 k0_off5)) (by decide +kernel) (fun _ => rfl) ?_
  exact WP_ret c .rfl

theorem part16 (v26 v50 : BitVec 32) :
    St m ρ K c 9 ⊢ WP c (app (k0_part16 (F := F)) c v26 v50) fun _ => St m ρ K c 14 := by
  rw [k0_part16_eq_skeleton]
  unfold app k0_part16_skel
  simp only [Prog.lift, Prog.bind_op, Prog.bind_ret, Prog.pure_eq_ret]
  refine step_sw m ρ K c (.w 0 0) rfl rfl rfl ?_
  refine step_rw m ρ K c (.w 0 0) rfl rfl rfl ?_
  refine step_sw m ρ K c (.w 1 0) rfl rfl rfl ?_
  refine step_rw m ρ K c (.w 1 0) rfl rfl rfl ?_
  refine step_sw m ρ K c (.w 2 0) rfl rfl rfl ?_
  exact WP_ret c .rfl

theorem part17 (v50 v74 v98 v122 : BitVec 32) :
    St m ρ K c 14 ⊢ WP c (app (k0_part17 (F := F)) c v50 v74 v98 v122) fun _ => St m ρ K c 16 := by
  rw [k0_part17_eq_skeleton]
  unfold app k0_part17_skel
  simp only [Prog.lift, Prog.bind_op, Prog.bind_ret, Prog.pure_eq_ret]
  refine step_rw m ρ K c (.w 2 0) rfl rfl rfl ?_
  refine send_w m ρ K c 0 1 rfl rfl rfl (dv := fun d => ⟨k0_dev11 d, k0_dev11_lt d⟩) (by decide +kernel) (off := k0_off6) (by decide +kernel) rfl ?_
  exact WP_ret c .rfl

theorem part18 (v74 v122 v146 c2_i32_445 v529 : BitVec 32) :
    St m ρ K c 16 ⊢ WP c (app (k0_part18 (F := F)) c v74 v122 v146 c2_i32_445 v529) fun _ => St m ρ K c 17 := by
  rw [k0_part18_eq_skeleton]
  unfold app k0_part18_skel
  simp only [Prog.lift, Prog.bind_op, Prog.bind_ret, Prog.pure_eq_ret]
  refine send_w m ρ K c 1 1 rfl rfl rfl (dv := fun d => ⟨k0_dev12 d, k0_dev12_lt d⟩) (by decide +kernel) (off := (q1 k0_off7)) (by decide +kernel) rfl ?_
  exact WP_ret c .rfl

theorem part19 (v26 v98 v146 c2_i32_463 v557 v562 v564 v566 : BitVec 32) :
    St m ρ K c 17 ⊢ WP c (app (k0_part19 (F := F)) c v26 v98 v146 c2_i32_463 v557 v562 v564 v566) fun _ => St m ρ K c 18 := by
  rw [k0_part19_eq_skeleton]
  unfold app k0_part19_skel
  simp only [Prog.lift, Prog.bind_op, Prog.bind_ret, Prog.pure_eq_ret]
  refine send_w m ρ K c 2 1 rfl rfl rfl (dv := fun d => ⟨k0_dev13 d, k0_dev13_lt d⟩) (by decide +kernel) (off := (q2 k0_off7)) (by decide +kernel) rfl ?_
  exact WP_ret c .rfl

theorem part20 (v597 v600 : BitVec 32) :
    St m ρ K c 18 ⊢ WP c (app (k0_part20 (F := F)) c v597 v600) fun v => iprop(⌜v.1 = k0_pay9 (xbM.view.readAt (Elt F) xr0.toLoadRect (xb m ρ c)) (vec m ρ c (.w 0) (slotAt 0 1 c)) (yM.view.readAt (Elt F) (yrect (ogd 0 (slotAt 0 1 c))).toLoadRect (yAt m ρ c 18))⌝ ∗ St m ρ K c 18) := by
  rw [k0_part20_eq_skeleton]
  unfold app k0_part20_skel
  simp only [Prog.lift, Prog.bind_op, Prog.bind_ret, Prog.pure_eq_ret]
  refine load_xb m ρ K c ?_
  refine load_pc m ρ K c (.w 0) (slotAt 0 1) (off := k0_off8) (e := .mm 0 1) (n := 18) rfl (fun _ => List.mem_singleton_self _) (by decide +kernel) ?_
  refine load_y m ρ K c (fun d => ogd 0 (slotAt 0 1 d)) (off := (y0 k0_off9)) (by decide +kernel) ?_
  exact WP_retp c rfl

theorem part21 (v122 : BitVec 32) (v630 : FVec F S512x256 .f32) (v631 : BitVec 32) (hv : v630 = k0_pay9 (xbM.view.readAt (Elt F) xr0.toLoadRect (xb m ρ c)) (vec m ρ c (.w 0) (slotAt 0 1 c)) (yM.view.readAt (Elt F) (yrect (ogd 0 (slotAt 0 1 c))).toLoadRect (yAt m ρ c 18))) :
    St m ρ K c 18 ⊢ WP c (app (k0_part21 (F := F)) c v122 v630 v631) fun _ => St m ρ K c 19 := by
  rw [k0_part21_eq_skeleton]
  unfold app k0_part21_skel
  simp only [Prog.lift, Prog.bind_op, Prog.bind_ret, Prog.pure_eq_ret]
  subst hv
  refine load_y' m ρ K c ?_
  refine store_mm m ρ K c 0 1 (n := 18) (off := (y0 k0_off9)) rfl (by decide +kernel) rfl ?_
  exact WP_ret c .rfl

theorem part22 (v146 v648 v663 : BitVec 32) (v664 : BitVec 1) :
    St m ρ K c 19 ⊢ WP c (app (k0_part22 (F := F)) c v146 v648 v663 v664) fun _ => St m ρ K c 20 := by
  rw [k0_part22_eq_skeleton]
  unfold app k0_part22_skel
  simp only [Prog.lift, Prog.bind_op, Prog.bind_ret, Prog.pure_eq_ret]
  refine mm_all m ρ K c 1 1 (n := 19) rfl (oB := (q1 k0_off10)) (by decide +kernel) (oY := (y1 k0_off9)) (by decide +kernel) (fun _ => rfl) ?_
  exact WP_ret c .rfl

theorem part23 (v687 v698 : BitVec 32) :
    St m ρ K c 20 ⊢ WP c (app (k0_part23 (F := F)) c v687 v698) fun v => iprop(⌜v.2 = k0_pay12 (xbM.view.readAt (Elt F) xr2.toLoadRect (xb m ρ c)) (vec m ρ c (.w 2) (slotAt 2 1 c))⌝ ∗ St m ρ K c 20) := by
  rw [k0_part23_eq_skeleton]
  unfold app k0_part23_skel
  simp only [Prog.lift, Prog.bind_op, Prog.bind_ret, Prog.pure_eq_ret]
  refine load_xb m ρ K c ?_
  refine load_pc m ρ K c (.w 2) (slotAt 2 1) (off := (q2 k0_off10)) (e := .mm 2 1) (n := 20) rfl (fun _ => List.mem_singleton_self _) (by decide +kernel) ?_
  exact WP_retp c rfl

theorem part24 (v50 v74 v723 : BitVec 32) (v728 : FVec F S512x256 .f32) (hv : v728 = k0_pay12 (xbM.view.readAt (Elt F) xr2.toLoadRect (xb m ρ c)) (vec m ρ c (.w 2) (slotAt 2 1 c))) :
    St m ρ K c 20 ⊢ WP c (app (k0_part24 (F := F)) c v50 v74 v723 v728) fun _ => St m ρ K c 24 := by
  rw [k0_part24_eq_skeleton]
  unfold app k0_part24_skel
  simp only [Prog.lift, Prog.bind_op, Prog.bind_ret, Prog.pure_eq_ret]
  subst hv
  refine mm_tail m ρ K c 2 1 (n := 20) rfl (oY := (y2 k0_off9)) (by decide +kernel) (fun _ => rfl) ?_
  refine step_sw m ρ K c (.w 0 1) rfl rfl rfl ?_
  refine step_rw m ρ K c (.w 0 1) rfl rfl rfl ?_
  refine step_sw m ρ K c (.w 1 1) rfl rfl rfl ?_
  exact WP_ret c .rfl

theorem part25 (v26 v98 v752 c0_i32_634 : BitVec 32) :
    St m ρ K c 24 ⊢ WP c (app (k0_part25 (F := F)) c v26 v98 v752 c0_i32_634) fun _ => St m ρ K c 27 := by
  rw [k0_part25_eq_skeleton]
  unfold app k0_part25_skel
  simp only [Prog.lift, Prog.bind_op, Prog.bind_ret, Prog.pure_eq_ret]
  refine step_rw m ρ K c (.w 1 1) rfl rfl rfl ?_
  refine step_sw m ρ K c (.w 2 1) rfl rfl rfl ?_
  refine step_rw m ρ K c (.w 2 1) rfl rfl rfl ?_
  exact WP_ret c .rfl

theorem part26 (v74 v784 c4_i32_659 : BitVec 32) :
    St m ρ K c 27 ⊢ WP c (app (k0_part26 (F := F)) c v74 v784 c4_i32_659) fun _ => St m ρ K c 29 := by
  rw [k0_part26_eq_skeleton]
  unfold app k0_part26_skel
  simp only [Prog.lift, Prog.bind_op, Prog.bind_ret, Prog.pure_eq_ret]
  refine send_w m ρ K c 0 2 rfl rfl rfl (dv := fun d => ⟨k0_dev14 d, k0_dev14_lt d⟩) (by decide +kernel) (off := (fun d => k0_off11 d 0#32)) (by decide +kernel) rfl ?_
  refine send_w m ρ K c 0 3 rfl rfl rfl (dv := fun d => ⟨k0_dev15 d, k0_dev15_lt d⟩) (by decide +kernel) (off := (fun d => k0_off11 d 1#32)) (by decide +kernel) rfl ?_
  exact WP_ret c .rfl

theorem part27 (v74 v122 v785 : BitVec 32) :
    St m ρ K c 29 ⊢ WP c (app (k0_part27 (F := F)) c v74 v122 v785) fun _ => St m ρ K c 31 := by
  rw [k0_part27_eq_skeleton]
  unfold app k0_part27_skel
  simp only [Prog.lift, Prog.bind_op, Prog.bind_ret, Prog.pure_eq_ret]
  refine send_w m ρ K c 0 4 rfl rfl rfl (dv := fun d => ⟨k0_dev16 d, k0_dev16_lt d⟩) (by decide +kernel) (off := (fun d => k0_off11 d 2#32)) (by decide +kernel) rfl ?_
  refine send_w m ρ K c 0 5 rfl rfl rfl (dv := fun d => ⟨k0_dev17 d, k0_dev17_lt d⟩) (by decide +kernel) (off := (fun d => k0_off11 d 3#32)) (by decide +kernel) rfl ?_
  exact WP_ret c .rfl

theorem part28 (v26 v834 : BitVec 32) (v845 : BitVec 1) (v846 c0_i32_713 : BitVec 32) :
    St m ρ K c 31 ⊢ WP c (app (k0_part28 (F := F)) c v26 v834 v845 v846 c0_i32_713) fun _ => St m ρ K c 33 := by
  rw [k0_part28_eq_skeleton]
  unfold app k0_part28_skel
  simp only [Prog.lift, Prog.bind_op, Prog.bind_ret, Prog.pure_eq_ret]
  refine send_w m ρ K c 1 2 rfl rfl rfl (dv := fun d => ⟨k0_dev18 d, k0_dev18_lt d⟩) (by decide +kernel) (off := (fun d => q1 k0_off12 d 0#32)) (by decide +kernel) rfl ?_
  refine send_w m ρ K c 1 3 rfl rfl rfl (dv := fun d => ⟨k0_dev19 d, k0_dev19_lt d⟩) (by decide +kernel) (off := (fun d => q1 k0_off12 d 1#32)) (by decide +kernel) rfl ?_
  exact WP_ret c .rfl

theorem part29 (v26 v146 v851 v876 c1360_i32_741 : BitVec 32) :
    St m ρ K c 33 ⊢ WP c (app (k0_part29 (F := F)) c v26 v146 v851 v876 c1360_i32_741) fun _ => St m ρ K c 35 := by
  rw [k0_part29_eq_skeleton]
  unfold app k0_part29_skel
  simp only [Prog.lift, Prog.bind_op, Prog.bind_ret, Prog.pure_eq_ret]
  refine send_w m ρ K c 1 4 rfl rfl rfl (dv := fun d => ⟨k0_dev20 d, k0_dev20_lt d⟩) (by decide +kernel) (off := (fun d => q1 k0_off12 d 2#32)) (by decide +kernel) rfl ?_
  refine send_w m ρ K c 1 5 rfl rfl rfl (dv := fun d => ⟨k0_dev21 d, k0_dev21_lt d⟩) (by decide +kernel) (off := (fun d => q1 k0_off12 d 3#32)) (by decide +kernel) rfl ?_
  exact WP_ret c .rfl

theorem part30 (v50 v146 c4_i32_764 v900 v905 v907 c0_i32_768 : BitVec 32) :
    St m ρ K c 35 ⊢ WP c (app (k0_part30 (F := F)) c v50 v146 c4_i32_764 v900 v905 v907 c0_i32_768) fun _ => St m ρ K c 36 := by
  rw [k0_part30_eq_skeleton]
  unfold app k0_part30_skel
  simp only [Prog.lift, Prog.bind_op, Prog.bind_ret, Prog.pure_eq_ret]
  refine send_w m ρ K c 2 2 rfl rfl rfl (dv := fun d => ⟨k0_dev22 d, k0_dev22_lt d⟩) (by decide +kernel) (off := (fun d => q2 k0_off12 d 0#32)) (by decide +kernel) rfl ?_
  exact WP_ret c .rfl

theorem part31 (v50 v98 v917 : BitVec 32) :
    St m ρ K c 36 ⊢ WP c (app (k0_part31 (F := F)) c v50 v98 v917) fun _ => St m ρ K c 39 := by
  rw [k0_part31_eq_skeleton]
  unfold app k0_part31_skel
  simp only [Prog.lift, Prog.bind_op, Prog.bind_ret, Prog.pure_eq_ret]
  refine send_w m ρ K c 2 3 rfl rfl rfl (dv := fun d => ⟨k0_dev23 d, k0_dev23_lt d⟩) (by decide +kernel) (off := (fun d => q2 k0_off12 d 1#32)) (by decide +kernel) rfl ?_
  refine send_w m ρ K c 2 4 rfl rfl rfl (dv := fun d => ⟨k0_dev24 d, k0_dev24_lt d⟩) (by decide +kernel) (off := (fun d => q2 k0_off12 d 2#32)) (by decide +kernel) rfl ?_
  refine send_w m ρ K c 2 5 rfl rfl rfl (dv := fun d => ⟨k0_dev25 d, k0_dev25_lt d⟩) (by decide +kernel) (off := (fun d => q2 k0_off12 d 3#32)) (by decide +kernel) rfl ?_
  exact WP_ret c .rfl

theorem part32 (v98 c2_i32_820 v966 v968 : BitVec 32) (v969 : BitVec 1) :
    St m ρ K c 39 ⊢ WP c (app (k0_part32 (F := F)) v98 c2_i32_820 v966 v968 v969) fun _ => St m ρ K c 39 := by
  rw [k0_part32_eq_skeleton]
  unfold app k0_part32_skel
  simp only [Prog.lift, Prog.bind_op, Prog.bind_ret, Prog.pure_eq_ret]
  exact WP_ret c .rfl

theorem part33 (v992 v1010 c1_i32_841 : BitVec 32) :
    St m ρ K c 39 ⊢ WP c (app (k0_part33 (F := F)) v992 v1010 c1_i32_841) fun v => iprop(⌜v.2.2 = xbM.view.readAt (Elt F) xr0.toLoadRect (xb m ρ c)⌝ ∗ St m ρ K c 39) := by
  rw [k0_part33_eq_skeleton]
  unfold app k0_part33_skel
  simp only [Prog.lift, Prog.bind_op, Prog.bind_ret, Prog.pure_eq_ret]
  refine load_xb m ρ K c ?_
  exact WP_retp c rfl

theorem part34 (v1013 v1037 : BitVec 32) (v1038 : Vec F S512x1376 .bf16) (hv : v1038 = xbM.view.readAt (Elt F) xr0.toLoadRect (xb m ρ c)) :
    St m ρ K c 39 ⊢ WP c (app (k0_part34 (F := F)) c v1013 v1037 v1038) fun _ => St m ρ K c 40 := by
  rw [k0_part34_eq_skeleton]
  unfold app k0_part34_skel
  simp only [Prog.lift, Prog.bind_op, Prog.bind_ret, Prog.pure_eq_ret]
  subst hv
  refine mm_piece m ρ K c 0 2 (n := 39) rfl (oB := k0_off13) (by decide +kernel) (oY := (y0 k0_off14)) (by decide +kernel) (fun _ => rfl) ?_
  exact WP_ret c .rfl

theorem part35 (v122 v1052 v1070 : BitVec 32) (v1071 : BitVec 1) (c7_i32_898 c0_i32_899 : BitVec 32) :
    St m ρ K c 40 ⊢ WP c (app (k0_part35 (F := F)) c v122 v1052 v1070 v1071 c7_i32_898 c0_i32_899) fun _ => St m ρ K c 41 := by
  rw [k0_part35_eq_skeleton]
  unfold app k0_part35_skel
  simp only [Prog.lift, Prog.bind_op, Prog.bind_ret, Prog.pure_eq_ret]
  refine mm_all m ρ K c 0 3 (n := 40) rfl (oB := k0_off15) (by decide +kernel) (oY := (y0 k0_off16)) (by decide +kernel) (fun _ => rfl) ?_
  exact WP_ret c .rfl

theorem part36 (v122 v1107 c2_i32_919 : BitVec 32) (v1108 : BitVec 1) (c1_i32_921 : BitVec 32) :
    St m ρ K c 41 ⊢ WP c (app (k0_part36 (F := F)) v122 v1107 c2_i32_919 v1108 c1_i32_921) fun _ => St m ρ K c 41 := by
  rw [k0_part36_eq_skeleton]
  unfold app k0_part36_skel
  simp only [Prog.lift, Prog.bind_op, Prog.bind_ret, Prog.pure_eq_ret]
  exact WP_ret c .rfl

theorem part37 (v1138 v1144 : BitVec 32) (v1145 : BitVec 1) (c4_i32_943 c0_i32_944 : BitVec 32) :
    St m ρ K c 41 ⊢ WP c (app (k0_part37 (F := F)) c v1138 v1144 v1145 c4_i32_943 c0_i32_944) fun _ => St m ρ K c 42 := by
  rw [k0_part37_eq_skeleton]
  unfold app k0_part37_skel
  simp only [Prog.lift, Prog.bind_op, Prog.bind_ret, Prog.pure_eq_ret]
  refine mm_all m ρ K c 1 2 (n := 41) rfl (oB := (q1 k0_off17)) (by decide +kernel) (oY := (y1 k0_off14)) (by decide +kernel) (fun _ => rfl) ?_
  exact WP_ret c .rfl

theorem part38 (v1177 : BitVec 32) (v1178 : BitVec 1) :
    St m ρ K c 42 ⊢ WP c (app (k0_part38 (F := F)) c v1177 v1178) fun v => iprop(⌜v.2.1 = k0_pay17 (xbM.view.readAt (Elt F) xr1.toLoadRect (xb m ρ c)) (vec m ρ c (.w 1) (slotAt 1 3 c))⌝ ∗ St m ρ K c 42) := by
  rw [k0_part38_eq_skeleton]
  unfold app k0_part38_skel
  simp only [Prog.lift, Prog.bind_op, Prog.bind_ret, Prog.pure_eq_ret]
  refine load_xb m ρ K c ?_
  refine load_pc m ρ K c (.w 1) (slotAt 1 3) (off := (q1 k0_off18)) (e := .mm 1 3) (n := 42) rfl (fun _ => List.mem_singleton_self _) (by decide +kernel) ?_
  exact WP_retp c rfl

theorem part39 (v146 v1201 : BitVec 32) (v1206 : FVec F S512x256 .f32) (v1207 : BitVec 32) (hv : v1206 = k0_pay17 (xbM.view.readAt (Elt F) xr1.toLoadRect (xb m ρ c)) (vec m ρ c (.w 1) (slotAt 1 3 c))) :
    St m ρ K c 42 ⊢ WP c (app (k0_part39 (F := F)) c v146 v1201 v1206 v1207) fun _ => St m ρ K c 43 := by
  rw [k0_part39_eq_skeleton]
  unfold app k0_part39_skel
  simp only [Prog.lift, Prog.bind_op, Prog.bind_ret, Prog.pure_eq_ret]
  subst hv
  refine mm_tail m ρ K c 1 3 (n := 42) rfl (oY := (y1 k0_off16)) (by decide +kernel) (fun _ => rfl) ?_
  exact WP_ret c .rfl

theorem part40 (v146 v1242 c4_i32_1017 v1243 v1248 : BitVec 32) :
    St m ρ K c 43 ⊢ WP c (app (k0_part40 (F := F)) v146 v1242 c4_i32_1017 v1243 v1248) fun _ => St m ρ K c 43 := by
  rw [k0_part40_eq_skeleton]
  unfold app k0_part40_skel
  simp only [Prog.lift, Prog.bind_op, Prog.bind_ret, Prog.pure_eq_ret]
  exact WP_ret c .rfl

theorem part41 (v1263 v1281 c6_i32_1046 : BitVec 32) :
    St m ρ K c 43 ⊢ WP c (app (k0_part41 (F := F)) c v1263 v1281 c6_i32_1046) fun _ => St m ρ K c 44 := by
  rw [k0_part41_eq_skeleton]
  unfold app k0_part41_skel
  simp only [Prog.lift, Prog.bind_op, Prog.bind_ret, Prog.pure_eq_ret]
  refine mm_all m ρ K c 2 2 (n := 43) rfl (oB := (q2 k0_off17)) (by decide +kernel) (oY := (y2 k0_off14)) (by decide +kernel) (fun _ => rfl) ?_
  exact WP_ret c .rfl

theorem part42 (v1302 v1311 : BitVec 32) (v1312 : BitVec 1) (c5_i32_1073 c0_i32_1074 : BitVec 32) :
    St m ρ K c 44 ⊢ WP c (app (k0_part42 (F := F)) c v1302 v1311 v1312 c5_i32_1073 c0_i32_1074) fun _ => St m ρ K c 45 := by
  rw [k0_part42_eq_skeleton]
  unfold app k0_part42_skel
  simp only [Prog.lift, Prog.bind_op, Prog.bind_ret, Prog.pure_eq_ret]
  refine mm_all m ρ K c 2 3 (n := 44) rfl (oB := (q2 k0_off18)) (by decide +kernel) (oY := (y2 k0_off16)) (by decide +kernel) (fun _ => rfl) ?_
  exact WP_ret c .rfl

theorem part43 (v26 v74 : BitVec 32) :
    St m ρ K c 45 ⊢ WP c (app (k0_part43 (F := F)) c v26 v74) fun _ => St m ρ K c 50 := by
  rw [k0_part43_eq_skeleton]
  unfold app k0_part43_skel
  simp only [Prog.lift, Prog.bind_op, Prog.bind_ret, Prog.pure_eq_ret]
  refine step_sw m ρ K c (.w 0 2) rfl rfl rfl ?_
  refine step_rw m ρ K c (.w 0 2) rfl rfl rfl ?_
  refine step_sw m ρ K c (.w 1 2) rfl rfl rfl ?_
  refine step_rw m ρ K c (.w 1 2) rfl rfl rfl ?_
  refine step_sw m ρ K c (.w 2 2) rfl rfl rfl ?_
  exact WP_ret c .rfl

theorem part44 (v50 v98 : BitVec 32) :
    St m ρ K c 50 ⊢ WP c (app (k0_part44 (F := F)) c v50 v98) fun _ => St m ρ K c 51 := by
  rw [k0_part44_eq_skeleton]
  unfold app k0_part44_skel
  simp only [Prog.lift, Prog.bind_op, Prog.bind_ret, Prog.pure_eq_ret]
  refine step_rw m ρ K c (.w 2 2) rfl rfl rfl ?_
  exact WP_ret c .rfl

end Cert.MeshProof

end
-- ==== Proof.PartsB.lean ====
/-
  The parts that receive the third stage and finish the accumulator.
-/
module

public import proofs.«01_k».proof.Proof.PartsA

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

theorem part45 (v122 v1390 v1399 : BitVec 32) :
    St m ρ K c 51 ⊢ WP c (app (k0_part45 (F := F)) c v122 v1390 v1399) fun _ => St m ρ K c 52 := by
  rw [k0_part45_eq_skeleton]
  unfold app k0_part45_skel
  simp only [Prog.lift, Prog.bind_op, Prog.bind_ret, Prog.pure_eq_ret]
  refine mm_all m ρ K c 0 4 (n := 51) rfl (oB := (fun d => k0_off19 d 0#32)) (by decide +kernel) (oY := (z0 0#32)) (by decide +kernel) (fun _ => rfl) ?_
  exact WP_ret c .rfl

theorem part46 (v122 c4_i32_1185 v1429 v1431 c0_i32_1187 : BitVec 32) :
    St m ρ K c 52 ⊢ WP c (app (k0_part46 (F := F)) v122 c4_i32_1185 v1429 v1431 c0_i32_1187) fun _ => St m ρ K c 52 := by
  rw [k0_part46_eq_skeleton]
  unfold app k0_part46_skel
  simp only [Prog.lift, Prog.bind_op, Prog.bind_ret, Prog.pure_eq_ret]
  exact WP_ret c .rfl

theorem part47 (v146 v1448 v1463 v1465 : BitVec 32) :
    St m ρ K c 52 ⊢ WP c (app (k0_part47 (F := F)) c v146 v1448 v1463 v1465) fun _ => St m ρ K c 53 := by
  rw [k0_part47_eq_skeleton]
  unfold app k0_part47_skel
  simp only [Prog.lift, Prog.bind_op, Prog.bind_ret, Prog.pure_eq_ret]
  refine mm_all m ρ K c 1 4 (n := 52) rfl (oB := (fun d => q1 k0_off21 d 0#32)) (by decide +kernel) (oY := (z1 0#32)) (by decide +kernel) (fun _ => rfl) ?_
  exact WP_ret c .rfl

theorem part48 (v1487 : BitVec 32) (v1501 : BitVec 1) (v1502 : BitVec 32) :
    St m ρ K c 53 ⊢ WP c (app (k0_part48 (F := F)) v1487 v1501 v1502) fun v => iprop(⌜v.2.2.1 = xbM.view.readAt (Elt F) xr2.toLoadRect (xb m ρ c)⌝ ∗ St m ρ K c 53) := by
  rw [k0_part48_eq_skeleton]
  unfold app k0_part48_skel
  simp only [Prog.lift, Prog.bind_op, Prog.bind_ret, Prog.pure_eq_ret]
  refine load_xb m ρ K c ?_
  exact WP_retp c rfl

theorem part49 (v74 v1506 v1530 : BitVec 32) (v1531 : Vec F S512x1360 .bf16) (c1360_i32_1266 : BitVec 32) (hv : v1531 = xbM.view.readAt (Elt F) xr2.toLoadRect (xb m ρ c)) :
    St m ρ K c 53 ⊢ WP c (app (k0_part49 (F := F)) c v74 v1506 v1530 v1531 c1360_i32_1266) fun _ => St m ρ K c 57 := by
  rw [k0_part49_eq_skeleton]
  unfold app k0_part49_skel
  simp only [Prog.lift, Prog.bind_op, Prog.bind_ret, Prog.pure_eq_ret]
  subst hv
  refine mm_piece m ρ K c 2 4 (n := 53) rfl (oB := (fun d => q2 k0_off21 d 0#32)) (by decide +kernel) (oY := (z2 0#32)) (by decide +kernel) (fun _ => rfl) ?_
  refine step_sw m ρ K c (.w 0 3) rfl rfl rfl ?_
  refine step_rw m ρ K c (.w 0 3) rfl rfl rfl ?_
  refine step_sw m ρ K c (.w 1 3) rfl rfl rfl ?_
  exact WP_ret c .rfl

theorem part50 (v26 v50 v98 : BitVec 32) :
    St m ρ K c 57 ⊢ WP c (app (k0_part50 (F := F)) c v26 v50 v98) fun _ => St m ρ K c 60 := by
  rw [k0_part50_eq_skeleton]
  unfold app k0_part50_skel
  simp only [Prog.lift, Prog.bind_op, Prog.bind_ret, Prog.pure_eq_ret]
  refine step_rw m ρ K c (.w 1 3) rfl rfl rfl ?_
  refine step_sw m ρ K c (.w 2 3) rfl rfl rfl ?_
  refine step_rw m ρ K c (.w 2 3) rfl rfl rfl ?_
  exact WP_ret c .rfl

theorem part51 (v1575 : BitVec 32) (v1586 : BitVec 1) (v1587 c0_i32_1323 : BitVec 32) :
    St m ρ K c 60 ⊢ WP c (app (k0_part51 (F := F)) v1575 v1586 v1587 c0_i32_1323) fun _ => St m ρ K c 60 := by
  rw [k0_part51_eq_skeleton]
  unfold app k0_part51_skel
  simp only [Prog.lift, Prog.bind_op, Prog.bind_ret, Prog.pure_eq_ret]
  exact WP_ret c .rfl

theorem part52 (v122 v1594 v1618 : BitVec 32) :
    St m ρ K c 60 ⊢ WP c (app (k0_part52 (F := F)) c v122 v1594 v1618) fun _ => St m ρ K c 61 := by
  rw [k0_part52_eq_skeleton]
  unfold app k0_part52_skel
  simp only [Prog.lift, Prog.bind_op, Prog.bind_ret, Prog.pure_eq_ret]
  refine mm_all m ρ K c 0 5 (n := 60) rfl (oB := (fun d => k0_off19 d 1#32)) (by decide +kernel) (oY := (z0 1#32)) (by decide +kernel) (fun _ => rfl) ?_
  exact WP_ret c .rfl

theorem part53 (v1652 v1654 c0_i32_1375 : BitVec 32) :
    St m ρ K c 61 ⊢ WP c (app (k0_part53 (F := F)) c v1652 v1654 c0_i32_1375) fun v => iprop(⌜v.2.1 = k0_pay25 (xbM.view.readAt (Elt F) xr1.toLoadRect (xb m ρ c)) (vec m ρ c (.w 1) (slotAt 1 5 c)) (yM.view.readAt (Elt F) (yrect (ogd 1 (slotAt 1 5 c))).toLoadRect (yAt m ρ c 61))⌝ ∗ St m ρ K c 61) := by
  rw [k0_part53_eq_skeleton]
  unfold app k0_part53_skel
  simp only [Prog.lift, Prog.bind_op, Prog.bind_ret, Prog.pure_eq_ret]
  refine load_xb m ρ K c ?_
  refine load_pc m ρ K c (.w 1) (slotAt 1 5) (off := (fun d => q1 k0_off21 d 1#32)) (e := .mm 1 5) (n := 61) rfl (fun _ => List.mem_singleton_self _) (by decide +kernel) ?_
  refine load_y m ρ K c (fun d => ogd 1 (slotAt 1 5 d)) (off := (z1 1#32)) (by decide +kernel) ?_
  exact WP_retp c rfl

theorem part54 (v146 v1676 : BitVec 32) (v1685 : FVec F S512x256 .f32) (c256_i32_1404 : BitVec 32) (hv : v1685 = k0_pay25 (xbM.view.readAt (Elt F) xr1.toLoadRect (xb m ρ c)) (vec m ρ c (.w 1) (slotAt 1 5 c)) (yM.view.readAt (Elt F) (yrect (ogd 1 (slotAt 1 5 c))).toLoadRect (yAt m ρ c 61))) :
    St m ρ K c 61 ⊢ WP c (app (k0_part54 (F := F)) c v146 v1676 v1685 c256_i32_1404) fun _ => St m ρ K c 62 := by
  rw [k0_part54_eq_skeleton]
  unfold app k0_part54_skel
  simp only [Prog.lift, Prog.bind_op, Prog.bind_ret, Prog.pure_eq_ret]
  subst hv
  refine load_y' m ρ K c ?_
  refine store_mm m ρ K c 1 5 (n := 61) (off := (z1 1#32)) rfl (by decide +kernel) rfl ?_
  exact WP_ret c .rfl

theorem part55 (v1710 v1719 : BitVec 32) (v1720 : BitVec 1) (c5_i32_1427 c0_i32_1428 : BitVec 32) :
    St m ρ K c 62 ⊢ WP c (app (k0_part55 (F := F)) c v1710 v1719 v1720 c5_i32_1427 c0_i32_1428) fun _ => St m ρ K c 63 := by
  rw [k0_part55_eq_skeleton]
  unfold app k0_part55_skel
  simp only [Prog.lift, Prog.bind_op, Prog.bind_ret, Prog.pure_eq_ret]
  refine mm_all m ρ K c 2 5 (n := 62) rfl (oB := (fun d => q2 k0_off21 d 1#32)) (by decide +kernel) (oY := (z2 1#32)) (by decide +kernel) (fun _ => rfl) ?_
  exact WP_ret c .rfl

theorem part56 (v26 v74 : BitVec 32) :
    St m ρ K c 63 ⊢ WP c (app (k0_part56 (F := F)) c v26 v74) fun _ => St m ρ K c 68 := by
  rw [k0_part56_eq_skeleton]
  unfold app k0_part56_skel
  simp only [Prog.lift, Prog.bind_op, Prog.bind_ret, Prog.pure_eq_ret]
  refine step_sw m ρ K c (.w 0 4) rfl rfl rfl ?_
  refine step_rw m ρ K c (.w 0 4) rfl rfl rfl ?_
  refine step_sw m ρ K c (.w 1 4) rfl rfl rfl ?_
  refine step_rw m ρ K c (.w 1 4) rfl rfl rfl ?_
  refine step_sw m ρ K c (.w 2 4) rfl rfl rfl ?_
  exact WP_ret c .rfl

theorem part57 (v50 v98 : BitVec 32) :
    St m ρ K c 68 ⊢ WP c (app (k0_part57 (F := F)) c v50 v98) fun _ => St m ρ K c 69 := by
  rw [k0_part57_eq_skeleton]
  unfold app k0_part57_skel
  simp only [Prog.lift, Prog.bind_op, Prog.bind_ret, Prog.pure_eq_ret]
  refine step_rw m ρ K c (.w 2 4) rfl rfl rfl ?_
  exact WP_ret c .rfl

theorem part58 (v122 v1798 v1807 : BitVec 32) :
    St m ρ K c 69 ⊢ WP c (app (k0_part58 (F := F)) c v122 v1798 v1807) fun _ => St m ρ K c 70 := by
  rw [k0_part58_eq_skeleton]
  unfold app k0_part58_skel
  simp only [Prog.lift, Prog.bind_op, Prog.bind_ret, Prog.pure_eq_ret]
  refine mm_all m ρ K c 0 6 (n := 69) rfl (oB := (fun d => k0_off19 d 2#32)) (by decide +kernel) (oY := (z0 2#32)) (by decide +kernel) (fun _ => rfl) ?_
  exact WP_ret c .rfl

theorem part59 (v122 c4_i32_1539 v1837 v1839 c0_i32_1541 : BitVec 32) :
    St m ρ K c 70 ⊢ WP c (app (k0_part59 (F := F)) v122 c4_i32_1539 v1837 v1839 c0_i32_1541) fun _ => St m ρ K c 70 := by
  rw [k0_part59_eq_skeleton]
  unfold app k0_part59_skel
  simp only [Prog.lift, Prog.bind_op, Prog.bind_ret, Prog.pure_eq_ret]
  exact WP_ret c .rfl

theorem part60 (v146 v1856 v1871 v1873 : BitVec 32) :
    St m ρ K c 70 ⊢ WP c (app (k0_part60 (F := F)) c v146 v1856 v1871 v1873) fun _ => St m ρ K c 71 := by
  rw [k0_part60_eq_skeleton]
  unfold app k0_part60_skel
  simp only [Prog.lift, Prog.bind_op, Prog.bind_ret, Prog.pure_eq_ret]
  refine mm_all m ρ K c 1 6 (n := 70) rfl (oB := (fun d => q1 k0_off21 d 2#32)) (by decide +kernel) (oY := (z1 2#32)) (by decide +kernel) (fun _ => rfl) ?_
  exact WP_ret c .rfl

theorem part61 (v1895 : BitVec 32) (v1909 : BitVec 1) (v1910 : BitVec 32) :
    St m ρ K c 71 ⊢ WP c (app (k0_part61 (F := F)) v1895 v1909 v1910) fun v => iprop(⌜v.2.2.1 = xbM.view.readAt (Elt F) xr2.toLoadRect (xb m ρ c)⌝ ∗ St m ρ K c 71) := by
  rw [k0_part61_eq_skeleton]
  unfold app k0_part61_skel
  simp only [Prog.lift, Prog.bind_op, Prog.bind_ret, Prog.pure_eq_ret]
  refine load_xb m ρ K c ?_
  exact WP_retp c rfl

theorem part62 (v74 v1914 v1938 : BitVec 32) (v1939 : Vec F S512x1360 .bf16) (c1360_i32_1620 : BitVec 32) (hv : v1939 = xbM.view.readAt (Elt F) xr2.toLoadRect (xb m ρ c)) :
    St m ρ K c 71 ⊢ WP c (app (k0_part62 (F := F)) c v74 v1914 v1938 v1939 c1360_i32_1620) fun _ => St m ρ K c 75 := by
  rw [k0_part62_eq_skeleton]
  unfold app k0_part62_skel
  simp only [Prog.lift, Prog.bind_op, Prog.bind_ret, Prog.pure_eq_ret]
  subst hv
  refine mm_piece m ρ K c 2 6 (n := 71) rfl (oB := (fun d => q2 k0_off21 d 2#32)) (by decide +kernel) (oY := (z2 2#32)) (by decide +kernel) (fun _ => rfl) ?_
  refine step_sw m ρ K c (.w 0 5) rfl rfl rfl ?_
  refine step_rw m ρ K c (.w 0 5) rfl rfl rfl ?_
  refine step_sw m ρ K c (.w 1 5) rfl rfl rfl ?_
  exact WP_ret c .rfl

theorem part63 (v26 v50 v98 : BitVec 32) :
    St m ρ K c 75 ⊢ WP c (app (k0_part63 (F := F)) c v26 v50 v98) fun _ => St m ρ K c 78 := by
  rw [k0_part63_eq_skeleton]
  unfold app k0_part63_skel
  simp only [Prog.lift, Prog.bind_op, Prog.bind_ret, Prog.pure_eq_ret]
  refine step_rw m ρ K c (.w 1 5) rfl rfl rfl ?_
  refine step_sw m ρ K c (.w 2 5) rfl rfl rfl ?_
  refine step_rw m ρ K c (.w 2 5) rfl rfl rfl ?_
  exact WP_ret c .rfl

theorem part64 (v1983 : BitVec 32) (v1994 : BitVec 1) (v1995 c0_i32_1677 : BitVec 32) :
    St m ρ K c 78 ⊢ WP c (app (k0_part64 (F := F)) v1983 v1994 v1995 c0_i32_1677) fun _ => St m ρ K c 78 := by
  rw [k0_part64_eq_skeleton]
  unfold app k0_part64_skel
  simp only [Prog.lift, Prog.bind_op, Prog.bind_ret, Prog.pure_eq_ret]
  exact WP_ret c .rfl

theorem part65 (v122 v2002 v2026 : BitVec 32) :
    St m ρ K c 78 ⊢ WP c (app (k0_part65 (F := F)) c v122 v2002 v2026) fun _ => St m ρ K c 79 := by
  rw [k0_part65_eq_skeleton]
  unfold app k0_part65_skel
  simp only [Prog.lift, Prog.bind_op, Prog.bind_ret, Prog.pure_eq_ret]
  refine mm_all m ρ K c 0 7 (n := 78) rfl (oB := (fun d => k0_off19 d 3#32)) (by decide +kernel) (oY := (z0 3#32)) (by decide +kernel) (fun _ => rfl) ?_
  exact WP_ret c .rfl

theorem part66 (v2060 v2062 c0_i32_1729 : BitVec 32) :
    St m ρ K c 79 ⊢ WP c (app (k0_part66 (F := F)) c v2060 v2062 c0_i32_1729) fun v => iprop(⌜v.2.1 = k0_pay32 (xbM.view.readAt (Elt F) xr1.toLoadRect (xb m ρ c)) (vec m ρ c (.w 1) (slotAt 1 7 c)) (yM.view.readAt (Elt F) (yrect (ogd 1 (slotAt 1 7 c))).toLoadRect (yAt m ρ c 79))⌝ ∗ St m ρ K c 79) := by
  rw [k0_part66_eq_skeleton]
  unfold app k0_part66_skel
  simp only [Prog.lift, Prog.bind_op, Prog.bind_ret, Prog.pure_eq_ret]
  refine load_xb m ρ K c ?_
  refine load_pc m ρ K c (.w 1) (slotAt 1 7) (off := (fun d => q1 k0_off21 d 3#32)) (e := .mm 1 7) (n := 79) rfl (fun _ => List.mem_singleton_self _) (by decide +kernel) ?_
  refine load_y m ρ K c (fun d => ogd 1 (slotAt 1 7 d)) (off := (z1 3#32)) (by decide +kernel) ?_
  exact WP_retp c rfl

theorem part67 (v146 v2084 : BitVec 32) (v2093 : FVec F S512x256 .f32) (c256_i32_1758 : BitVec 32) (hv : v2093 = k0_pay32 (xbM.view.readAt (Elt F) xr1.toLoadRect (xb m ρ c)) (vec m ρ c (.w 1) (slotAt 1 7 c)) (yM.view.readAt (Elt F) (yrect (ogd 1 (slotAt 1 7 c))).toLoadRect (yAt m ρ c 79))) :
    St m ρ K c 79 ⊢ WP c (app (k0_part67 (F := F)) c v146 v2084 v2093 c256_i32_1758) fun _ => St m ρ K c 80 := by
  rw [k0_part67_eq_skeleton]
  unfold app k0_part67_skel
  simp only [Prog.lift, Prog.bind_op, Prog.bind_ret, Prog.pure_eq_ret]
  subst hv
  refine load_y' m ρ K c ?_
  refine store_mm m ρ K c 1 7 (n := 79) (off := (z1 3#32)) rfl (by decide +kernel) rfl ?_
  exact WP_ret c .rfl

end Cert.MeshProof

end
-- ==== Proof.PartsC.lean ====
/-
  The parts that find the largest entry, exchange the quantised tiles and rebuild the output.
-/
module

public import proofs.«01_k».proof.Proof.PartsB

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

theorem part68 (v2118 v2127 : BitVec 32) (v2128 : BitVec 1) (c5_i32_1781 c0_i32_1782 : BitVec 32) :
    St m ρ K c 80 ⊢ WP c (app (k0_part68 (F := F)) c v2118 v2127 v2128 c5_i32_1781 c0_i32_1782) fun v => iprop(⌜v = k0_pay35 (yF m ρ c)⌝ ∗ St m ρ K c 81) := by
  rw [k0_part68_eq_skeleton]
  unfold app k0_part68_skel
  simp only [Prog.lift, Prog.bind_op, Prog.bind_ret, Prog.pure_eq_ret]
  refine mm_all m ρ K c 2 7 (n := 80) rfl (oB := (fun d => q2 k0_off21 d 3#32)) (by decide +kernel) (oY := (z2 3#32)) (by decide +kernel) (fun _ => rfl) ?_
  refine load_yW m ρ K c (n := 81) (by decide) (by decide) ?_
  exact WP_retp c rfl

theorem part69 (v2 : BitVec 32) (v2163 : FVec F S1x1x128 .f32) (hv : v2163 = k0_pay35 (yF m ρ c)) :
    St m ρ K c 81 ⊢ WP c (app (k0_part69 (F := F)) c v2 v2163) fun _ => St m ρ K c 83 := by
  rw [k0_part69_eq_skeleton]
  unfold app k0_part69_skel
  simp only [Prog.lift, Prog.bind_op, Prog.bind_ret, Prog.pure_eq_ret]
  subst hv
  refine load_gb m ρ K c .am 0 (n := 81) (off := k0_off22) rfl (by decide +kernel) fun _ => ?_
  refine store_own m ρ K c .am 0 (n := 81) (off := k0_off22) rfl (by decide +kernel) (own_am m ρ c) ?_
  refine send_a m ρ K c 0 rfl rfl rfl (dv := fun d => ⟨k0_dev26 d, k0_dev26_lt d⟩) (by decide +kernel) (off := k0_off23) (by decide +kernel) rfl ?_
  exact WP_ret c .rfl

theorem part70 (v2 v2197 : BitVec 32) :
    St m ρ K c 83 ⊢ WP c (app (k0_part70 (F := F)) c v2 v2197) fun _ => St m ρ K c 85 := by
  rw [k0_part70_eq_skeleton]
  unfold app k0_part70_skel
  simp only [Prog.lift, Prog.bind_op, Prog.bind_ret, Prog.pure_eq_ret]
  refine send_a m ρ K c 1 rfl rfl rfl (dv := fun d => ⟨k0_dev27 d, k0_dev27_lt d⟩) (by decide +kernel) (off := k0_off23) (by decide +kernel) rfl ?_
  refine send_a m ρ K c 2 rfl rfl rfl (dv := fun d => ⟨k0_dev28 d, k0_dev28_lt d⟩) (by decide +kernel) (off := k0_off23) (by decide +kernel) rfl ?_
  exact WP_ret c .rfl

theorem part71 (v2 v2227 v2228 : BitVec 32) :
    St m ρ K c 85 ⊢ WP c (app (k0_part71 (F := F)) c v2 v2227 v2228) fun _ => St m ρ K c 86 := by
  rw [k0_part71_eq_skeleton]
  unfold app k0_part71_skel
  simp only [Prog.lift, Prog.bind_op, Prog.bind_ret, Prog.pure_eq_ret]
  refine send_a m ρ K c 3 rfl rfl rfl (dv := fun d => ⟨k0_dev29 d, k0_dev29_lt d⟩) (by decide +kernel) (off := k0_off23) (by decide +kernel) rfl ?_
  exact WP_ret c .rfl

theorem part72 (v2 : BitVec 32) :
    St m ρ K c 86 ⊢ WP c (app (k0_part72 (F := F)) c v2) fun _ => St m ρ K c 88 := by
  rw [k0_part72_eq_skeleton]
  unfold app k0_part72_skel
  simp only [Prog.lift, Prog.bind_op, Prog.bind_ret, Prog.pure_eq_ret]
  refine send_a m ρ K c 4 rfl rfl rfl (dv := fun d => ⟨k0_dev30 d, k0_dev30_lt d⟩) (by decide +kernel) (off := k0_off23) (by decide +kernel) rfl ?_
  refine send_a m ρ K c 5 rfl rfl rfl (dv := fun d => ⟨k0_dev31 d, k0_dev31_lt d⟩) (by decide +kernel) (off := k0_off23) (by decide +kernel) rfl ?_
  exact WP_ret c .rfl

theorem part73 (v2178 v2197 v2216 v2293 c0_i32_1909 : BitVec 32) :
    St m ρ K c 88 ⊢ WP c (app (k0_part73 (F := F)) c v2178 v2197 v2216 v2293 c0_i32_1909) fun _ => St m ρ K c 92 := by
  rw [k0_part73_eq_skeleton]
  unfold app k0_part73_skel
  simp only [Prog.lift, Prog.bind_op, Prog.bind_ret, Prog.pure_eq_ret]
  refine send_a m ρ K c 6 rfl rfl rfl (dv := fun d => ⟨k0_dev32 d, k0_dev32_lt d⟩) (by decide +kernel) (off := k0_off23) (by decide +kernel) rfl ?_
  refine step_rw m ρ K c (.a 0) rfl rfl rfl ?_
  refine step_rw m ρ K c (.a 1) rfl rfl rfl ?_
  refine step_rw m ρ K c (.a 2) rfl rfl rfl ?_
  exact WP_ret c .rfl

theorem part74 (v2235 v2254 v2273 v2292 c1_i32_1940 : BitVec 32) :
    St m ρ K c 92 ⊢ WP c (app (k0_part74 (F := F)) c v2235 v2254 v2273 v2292 c1_i32_1940) fun _ => St m ρ K c 96 := by
  rw [k0_part74_eq_skeleton]
  unfold app k0_part74_skel
  simp only [Prog.lift, Prog.bind_op, Prog.bind_ret, Prog.pure_eq_ret]
  refine step_rw m ρ K c (.a 3) rfl rfl rfl ?_
  refine step_rw m ρ K c (.a 4) rfl rfl rfl ?_
  refine step_rw m ρ K c (.a 5) rfl rfl rfl ?_
  refine step_rw m ρ K c (.a 6) rfl rfl rfl ?_
  exact WP_ret c .rfl

theorem part75 (v2 : BitVec 32) :
    St m ρ K c 96 ⊢ WP c (app (k0_part75 (F := F)) c v2) fun v => iprop(⌜v.1 = k0_pay38 (tbl m ρ) ∧ v.2.1 = k0_pay39 (tbl m ρ)⌝ ∗ St m ρ K c 97) := by
  rw [k0_part75_eq_skeleton]
  unfold app k0_part75_skel
  simp only [Prog.lift, Prog.bind_op, Prog.bind_ret, Prog.pure_eq_ret]
  refine load_tbl m ρ K c (n := 96) (j := 1) rfl ?_
  refine load_yF m ρ K c (fun d => slot .q 1 d) (n := 96) (by decide) (by decide) (off := fun d => k0_off24 d 1#32) (by decide +kernel) ?_
  refine load_gb m ρ K c .q 1 (n := 96) (off := fun d => k0_off25 d 1#32) rfl (by decide +kernel) fun _ => ?_
  refine store_own m ρ K c .q 1 (n := 96) (off := fun d => k0_off25 d 1#32) rfl (by decide +kernel) rfl ?_
  exact WP_retp c ⟨rfl, rfl⟩

theorem part76 (v2 : BitVec 32) (v2349 : F .f32) (v2379 c0_i32_1993 : BitVec 32) (hv : v2349 = k0_pay39 (tbl m ρ)) :
    St m ρ K c 97 ⊢ WP c (app (k0_part76 (F := F)) c v2 v2349 v2379 c0_i32_1993) fun _ => St m ρ K c 99 := by
  rw [k0_part76_eq_skeleton]
  unfold app k0_part76_skel
  simp only [Prog.lift, Prog.bind_op, Prog.bind_ret, Prog.pure_eq_ret]
  subst hv
  refine send_t m ρ K c 0 rfl rfl rfl (dv := fun d => ⟨k0_dev33 d, k0_dev33_lt d⟩) (by decide +kernel) (offS := fun d => k0_off27 d 1#32) (by decide +kernel) (offD := k0_off26) (by decide +kernel) rfl ?_
  refine load_yF m ρ K c (fun d => slot .q 2 d) (n := 98) (by decide) (by decide) (off := fun d => k0_off24 d 2#32) (by decide +kernel) ?_
  refine load_gb m ρ K c .q 2 (n := 98) (off := fun d => k0_off25 d 2#32) rfl (by decide +kernel) fun _ => ?_
  refine store_own m ρ K c .q 2 (n := 98) (off := fun d => k0_off25 d 2#32) rfl (by decide +kernel) rfl ?_
  exact WP_ret c .rfl

theorem part77 (v2 : BitVec 32) (v2349 : F .f32) (v2416 c0_i32_2014 : BitVec 32) (hv : v2349 = k0_pay39 (tbl m ρ)) :
    St m ρ K c 99 ⊢ WP c (app (k0_part77 (F := F)) c v2 v2349 v2416 c0_i32_2014) fun _ => St m ρ K c 101 := by
  rw [k0_part77_eq_skeleton]
  unfold app k0_part77_skel
  simp only [Prog.lift, Prog.bind_op, Prog.bind_ret, Prog.pure_eq_ret]
  subst hv
  refine send_t m ρ K c 1 rfl rfl rfl (dv := fun d => ⟨k0_dev34 d, k0_dev34_lt d⟩) (by decide +kernel) (offS := fun d => k0_off27 d 2#32) (by decide +kernel) (offD := k0_off26) (by decide +kernel) rfl ?_
  refine load_yF m ρ K c (fun d => slot .q 3 d) (n := 100) (by decide) (by decide) (off := fun d => k0_off24 d 3#32) (by decide +kernel) ?_
  refine load_gb m ρ K c .q 3 (n := 100) (off := fun d => k0_off25 d 3#32) rfl (by decide +kernel) fun _ => ?_
  refine store_own m ρ K c .q 3 (n := 100) (off := fun d => k0_off25 d 3#32) rfl (by decide +kernel) rfl ?_
  exact WP_ret c .rfl

theorem part78 (v2 : BitVec 32) (v2349 : F .f32) (v2453 c0_i32_2035 : BitVec 32) (hv : v2349 = k0_pay39 (tbl m ρ)) :
    St m ρ K c 101 ⊢ WP c (app (k0_part78 (F := F)) c v2 v2349 v2453 c0_i32_2035) fun _ => St m ρ K c 103 := by
  rw [k0_part78_eq_skeleton]
  unfold app k0_part78_skel
  simp only [Prog.lift, Prog.bind_op, Prog.bind_ret, Prog.pure_eq_ret]
  subst hv
  refine send_t m ρ K c 2 rfl rfl rfl (dv := fun d => ⟨k0_dev35 d, k0_dev35_lt d⟩) (by decide +kernel) (offS := fun d => k0_off27 d 3#32) (by decide +kernel) (offD := k0_off26) (by decide +kernel) rfl ?_
  refine load_yF m ρ K c (fun d => slot .q 4 d) (n := 102) (by decide) (by decide) (off := fun d => k0_off24 d 4#32) (by decide +kernel) ?_
  refine load_gb m ρ K c .q 4 (n := 102) (off := fun d => k0_off25 d 4#32) rfl (by decide +kernel) fun _ => ?_
  refine store_own m ρ K c .q 4 (n := 102) (off := fun d => k0_off25 d 4#32) rfl (by decide +kernel) rfl ?_
  exact WP_ret c .rfl

theorem part79 (v2 : BitVec 32) (v2349 : F .f32) (v2490 c0_i32_2056 : BitVec 32) (hv : v2349 = k0_pay39 (tbl m ρ)) :
    St m ρ K c 103 ⊢ WP c (app (k0_part79 (F := F)) c v2 v2349 v2490 c0_i32_2056) fun _ => St m ρ K c 105 := by
  rw [k0_part79_eq_skeleton]
  unfold app k0_part79_skel
  simp only [Prog.lift, Prog.bind_op, Prog.bind_ret, Prog.pure_eq_ret]
  subst hv
  refine send_t m ρ K c 3 rfl rfl rfl (dv := fun d => ⟨k0_dev36 d, k0_dev36_lt d⟩) (by decide +kernel) (offS := fun d => k0_off27 d 4#32) (by decide +kernel) (offD := k0_off26) (by decide +kernel) rfl ?_
  refine load_yF m ρ K c (fun d => slot .q 5 d) (n := 104) (by decide) (by decide) (off := fun d => k0_off24 d 5#32) (by decide +kernel) ?_
  refine load_gb m ρ K c .q 5 (n := 104) (off := fun d => k0_off25 d 5#32) rfl (by decide +kernel) fun _ => ?_
  refine store_own m ρ K c .q 5 (n := 104) (off := fun d => k0_off25 d 5#32) rfl (by decide +kernel) rfl ?_
  exact WP_ret c .rfl

theorem part80 (v2 : BitVec 32) (v2349 : F .f32) (v2527 c0_i32_2077 : BitVec 32) (hv : v2349 = k0_pay39 (tbl m ρ)) :
    St m ρ K c 105 ⊢ WP c (app (k0_part80 (F := F)) c v2 v2349 v2527 c0_i32_2077) fun _ => St m ρ K c 107 := by
  rw [k0_part80_eq_skeleton]
  unfold app k0_part80_skel
  simp only [Prog.lift, Prog.bind_op, Prog.bind_ret, Prog.pure_eq_ret]
  subst hv
  refine send_t m ρ K c 4 rfl rfl rfl (dv := fun d => ⟨k0_dev37 d, k0_dev37_lt d⟩) (by decide +kernel) (offS := fun d => k0_off27 d 5#32) (by decide +kernel) (offD := k0_off26) (by decide +kernel) rfl ?_
  refine load_yF m ρ K c (fun d => slot .q 6 d) (n := 106) (by decide) (by decide) (off := fun d => k0_off24 d 6#32) (by decide +kernel) ?_
  refine load_gb m ρ K c .q 6 (n := 106) (off := fun d => k0_off25 d 6#32) rfl (by decide +kernel) fun _ => ?_
  refine store_own m ρ K c .q 6 (n := 106) (off := fun d => k0_off25 d 6#32) rfl (by decide +kernel) rfl ?_
  exact WP_ret c .rfl

theorem part81 (v2 : BitVec 32) (v2349 : F .f32) (v2564 c0_i32_2098 : BitVec 32) (hv : v2349 = k0_pay39 (tbl m ρ)) :
    St m ρ K c 107 ⊢ WP c (app (k0_part81 (F := F)) c v2 v2349 v2564 c0_i32_2098) fun _ => St m ρ K c 109 := by
  rw [k0_part81_eq_skeleton]
  unfold app k0_part81_skel
  simp only [Prog.lift, Prog.bind_op, Prog.bind_ret, Prog.pure_eq_ret]
  subst hv
  refine send_t m ρ K c 5 rfl rfl rfl (dv := fun d => ⟨k0_dev38 d, k0_dev38_lt d⟩) (by decide +kernel) (offS := fun d => k0_off27 d 6#32) (by decide +kernel) (offD := k0_off26) (by decide +kernel) rfl ?_
  refine load_yF m ρ K c (fun d => slot .q 7 d) (n := 108) (by decide) (by decide) (off := fun d => k0_off24 d 7#32) (by decide +kernel) ?_
  refine load_gb m ρ K c .q 7 (n := 108) (off := fun d => k0_off25 d 7#32) rfl (by decide +kernel) fun _ => ?_
  refine store_own m ρ K c .q 7 (n := 108) (off := fun d => k0_off25 d 7#32) rfl (by decide +kernel) rfl ?_
  exact WP_ret c .rfl

theorem part82 (v2 : BitVec 32) (v2348 v2349 : F .f32) (v2601 c0_i32_2119 : BitVec 32) (hv : v2348 = k0_pay38 (tbl m ρ)) (hw : v2349 = k0_pay39 (tbl m ρ)) :
    St m ρ K c 109 ⊢ WP c (app (k0_part82 (F := F)) c v2 v2348 v2349 v2601 c0_i32_2119) fun _ => St m ρ K c 111 := by
  rw [k0_part82_eq_skeleton]
  unfold app k0_part82_skel
  simp only [Prog.lift, Prog.bind_op, Prog.bind_ret, Prog.pure_eq_ret]
  subst hv hw
  refine send_t m ρ K c 6 rfl rfl rfl (dv := fun d => ⟨k0_dev39 d, k0_dev39_lt d⟩) (by decide +kernel) (offS := fun d => k0_off27 d 7#32) (by decide +kernel) (offD := k0_off26) (by decide +kernel) rfl ?_
  refine load_yF m ρ K c (fun d => d) (n := 110) (by decide) (by decide) (off := k0_off28) (by decide +kernel) ?_
  refine load_gb m ρ K c .o 0 (n := 110) (off := k0_off29) rfl (by decide +kernel) fun _ => ?_
  refine store_own m ρ K c .o 0 (n := 110) (off := k0_off29) rfl (by decide +kernel) (own_o0 m ρ c) ?_
  exact WP_ret c .rfl

theorem part83 (v2 : BitVec 32) (v2348 : F .f32) (v2634 : BitVec 32) (hv : v2348 = k0_pay38 (tbl m ρ)) :
    St m ρ K c 111 ⊢ WP c (app (k0_part83 (F := F)) c v2 v2348 v2634) fun v => iprop(⌜v.2 = k0_pay49 (vec m ρ c .ti (slot .ti 2 c))⌝ ∗ St m ρ K c 114) := by
  rw [k0_part83_eq_skeleton]
  unfold app k0_part83_skel
  simp only [Prog.lift, Prog.bind_op, Prog.bind_ret, Prog.pure_eq_ret]
  subst hv
  refine step_rw m ρ K c (.t 0) rfl rfl rfl ?_
  refine load_pc m ρ K c .ti (slot .ti 1) (off := fun d => k0_off31 d 1#32) (e := .own .o 1) (n := 112) rfl (fun _ => List.mem_singleton_self _) (by decide +kernel) ?_
  refine load_gb m ρ K c .o 1 (n := 112) (off := fun d => k0_off31 d 1#32) rfl (by decide +kernel) fun _ => ?_
  refine store_own m ρ K c .o 1 (n := 112) (off := fun d => k0_off31 d 1#32) rfl (by decide +kernel) (own_oj m ρ c 0) ?_
  refine step_rw m ρ K c (.t 1) rfl rfl rfl ?_
  refine load_pc m ρ K c .ti (slot .ti 2) (off := fun d => k0_off31 d 2#32) (e := .own .o 2) (n := 114) rfl (fun _ => List.mem_singleton_self _) (by decide +kernel) ?_
  exact WP_retp c rfl

theorem part84 (v2 : BitVec 32) (v2348 : F .f32) (v2661 : BitVec 32) (v2672 : FVec F S512x256 .f32) (hv : v2348 = k0_pay38 (tbl m ρ)) (hw : v2672 = k0_pay49 (vec m ρ c .ti (slot .ti 2 c))) :
    St m ρ K c 114 ⊢ WP c (app (k0_part84 (F := F)) c v2 v2348 v2661 v2672) fun _ => St m ρ K c 117 := by
  rw [k0_part84_eq_skeleton]
  unfold app k0_part84_skel
  simp only [Prog.lift, Prog.bind_op, Prog.bind_ret, Prog.pure_eq_ret]
  subst hv hw
  refine load_gb m ρ K c .o 2 (n := 114) (off := fun d => k0_off31 d 2#32) rfl (by decide +kernel) fun _ => ?_
  refine store_own m ρ K c .o 2 (n := 114) (off := fun d => k0_off31 d 2#32) rfl (by decide +kernel) (own_oj m ρ c 1) ?_
  refine step_rw m ρ K c (.t 2) rfl rfl rfl ?_
  refine load_pc m ρ K c .ti (slot .ti 3) (off := fun d => k0_off31 d 3#32) (e := .own .o 3) (n := 116) rfl (fun _ => List.mem_singleton_self _) (by decide +kernel) ?_
  refine load_gb m ρ K c .o 3 (n := 116) (off := fun d => k0_off31 d 3#32) rfl (by decide +kernel) fun _ => ?_
  refine store_own m ρ K c .o 3 (n := 116) (off := fun d => k0_off31 d 3#32) rfl (by decide +kernel) (own_oj m ρ c 2) ?_
  exact WP_ret c .rfl

theorem part85 (v2 : BitVec 32) (v2348 : F .f32) (v2705 c8_i32_2186 c0_i32_2187 : BitVec 32) (hv : v2348 = k0_pay38 (tbl m ρ)) :
    St m ρ K c 117 ⊢ WP c (app (k0_part85 (F := F)) c v2 v2348 v2705 c8_i32_2186 c0_i32_2187) fun _ => St m ρ K c 119 := by
  rw [k0_part85_eq_skeleton]
  unfold app k0_part85_skel
  simp only [Prog.lift, Prog.bind_op, Prog.bind_ret, Prog.pure_eq_ret]
  subst hv
  refine step_rw m ρ K c (.t 3) rfl rfl rfl ?_
  refine load_pc m ρ K c .ti (slot .ti 4) (off := fun d => k0_off31 d 4#32) (e := .own .o 4) (n := 118) rfl (fun _ => List.mem_singleton_self _) (by decide +kernel) ?_
  refine load_gb m ρ K c .o 4 (n := 118) (off := fun d => k0_off31 d 4#32) rfl (by decide +kernel) fun _ => ?_
  refine store_own m ρ K c .o 4 (n := 118) (off := fun d => k0_off31 d 4#32) rfl (by decide +kernel) (own_oj m ρ c 3) ?_
  exact WP_ret c .rfl

theorem part86 (v2 : BitVec 32) (v2348 : F .f32) (v2734 v2735 : BitVec 32) (v2740 : BitVec 1) (hv : v2348 = k0_pay38 (tbl m ρ)) :
    St m ρ K c 119 ⊢ WP c (app (k0_part86 (F := F)) c v2 v2348 v2734 v2735 v2740) fun _ => St m ρ K c 121 := by
  rw [k0_part86_eq_skeleton]
  unfold app k0_part86_skel
  simp only [Prog.lift, Prog.bind_op, Prog.bind_ret, Prog.pure_eq_ret]
  subst hv
  refine step_rw m ρ K c (.t 4) rfl rfl rfl ?_
  refine load_pc m ρ K c .ti (slot .ti 5) (off := fun d => k0_off31 d 5#32) (e := .own .o 5) (n := 120) rfl (fun _ => List.mem_singleton_self _) (by decide +kernel) ?_
  refine load_gb m ρ K c .o 5 (n := 120) (off := fun d => k0_off31 d 5#32) rfl (by decide +kernel) fun _ => ?_
  refine store_own m ρ K c .o 5 (n := 120) (off := fun d => k0_off31 d 5#32) rfl (by decide +kernel) (own_oj m ρ c 4) ?_
  exact WP_ret c .rfl

theorem part87 (v2 : BitVec 32) (v2348 : F .f32) (v2769 : BitVec 32) (hv : v2348 = k0_pay38 (tbl m ρ)) :
    St m ρ K c 121 ⊢ WP c (app (k0_part87 (F := F)) c v2 v2348 v2769) fun v => iprop(⌜v.2 = k0_pay55 (vec m ρ c .ti (slot .ti 7 c))⌝ ∗ St m ρ K c 124) := by
  rw [k0_part87_eq_skeleton]
  unfold app k0_part87_skel
  simp only [Prog.lift, Prog.bind_op, Prog.bind_ret, Prog.pure_eq_ret]
  subst hv
  refine step_rw m ρ K c (.t 5) rfl rfl rfl ?_
  refine load_pc m ρ K c .ti (slot .ti 6) (off := fun d => k0_off31 d 6#32) (e := .own .o 6) (n := 122) rfl (fun _ => List.mem_singleton_self _) (by decide +kernel) ?_
  refine load_gb m ρ K c .o 6 (n := 122) (off := fun d => k0_off31 d 6#32) rfl (by decide +kernel) fun _ => ?_
  refine store_own m ρ K c .o 6 (n := 122) (off := fun d => k0_off31 d 6#32) rfl (by decide +kernel) (own_oj m ρ c 5) ?_
  refine step_rw m ρ K c (.t 6) rfl rfl rfl ?_
  refine load_pc m ρ K c .ti (slot .ti 7) (off := fun d => k0_off31 d 7#32) (e := .own .o 7) (n := 124) rfl (fun _ => List.mem_singleton_self _) (by decide +kernel) ?_
  exact WP_retp c rfl

theorem part88 (v2348 : F .f32) (v2796 : BitVec 32) (v2807 : FVec F S512x256 .f32) (hv : v2348 = k0_pay38 (tbl m ρ)) (hw : v2807 = k0_pay55 (vec m ρ c .ti (slot .ti 7 c))) :
    St m ρ K c 124 ⊢ WP c (app (k0_part88 (F := F)) c v2348 v2796 v2807) fun _ => St m ρ K c 130 := by
  rw [k0_part88_eq_skeleton]
  unfold app k0_part88_skel
  simp only [Prog.lift, Prog.bind_op, Prog.bind_ret, Prog.pure_eq_ret]
  subst hv hw
  refine load_gb m ρ K c .o 7 (n := 124) (off := fun d => k0_off31 d 7#32) rfl (by decide +kernel) fun _ => ?_
  refine store_own m ρ K c .o 7 (n := 124) (off := fun d => k0_off31 d 7#32) rfl (by decide +kernel) (own_oj m ρ c 6) ?_
  refine step_sw m ρ K c (.t 0) rfl rfl rfl ?_
  refine step_sw m ρ K c (.t 1) rfl rfl rfl ?_
  refine step_sw m ρ K c (.t 2) rfl rfl rfl ?_
  refine step_sw m ρ K c (.t 3) rfl rfl rfl ?_
  refine step_sw m ρ K c (.t 4) rfl rfl rfl ?_
  exact WP_ret c .rfl

theorem part89  :
    St m ρ K c 130 ⊢ WP c (app (k0_part89 (F := F)) c) fun _ => St m ρ K c 135 := by
  rw [k0_part89_eq_skeleton]
  unfold app k0_part89_skel
  simp only [Prog.lift, Prog.bind_op, Prog.bind_ret, Prog.pure_eq_ret]
  refine step_sw m ρ K c (.t 5) rfl rfl rfl ?_
  refine step_sw m ρ K c (.t 6) rfl rfl rfl ?_
  refine step_sw m ρ K c (.a 0) rfl rfl rfl ?_
  refine step_sw m ρ K c (.a 1) rfl rfl rfl ?_
  refine step_sw m ρ K c (.a 2) rfl rfl rfl ?_
  exact WP_ret c .rfl

end Cert.MeshProof

end
-- ==== Proof.Glue.lean ====
/-
  The parts run one after another: everything past the barrier.
-/
module

public import proofs.«01_k».proof.Proof.PartsC

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-- A bind whose first half reports a pure fact. -/
theorem WP_bindp {α : Type} {Q : α → sProp 𝕄} {β : Type} {P S : sProp 𝕄} {φ : β → Prop} {p : Prog (TpuEff nD τ sig (Elt F) Λ₀ .tc) β} {f : β → Prog (TpuEff nD τ sig (Elt F) Λ₀ .tc) α}
    (h₁ : P ⊢ WP c p fun v => iprop(⌜φ v⌝ ∗ S)) (h₂ : ∀ v, φ v → S ⊢ WP c (f v) Q) : P ⊢ WP c (p >>= f) Q := by
  refine WP_bind c _ h₁ fun v => ?_
  iintro ⟨%hv, H⟩
  iapply (h₂ v hv)
  iexact H

theorem part91 (v2 v26 v50 v74 v98 v122 v146 v1895 : BitVec 32) (v1909 : BitVec 1) (v1910 : BitVec 32) :
    St m ρ K c 71 ⊢ WP c (app (k0_part91 (F := F)) c v2 v26 v50 v74 v98 v122 v146 v1895 v1909 v1910) fun _ => St m ρ K c 138 := by
  rw [k0_part91_eq_skeleton]
  unfold app k0_part91_skel
  refine WP_bindp c (part61 m ρ K c _ _ _) ?_
  rintro ⟨v1914, v1938, v1939, c1360_i32_1620⟩ h61
  refine WP_bind c _ (part62 m ρ K c _ _ _ _ _ h61) ?_
  rintro _
  refine WP_bind c _ (part63 m ρ K c _ _ _) ?_
  rintro ⟨v1983, v1994, v1995, c0_i32_1677⟩
  refine WP_bind c _ (part64 m ρ K c _ _ _ _) ?_
  rintro ⟨v2002, v2026⟩
  refine WP_bind c _ (part65 m ρ K c _ _ _) ?_
  rintro ⟨v2060, v2062, c0_i32_1729⟩
  refine WP_bindp c (part66 m ρ K c _ _ _) ?_
  rintro ⟨v2084, v2093, c256_i32_1758⟩ h66
  refine WP_bind c _ (part67 m ρ K c _ _ _ _ h66) ?_
  rintro ⟨v2118, v2127, v2128, c5_i32_1781, c0_i32_1782⟩
  refine WP_bindp c (part68 m ρ K c _ _ _ _ _) ?_
  rintro v2163 h68
  refine WP_bind c _ (part69 m ρ K c _ _ h68) ?_
  rintro ⟨v2178, v2197⟩
  refine WP_bind c _ (part70 m ρ K c _ _) ?_
  rintro ⟨v2216, v2227, v2228⟩
  refine WP_bind c _ (part71 m ρ K c _ _ _) ?_
  rintro ⟨v2235, v2254⟩
  refine WP_bind c _ (part72 m ρ K c _) ?_
  rintro ⟨v2273, v2292, v2293, c0_i32_1909⟩
  refine WP_bind c _ (part73 m ρ K c _ _ _ _ _) ?_
  rintro _
  refine WP_bind c _ (part74 m ρ K c _ _ _ _ _) ?_
  rintro _
  refine WP_bindp c (part75 m ρ K c _) ?_
  rintro ⟨v2348, v2349, v2379, c0_i32_1993⟩ h75
  refine WP_bind c _ (part76 m ρ K c _ _ _ _ h75.2) ?_
  rintro ⟨v2416, c0_i32_2014⟩
  refine WP_bind c _ (part77 m ρ K c _ _ _ _ h75.2) ?_
  rintro ⟨v2453, c0_i32_2035⟩
  refine WP_bind c _ (part78 m ρ K c _ _ _ _ h75.2) ?_
  rintro ⟨v2490, c0_i32_2056⟩
  refine WP_bind c _ (part79 m ρ K c _ _ _ _ h75.2) ?_
  rintro ⟨v2527, c0_i32_2077⟩
  refine WP_bind c _ (part80 m ρ K c _ _ _ _ h75.2) ?_
  rintro ⟨v2564, c0_i32_2098⟩
  refine WP_bind c _ (part81 m ρ K c _ _ _ _ h75.2) ?_
  rintro ⟨v2601, c0_i32_2119⟩
  refine WP_bind c _ (part82 m ρ K c _ _ _ _ _ h75.1 h75.2) ?_
  rintro _
  refine WP_bindp c (part83 m ρ K c _ _ _ h75.1) ?_
  rintro ⟨v2661, v2672⟩ h83
  refine WP_bind c _ (part84 m ρ K c _ _ _ _ h75.1 h83) ?_
  rintro ⟨v2705, c8_i32_2186, c0_i32_2187⟩
  refine WP_bind c _ (part85 m ρ K c _ _ _ _ _ h75.1) ?_
  rintro ⟨v2734, v2735, v2740⟩
  refine WP_bind c _ (part86 m ρ K c _ _ _ _ _ h75.1) ?_
  rintro _
  refine WP_bindp c (part87 m ρ K c _ _ _ h75.1) ?_
  rintro ⟨v2796, v2807⟩ h87
  refine WP_bind c _ (part88 m ρ K c _ _ _ h75.1 h87) ?_
  rintro _
  refine WP_bind c _ (part89 m ρ K c) ?_
  rintro _
  simp only [Prog.lift, Prog.bind_op, Prog.bind_ret, Prog.pure_eq_ret]
  refine step_sw m ρ K c (.a 3) rfl rfl rfl ?_
  refine step_sw m ρ K c (.a 4) rfl rfl rfl ?_
  refine step_sw m ρ K c (.a 5) rfl rfl rfl ?_
  exact WP_ret c .rfl

end Cert.MeshProof

end
-- ==== Proof.Barrier.lean ====
/-
  The hand-shake before the first event: each device tells the seven others that its buffers are
  ready, and with the signal hands over the pieces the other will write; then it waits for the seven.
-/
module

public import proofs.«01_k».proof.Proof.Glue

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-- The device `i + 1` places on. -/
def nb (i : Fin 7) (c : Dev nD) : Dev nD := f8 (c.val + i.val + 1)
theorem nb_ne : ∀ (i : Fin 7) (c : Dev nD), nb i c ≠ c := by decide +kernel

/-- What a device owes while the signals of a list are still to come. -/
def ob (c : Dev nD) : List (Fin 7) → CellTallies nD τ sig Unit
  | [] => owed c 0
  | i :: l => ob c l + tallyAt (barCell (nb i c)) () 1

/-- What a device needs for one signal. -/
def sgn (c : Dev nD) (i : Fin 7) : sProp 𝕄 := iprop(dutyTok ER (barCell (nb i c)) 0 c ∗ barPay (nb i c) c)

/-- Between two signals: those of the list are still to come; `P` is the rest. -/
def Bs (P : sProp 𝕄) (l : List (Fin 7)) : sProp 𝕄 :=
  iprop(records m ρ K ∗ (∃ W, owes (c : Thread nD τ) (ob c l) W) ∗ bigSepL l (sgn (F := F) c) ∗ P)

theorem step_signal {α : Type} {Q : α → sProp 𝕄} {P : sProp 𝕄} (i : Fin 7) (l : List (Fin 7)) {d : Dev nD} (hd : d = nb i c) {sm : Sem sig} (hs : sm = barS) {a : ℤ} (ha : a = 1)
    {k : PUnit → Prog (TpuEff nD τ sig (Elt F) Λ₀ .tc) α} (h : Bs m ρ K c P l ⊢ WP c (k ⟨⟩) Q) :
    Bs m ρ K c P (i :: l) ⊢ WP c (.op (.semSignal (d : Thread nD τ) sm a) k) Q := by
  subst hd; subst hs; subst ha
  unfold Bs
  iintro ⟨#Hr, ⟨%W, HO⟩, HL, HP⟩
  ihave HL := (Entails.of_eq (bigSepL_cons' i l (sgn (F := F) c))) $$ HL
  icases HL with ⟨Hs, HL⟩
  unfold sgn
  icases Hs with ⟨Ht, Hb⟩
  ihave #Hinv := (rec_inv m ρ K (nb i c, none)) $$ Hr
  ihave #Hre := (rec_reached m ρ K (nb i c, none)) $$ Hr
  iapply (Rounds.wp_signal 𝒱₀ ER (Rd m ρ) (c : Thread nD τ) none (dst := (nb i c : Thread nD τ)) (κ := K (nb i c, none)) (d := c)
    (by rw [duties_bar]; exact Finset.mem_erase.mpr ⟨(nb_ne i c).symm, Finset.mem_univ _⟩) ((amount_bar m ρ (nb i c) c).trans (by decide)) () (ob c l) rfl) $$ [HO Ht Hb]
  · isplitr; · iexact Hinv
    isplitl [HO]; · iexact HO
    isplitl [Ht]; · iexact Ht
    isplitl [Hb]; · rw [payload_bar]; iexact Hb
    iexact Hre
  iintro HO
  iapply h
  unfold Bs
  isplitr; · iexact Hr
  isplitl [HO]; · iexists W; iexact HO
  isplitl [HL]; · iexact HL
  iexact HP

/-! ## The pieces the seven waits bring -/

/-- The items before the wait: a transfer's target pieces are still with the other device. -/
def R0 (c : Dev nD) (i : Item) : sProp 𝕄 := match i with
  | .snd x => iprop(dutyTok ER (sCell c x) 0 0 ∗ dutyTok ER (rCell (peer x c) x) 0 0 ∗ atPos ER (sCell c x) 0 ∅ 0)
  | i => R m ρ c i (init c i)
/-- What the wait adds to them. -/
def Rx (c : Dev nD) (i : Item) : sProp 𝕄 := match i with
  | .snd x => bigSepL (dstS x c) (gbA (F := F) (peer x c))
  | _ => iprop(emp)

theorem R_emp (P : sProp 𝕄) : iprop(P ∗ emp) ⊢ P := by
  iintro ⟨H, -⟩
  iexact H

theorem R_join (i : Item) : iprop(R0 m ρ c i ∗ Rx (F := F) c i) ⊢ R m ρ c i (stat c 0 i) := by
  rw [stat_zero]
  cases i with
  | snd x =>
    show iprop((dutyTok ER (sCell c x) 0 0 ∗ dutyTok ER (rCell (peer x c) x) 0 0 ∗ atPos ER (sCell c x) 0 ∅ 0) ∗ bigSepL (dstS x c) (gbA (F := F) (peer x c)))
      ⊢ iprop(dutyTok ER (sCell c x) 0 0 ∗ dutyTok ER (rCell (peer x c) x) 0 0 ∗ atPos ER (sCell c x) 0 ∅ 0 ∗ bigSepL (dstS x c) (gbA (F := F) (peer x c)))
    iintro ⟨⟨H1, H2, H3⟩, H4⟩
    isplitl [H1]; · iexact H1
    isplitl [H2]; · iexact H2
    isplitl [H3]; · iexact H3
    iexact H4
  | rcv x => exact R_emp _
  | pc k s l => exact R_emp _
  | gb k s => exact R_emp _

theorem Rx_all : bigSep Finset.univ (Rx (F := F) c) = bigSep Finset.univ fun x : Xf => bigSepL (dstS x c) (gbA (F := F) (peer x c)) := by
  rw [bigSep_univ_equiv Item.equiv, bigSep_univ_sum, bigSep_univ_sum]
  have h1 : (bigSep Finset.univ fun b : Xf => Rx (F := F) c (Item.equiv (Sum.inl (Sum.inr b)))) = iprop(emp) := bigSep_emp_const _
  have h2 : (bigSep Finset.univ fun b : (Bk × Fin 8 × Fin 8) ⊕ (Bk × Fin 8) => Rx (F := F) c (Item.equiv (Sum.inr b))) = iprop(emp) :=
    (bigSep_congr fun b _ => by cases b <;> rfl).trans (bigSep_emp_const _)
  rw [h1, h2]
  rw [show ∀ P : sProp 𝕄, BI.sep P iprop(emp) = P from fun P => equiv_iff.mp sep_emp, show ∀ P : sProp 𝕄, BI.sep P iprop(emp) = P from fun P => equiv_iff.mp sep_emp]
  rfl

theorem barPay_self : barPay (F := F) c c = iprop(emp) := by
  unfold barPay
  exact (bigSep_congr fun x _ => if_neg (peer_ne x c)).trans (bigSep_emp_const _)

theorem bar_all : bigSep (Finset.univ.erase c) (fun d => barPay (F := F) c d) ⊢ bigSep Finset.univ (Rx (F := F) c) := by
  rw [Rx_all]
  have h1 : (bigSep Finset.univ fun d => barPay (F := F) c d) = iprop(barPay c c ∗ bigSep (Finset.univ.erase c) fun d => barPay (F := F) c d) :=
    bigSep_univ_split c
  have h2 : (bigSep Finset.univ fun d => barPay (F := F) c d) = bigSep Finset.univ fun x : Xf => bigSepL (dstS x c) (gbA (F := F) (peer x c)) := by
    unfold barPay
    rw [bigSep_univ_comm]
    refine bigSep_congr fun x _ => ?_
    have he : bigSep (Finset.univ.erase (peer x c)) (fun d => if peer x c = d then bigSepL (dstS x c) (gbA (F := F) d) else iprop(emp)) = iprop(emp) :=
      (bigSep_congr fun d hd => if_neg (Finset.ne_of_mem_erase hd).symm).trans (bigSep_emp_const _)
    rw [bigSep_univ_split (peer x c), if_pos rfl, he]
    exact equiv_iff.mp sep_emp
  rw [← h2, h1, barPay_self]
  iintro H
  isplitr
  · iempintro
  · iexact H

theorem its_zero : iprop(bigSep Finset.univ (R0 m ρ c) ∗ bigSep (Finset.univ.erase c) (fun d => barPay (F := F) c d)) ⊢ Its m ρ c 0 := by
  unfold Its
  have h : iprop(bigSep Finset.univ (R0 m ρ c) ∗ bigSep Finset.univ (Rx (F := F) c)) ⊢ bigSep Finset.univ fun i => R m ρ c i (stat c 0 i) := by
    rw [← bigSep_sep']
    exact bigSep_mono fun i _ => R_join m ρ c i
  iintro ⟨H1, H2⟩
  iapply h
  isplitl [H1]; · iexact H1
  iapply (bar_all (F := F) c); iexact H2

/-! ## The parts up to the wait -/

/-- The rest of a device's holdings before the wait. -/
def Pb (fx fy : sProp 𝕄) (c : Dev nD) : sProp 𝕄 :=
  iprop((((c : Thread nD τ).loc cc0_stg0_0) ↦{fullShare} xstg m ρ c) ∗ (((c : Thread nD τ).loc cc0_stg1_0) ↦{fullShare} wstg m ρ c)
    ∗ fx ∗ fy
    ∗ cred (tallyAt (barCell c) () 7) ∗ atPos ER (barCell c) 0 ∅ 0 ∗ bigSep Finset.univ (R0 m ρ c))
def xAny (c : Dev nD) : sProp 𝕄 := iprop(∃ f, ((c : Thread nD τ).loc cc0_scratch5) ↦{fullShare} f)
def xSet (c : Dev nD) : sProp 𝕄 := ((c : Thread nD τ).loc cc0_scratch5) ↦{fullShare} xb m ρ c

def yAny (c : Dev nD) : sProp 𝕄 := iprop(∃ f, ((c : Thread nD τ).loc cc0_scratch6) ↦{fullShare} f)
def ySet (c : Dev nD) : sProp 𝕄 := ((c : Thread nD τ).loc cc0_scratch6) ↦{fullShare} (k0_pay2 (F := F))

theorem dev1 : ∀ d : Dev nD, (⟨k0_dev1 d, k0_dev1_lt d⟩ : Dev nD) = nb 0 d := by decide +kernel
theorem dev2 : ∀ d : Dev nD, (⟨k0_dev2 d, k0_dev2_lt d⟩ : Dev nD) = nb 1 d := by decide +kernel
theorem dev3 : ∀ d : Dev nD, (⟨k0_dev3 d, k0_dev3_lt d⟩ : Dev nD) = nb 2 d := by decide +kernel
theorem dev4 : ∀ d : Dev nD, (⟨k0_dev4 d, k0_dev4_lt d⟩ : Dev nD) = nb 3 d := by decide +kernel
theorem dev5 : ∀ d : Dev nD, (⟨k0_dev5 d, k0_dev5_lt d⟩ : Dev nD) = nb 4 d := by decide +kernel
theorem dev6 : ∀ d : Dev nD, (⟨k0_dev6 d, k0_dev6_lt d⟩ : Dev nD) = nb 5 d := by decide +kernel
theorem dev7 : ∀ d : Dev nD, (⟨k0_dev7 d, k0_dev7_lt d⟩ : Dev nD) = nb 6 d := by decide +kernel

theorem part1 {P : sProp 𝕄} : P ⊢ WP c (app (k0_part1 (F := F))) fun v => iprop(⌜v.1 = c⌝ ∗ P) := by
  rw [k0_part1_eq_skeleton]
  unfold app k0_part1_skel
  simp only [Prog.lift, Prog.bind_op, Prog.bind_ret, Prog.pure_eq_ret]
  unfold WP
  rw [wp_deviceId]
  exact WP_retp c rfl

theorem part2 {P : sProp 𝕄} (v2 v28 : BitVec 32) : P ⊢ WP c (app (k0_part2 (F := F)) v2 v28) fun _ => P := by
  rw [k0_part2_eq_skeleton]
  exact WP_ret c .rfl
theorem part3 {P : sProp 𝕄} (v2 v56 : BitVec 32) (v57 : BitVec 1) (c6 : BitVec 32) : P ⊢ WP c (app (k0_part3 (F := F)) v2 v56 v57 c6) fun _ => P := by
  rw [k0_part3_eq_skeleton]
  exact WP_ret c .rfl
theorem part4 {P : sProp 𝕄} (v2 v86 : BitVec 32) (v87 : BitVec 1) : P ⊢ WP c (app (k0_part4 (F := F)) v2 v86 v87) fun _ => P := by
  rw [k0_part4_eq_skeleton]
  exact WP_ret c .rfl
theorem part5 {P : sProp 𝕄} (v2 v116 c6 : BitVec 32) : P ⊢ WP c (app (k0_part5 (F := F)) v2 v116 c6) fun _ => P := by
  rw [k0_part5_eq_skeleton]
  exact WP_ret c .rfl

theorem part6 {P : sProp 𝕄} (v2 : BitVec 32) :
    Bs m ρ K c P [0, 1, 2, 3, 4, 5, 6] ⊢ WP c (app (k0_part6 (F := F)) c v2) fun v => iprop(⌜v.1.sem = barS⌝ ∗ Bs m ρ K c P [2, 3, 4, 5, 6]) := by
  rw [k0_part6_eq_skeleton]
  unfold app k0_part6_skel
  simp only [semSignalWord, Prog.lift, Prog.bind_op, Prog.bind_ret, Prog.pure_eq_ret]
  refine step_signal m ρ K c 0 _ (dev1 c) rfl (by decide) ?_
  refine step_signal m ρ K c 1 _ (dev2 c) rfl (by decide) ?_
  exact WP_retp c rfl

theorem part7 {P : sProp 𝕄} (v2 : BitVec 32) (v147 : Sems sig S_) (v176 v177 : BitVec 32) (v178 : BitVec 1) (c0 : BitVec 32) (hv : v147.sem = barS) :
    Bs m ρ K c P [2, 3, 4, 5, 6] ⊢ WP c (app (k0_part7 (F := F)) c v2 v147 v176 v177 v178 c0) fun _ => Bs m ρ K c P [4, 5, 6] := by
  rw [k0_part7_eq_skeleton]
  unfold app k0_part7_skel
  simp only [semSignalWord, Prog.lift, Prog.bind_op, Prog.bind_ret, Prog.pure_eq_ret]
  refine step_signal m ρ K c 2 _ (dev3 c) hv (by decide) ?_
  refine step_signal m ρ K c 3 _ (dev4 c) hv (by decide) ?_
  exact WP_ret c .rfl

theorem hz2 : (![0, 0] : Fin 2 → Nat) = fun _ => 0 := by funext i; fin_cases i <;> rfl

theorem ld_x (f : xM.view.ref.ty.Contents (Elt F)) :
    View.readAt (Elt F) xM.view (Rect.unit (s := S512x4096) ![0, 0] S512x4096.size inb_S512x4096_S512x4096_0_0).toLoadRect f = f := Memref.readAt_unit_zero (Elt F) cc0_stg0_0 hz2 _ f
theorem st_x (f : xbM.view.ref.ty.Contents (Elt F)) (w) :
    View.write (Elt F) (xbM.access (Rect.unit (s := S512x4096) ![0, 0] S512x4096.size inb_S512x4096_S512x4096_0_0)) f w Finset.univ = w := Memref.write_access_unit_zero_univ (Elt F) cc0_scratch5 hz2 _ f w
theorem st_y (f : yM.view.ref.ty.Contents (Elt F)) (w) :
    View.write (Elt F) (yM.access (Rect.unit (s := S512x2048) ![0, 0] S512x2048.size inb_S512x2048_S512x2048_0_0)) f w Finset.univ = w := Memref.write_access_unit_zero_univ (Elt F) cc0_scratch6 hz2 _ f w

theorem part8 (v2 : BitVec 32) (v147 : Sems sig S_) (hv : v147.sem = barS) :
    Bs m ρ K c (Pb m ρ (xAny c) (yAny c) c) [4, 5, 6] ⊢ WP c (app (k0_part8 (F := F)) c v2 v147) fun _ => Bs m ρ K c (Pb m ρ (xSet m ρ c) (yAny c) c) [] := by
  rw [k0_part8_eq_skeleton]
  unfold app k0_part8_skel
  simp only [semSignalWord, Prog.lift, Prog.bind_op, Prog.bind_ret, Prog.pure_eq_ret]
  refine step_signal m ρ K c 4 _ (dev5 c) hv (by decide) ?_
  refine step_signal m ρ K c 5 _ (dev6 c) hv (by decide) ?_
  refine step_signal m ρ K c 6 _ (dev7 c) hv (by decide) ?_
  unfold Bs Pb xAny WP
  iintro ⟨#Hr, HO, HL, Hx, Hw, ⟨%f, Hb⟩, Hrest⟩
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hb; iintro Hb
  iapply (wp_store 𝒱₀ (c : Thread nD τ) none Set.univ (m := xbM) (r := Rect.unit (s := S512x4096) ![0, 0] S512x4096.size inb_S512x4096_S512x4096_0_0) (Mk := Finset.univ) (Finset.subset_univ _)) $$ Hb; iintro Hb
  rw [ld_x, st_x]
  rw [wp_ret]
  imodintro
  isplitr; · iexact Hr
  isplitl [HO]; · iexact HO
  isplitl [HL]; · iexact HL
  isplitl [Hx]; · iexact Hx
  isplitl [Hw]; · iexact Hw
  isplitl [Hb]; · unfold xSet xb; iexact Hb
  iexact Hrest

theorem step_y {α : Type} {Q : α → sProp 𝕄} {hl : yM.view.LoadsAt (Rect.unit (s := S512x2048) ![0, 0] S512x2048.size inb_S512x2048_S512x2048_0_0).toLoadRect}
    {hx : ((yM).access (Rect.unit (s := S512x2048) ![0, 0] S512x2048.size inb_S512x2048_S512x2048_0_0) : View sig .tc _ _ _).Stores Finset.univ} {hm} {k : Prog (TpuEff nD τ sig (Elt F) Λ₀ .tc) α}
    (h : Bs m ρ K c (Pb m ρ (xSet m ρ c) (ySet c) c) [] ⊢ WP c k Q) :
    Bs m ρ K c (Pb m ρ (xSet m ρ c) (yAny c) c) [] ⊢ WP c (.op (.load yM (Rect.unit (s := S512x2048) ![0, 0] S512x2048.size inb_S512x2048_S512x2048_0_0).toLoadRect hl) fun _ =>
      .op (.store yM (Rect.unit (s := S512x2048) ![0, 0] S512x2048.size inb_S512x2048_S512x2048_0_0) (k0_pay2 (F := F)) Finset.univ hx hm) fun _ => k) Q := by
  unfold WP
  unfold WP at h
  unfold Bs Pb yAny
  iintro ⟨#Hr, HO, HL, Hx, Hw, Hb, ⟨%f, Hy⟩, Hrest⟩
  iapply (wp_load 𝒱₀ (c : Thread nD τ) none Set.univ (m := yM) (Finset.subset_univ _)) $$ Hy; iintro Hy
  iapply (wp_store 𝒱₀ (c : Thread nD τ) none Set.univ (m := yM) (r := Rect.unit (s := S512x2048) ![0, 0] S512x2048.size inb_S512x2048_S512x2048_0_0) (Mk := Finset.univ) (Finset.subset_univ _)) $$ Hy; iintro Hy
  rw [st_y]
  iapply h
  unfold Bs Pb ySet
  isplitr; · iexact Hr
  isplitl [HO]; · iexact HO
  isplitl [HL]; · iexact HL
  isplitl [Hx]; · iexact Hx
  isplitl [Hw]; · iexact Hw
  isplitl [Hb]; · iexact Hb
  isplitl [Hy]; · iexact Hy
  iexact Hrest

theorem step_await {α : Type} {Q : α → sProp 𝕄} {sm : Sem sig} (hs : sm = barS) {a : ℤ} (ha : a = 7)
    {k : PUnit → Prog (TpuEff nD τ sig (Elt F) Λ₀ .tc) α} (h : St m ρ K c 0 ⊢ WP c (k ⟨⟩) Q) :
    Bs m ρ K c (Pb m ρ (xSet m ρ c) (ySet c) c) [] ⊢ WP c (.op (.semWait sm a) k) Q := by
  subst hs; subst ha
  unfold Bs Pb xSet ySet
  iintro ⟨#Hr, ⟨%W, HO⟩, -, Hx, Hw, Hb, Hy, Hc, Hat, HI⟩
  ihave #Hinv := (rec_inv m ρ K (c, none)) $$ Hr
  ihave #Hlev := (rec_lev m ρ K) $$ Hr
  iapply (Rounds.wp_wait_rest_token 𝒱₀ ER (Rd m ρ) (c : Thread nD τ) none (κ := K (c, none))
      (wpE_semWait_eq 𝒱₀ (c : Thread nD τ) none Set.univ) (Set.mem_univ _) () (O := owed c 0) (W := W) (R := 0) (m := 0) (T := ∅)
      (by rw [expect_bar])) $$ [Hc HO Hat]
  · isplitr; · iexact Hinv
    isplitl [Hc]; · iexact Hc
    isplitl [HO]; · iexact HO
    isplitr
    · iapply (mayWait_list (F := F) c (.reg barS) prog (fun y hy => rank_pos' y))
      iexact Hlev
    iexact Hat
  iintro ⟨HO, Hat, -, Hpay⟩
  ihave HP := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact Hinv
    iexact Hat
  ihave HI := (its_zero m ρ c) $$ [HI HP]
  · isplitl [HI] <;> iassumption
  iapply h
  unfold St Kn Ow Yn
  isplitr; · iexact Hr
  isplitl [Hx Hw Hb Hz]
  · isplitl [Hx]; · iexact Hx
    isplitl [Hw]; · iexact Hw
    isplitl [Hb]; · iexact Hb
    iexact Hz
  isplitl [HO]; · iexists _; iexact HO
  isplitl [Hy]; · iexact Hy
  iexact HI

theorem part9 (v26 v98 : BitVec 32) (v147 : Sems sig S_) (hv : v147.sem = barS) :
    Bs m ρ K c (Pb m ρ (xSet m ρ c) (yAny c) c) [] ⊢ WP c (app (k0_part9 (F := F)) c v26 v98 v147) fun _ => St m ρ K c 1 := by
  rw [k0_part9_eq_skeleton]
  unfold app k0_part9_skel
  simp only [semWaitWord, Prog.lift, Prog.bind_op, Prog.bind_ret, Prog.pure_eq_ret]
  refine step_y m ρ K c ?_
  refine step_await m ρ K c hv (by decide) ?_
  refine load_w m ρ K c ?_
  refine load_gb m ρ K c (.w 0) 0 (n := 0) (off := k0_off1) rfl (by decide +kernel) fun _ => ?_
  refine store_own m ρ K c (.w 0) 0 (n := 0) (off := k0_off1) rfl (by decide +kernel) (own_w0 m ρ c) ?_
  exact WP_ret c .rfl

/-! ## The two halves and the whole body -/

theorem part90 :
    Bs m ρ K c (Pb m ρ (xAny c) (yAny c) c) [0, 1, 2, 3, 4, 5, 6] ⊢ WP c (app (k0_part90 (F := F))) fun v => iprop(⌜v.1 = c⌝ ∗ St m ρ K c 71) := by
  rw [k0_part90_eq_skeleton]
  unfold app k0_part90_skel
  refine WP_bindp c (part1 c) ?_
  rintro ⟨d0, v2, v26, v28⟩ h1
  replace h1 : d0 = c := h1
  subst h1
  refine WP_bind d0 _ (part2 d0 _ _) ?_
  rintro ⟨v50, v56, v57, c6⟩
  refine WP_bind d0 _ (part3 d0 _ _ _ _) ?_
  rintro ⟨v74, v86, v87⟩
  refine WP_bind d0 _ (part4 d0 _ _ _) ?_
  rintro ⟨v98, v116, c6'⟩
  refine WP_bind d0 _ (part5 d0 _ _ _) ?_
  rintro ⟨v122, v146⟩
  refine WP_bindp d0 (part6 m ρ K d0 _) ?_
  rintro ⟨v147, v176, v177, v178, c0⟩ h6
  replace h6 : v147.sem = barS := h6
  refine WP_bind d0 _ (part7 m ρ K d0 _ _ _ _ _ _ h6) ?_
  rintro _
  refine WP_bind d0 _ (part8 m ρ K d0 _ _ h6) ?_
  rintro _
  refine WP_bind d0 _ (part9 m ρ K d0 _ _ _ h6) ?_
  rintro _
  refine WP_bind d0 _ (part10 m ρ K d0 _ _ _) ?_
  rintro _
  refine WP_bind d0 _ (part11 m ρ K d0 _ _ _) ?_
  rintro _
  refine WP_bind d0 _ (part12 m ρ K d0 _ _) ?_
  rintro _
  refine WP_bind d0 _ (part13 m ρ K d0 _ _ _) ?_
  rintro ⟨v409, v411⟩
  refine WP_bind d0 _ (part14 m ρ K d0 _ _ _ _) ?_
  rintro ⟨v441, v442, c5_i32_359, c0_i32_360⟩
  refine WP_bind d0 _ (part15 m ρ K d0 _ _ _ _ _) ?_
  rintro _
  refine WP_bind d0 _ (part16 m ρ K d0 _ _) ?_
  rintro _
  refine WP_bind d0 _ (part17 m ρ K d0 _ _ _ _) ?_
  rintro ⟨c2_i32_445, v529⟩
  refine WP_bind d0 _ (part18 m ρ K d0 _ _ _ _ _) ?_
  rintro ⟨c2_i32_463, v557, v562, v564, v566⟩
  refine WP_bind d0 _ (part19 m ρ K d0 _ _ _ _ _ _ _ _) ?_
  rintro ⟨v597, v600⟩
  refine WP_bindp d0 (part20 m ρ K d0 _ _) ?_
  rintro ⟨v630, v631⟩ h20
  refine WP_bind d0 _ (part21 m ρ K d0 _ _ _ h20) ?_
  rintro ⟨v648, v663, v664⟩
  refine WP_bind d0 _ (part22 m ρ K d0 _ _ _ _) ?_
  rintro ⟨v687, v698⟩
  refine WP_bindp d0 (part23 m ρ K d0 _ _) ?_
  rintro ⟨v723, v728⟩ h23
  refine WP_bind d0 _ (part24 m ρ K d0 _ _ _ _ h23) ?_
  rintro ⟨v752, c0_i32_634⟩
  refine WP_bind d0 _ (part25 m ρ K d0 _ _ _ _) ?_
  rintro ⟨v784, c4_i32_659⟩
  refine WP_bind d0 _ (part26 m ρ K d0 _ _ _) ?_
  rintro _
  refine WP_bind d0 _ (part27 m ρ K d0 _ _ _) ?_
  rintro ⟨v834, v845, v846, c0_i32_713⟩
  refine WP_bind d0 _ (part28 m ρ K d0 _ _ _ _ _) ?_
  rintro ⟨v851, v876, c1360_i32_741⟩
  refine WP_bind d0 _ (part29 m ρ K d0 _ _ _ _ _) ?_
  rintro ⟨c4_i32_764, v900, v905, v907, c0_i32_768⟩
  refine WP_bind d0 _ (part30 m ρ K d0 _ _ _ _ _ _ _) ?_
  rintro _
  refine WP_bind d0 _ (part31 m ρ K d0 _ _ _) ?_
  rintro ⟨c2_i32_820, v966, v968, v969⟩
  refine WP_bind d0 _ (part32 m ρ K d0 _ _ _ _ _) ?_
  rintro ⟨v992, v1010, c1_i32_841⟩
  refine WP_bindp d0 (part33 m ρ K d0 _ _ _) ?_
  rintro ⟨v1013, v1037, v1038⟩ h33
  refine WP_bind d0 _ (part34 m ρ K d0 _ _ _ h33) ?_
  rintro ⟨v1052, v1070, v1071, c7_i32_898, c0_i32_899⟩
  refine WP_bind d0 _ (part35 m ρ K d0 _ _ _ _ _ _) ?_
  rintro ⟨v1107, c2_i32_919, v1108, c1_i32_921⟩
  refine WP_bind d0 _ (part36 m ρ K d0 _ _ _ _ _) ?_
  rintro ⟨v1138, v1144, v1145, c4_i32_943, c0_i32_944⟩
  refine WP_bind d0 _ (part37 m ρ K d0 _ _ _ _ _) ?_
  rintro ⟨v1177, v1178⟩
  refine WP_bindp d0 (part38 m ρ K d0 _ _) ?_
  rintro ⟨v1201, v1206, v1207⟩ h38
  refine WP_bind d0 _ (part39 m ρ K d0 _ _ _ _ h38) ?_
  rintro ⟨v1242, c4_i32_1017, v1243, v1248⟩
  refine WP_bind d0 _ (part40 m ρ K d0 _ _ _ _ _) ?_
  rintro ⟨v1263, v1281, c6_i32_1046⟩
  refine WP_bind d0 _ (part41 m ρ K d0 _ _ _) ?_
  rintro ⟨v1302, v1311, v1312, c5_i32_1073, c0_i32_1074⟩
  refine WP_bind d0 _ (part42 m ρ K d0 _ _ _ _ _) ?_
  rintro _
  refine WP_bind d0 _ (part43 m ρ K d0 _ _) ?_
  rintro _
  refine WP_bind d0 _ (part44 m ρ K d0 _ _) ?_
  rintro ⟨v1390, v1399⟩
  refine WP_bind d0 _ (part45 m ρ K d0 _ _ _) ?_
  rintro ⟨c4_i32_1185, v1429, v1431, c0_i32_1187⟩
  refine WP_bind d0 _ (part46 m ρ K d0 _ _ _ _ _) ?_
  rintro ⟨v1448, v1463, v1465⟩
  refine WP_bind d0 _ (part47 m ρ K d0 _ _ _ _) ?_
  rintro ⟨v1487, v1501, v1502⟩
  refine WP_bindp d0 (part48 m ρ K d0 _ _ _) ?_
  rintro ⟨v1506, v1530, v1531, c1360_i32_1266⟩ h48
  refine WP_bind d0 _ (part49 m ρ K d0 _ _ _ _ _ h48) ?_
  rintro _
  refine WP_bind d0 _ (part50 m ρ K d0 _ _ _) ?_
  rintro ⟨v1575, v1586, v1587, c0_i32_1323⟩
  refine WP_bind d0 _ (part51 m ρ K d0 _ _ _ _) ?_
  rintro ⟨v1594, v1618⟩
  refine WP_bind d0 _ (part52 m ρ K d0 _ _ _) ?_
  rintro ⟨v1652, v1654, c0_i32_1375⟩
  refine WP_bindp d0 (part53 m ρ K d0 _ _ _) ?_
  rintro ⟨v1676, v1685, c256_i32_1404⟩ h53
  refine WP_bind d0 _ (part54 m ρ K d0 _ _ _ _ h53) ?_
  rintro ⟨v1710, v1719, v1720, c5_i32_1427, c0_i32_1428⟩
  refine WP_bind d0 _ (part55 m ρ K d0 _ _ _ _ _) ?_
  rintro _
  refine WP_bind d0 _ (part56 m ρ K d0 _ _) ?_
  rintro _
  refine WP_bind d0 _ (part57 m ρ K d0 _ _) ?_
  rintro ⟨v1798, v1807⟩
  refine WP_bind d0 _ (part58 m ρ K d0 _ _ _) ?_
  rintro ⟨c4_i32_1539, v1837, v1839, c0_i32_1541⟩
  refine WP_bind d0 _ (part59 m ρ K d0 _ _ _ _ _) ?_
  rintro ⟨v1856, v1871, v1873⟩
  refine WP_bind d0 _ (part60 m ρ K d0 _ _ _ _) ?_
  rintro ⟨v1895, v1909, v1910⟩
  exact WP_retp d0 rfl

theorem body :
    Bs m ρ K c (Pb m ρ (xAny c) (yAny c) c) [0, 1, 2, 3, 4, 5, 6] ⊢ WP c (app (cc0_body (F := F))) fun _ => St m ρ K c 139 := by
  rw [cc0_body_eq_skeleton]
  unfold app cc0_body_skel
  refine WP_bindp c (part90 m ρ K c) ?_
  rintro ⟨d0, v2, v26, v50, v74, v98, v122, v146, v1895, v1909, v1910⟩ h
  replace h : d0 = c := h
  subst h
  refine WP_bind d0 _ (part91 m ρ K d0 _ _ _ _ _ _ _ _ _ _) ?_
  rintro _
  simp only [Prog.lift, Prog.bind_op, Prog.bind_ret, Prog.pure_eq_ret]
  refine step_sw m ρ K d0 (.a 6) rfl rfl rfl ?_
  exact WP_ret d0 .rfl

end Cert.MeshProof

end
-- ==== Proof.Ends.lean ====
/-
  A device's holdings at the two ends: the buffers cut into pieces and dealt out before the first
  signal, and put together again after the last event.
-/
module

public import proofs.«01_k».proof.Proof.Barrier

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-! ## Buffers and pieces -/

theorem eights : ((List.range 8).map fun i => f8 (0 + i)).toFinset = Finset.univ ∧ ((List.range 8).map fun i => f8 (0 + i)).Nodup := by decide +kernel

theorem over8 (Φ : Fin 8 → sProp 𝕄) : bigSep Finset.univ Φ = bigSepL ((List.range 8).map fun i => f8 (0 + i)) Φ :=
  bigSep_univ_eq_bigSepL _ eights.1.symm eights.2 Φ

theorem whole_pieces (k : Bk) (f : (ref k).ty.Contents (Elt F)) :
    pts (F := F) c k Finset.univ fullShare f = bigSep Finset.univ fun s => pts (F := F) c k (piece k s) fullShare f := by
  rw [over8, pts_run c k fullShare f 0 8 (by decide), slab_all]

theorem cut (k : Bk) (f : (ref k).ty.Contents (Elt F)) : pts (F := F) c k Finset.univ fullShare f ⊢ bigSep Finset.univ fun s => gbA (F := F) c (k, s) := by
  rw [whole_pieces]
  refine bigSep_mono fun s _ => ?_
  show pts (F := F) c k (piece k s) fullShare f ⊢ iprop(∃ g, pts (F := F) c k (piece k s) fullShare g)
  iintro H
  iexists f
  iexact H

theorem uncut (k : Bk) : (bigSep Finset.univ fun s => gbA (F := F) c (k, s)) ⊢ iprop(∃ f, pts (F := F) c k Finset.univ fullShare f) := by
  have h := gb_run (F := F) c k 0 8 (by decide)
  rw [slab_all] at h
  have e : (bigSep Finset.univ fun s => gbA (F := F) c (k, s)) = bigSepL ((List.range 8).map fun i => (k, f8 (0 + i))) (gbA (F := F) c) := by
    rw [over8, bigSepL_map, bigSepL_map]
  rw [e]; exact h

/-- A buffer whole, at some contents. -/
abbrev any (k : Bk) (c : Dev nD) : sProp 𝕄 := iprop(∃ f, pts (F := F) c k Finset.univ fullShare f)

theorem over_bk (Φ : Bk → sProp 𝕄) : bigSep Finset.univ Φ = iprop(Φ (.w 0) ∗ Φ (.w 1) ∗ Φ (.w 2) ∗ Φ .q ∗ Φ .ti ∗ Φ .am ∗ Φ .o) :=
  bigSep_univ_eq_bigSepL ([.w 0, .w 1, .w 2, .q, .ti, .am, .o] : List Bk) (by decide +kernel) (by decide +kernel) Φ

theorem any_cut (k : Bk) : any (F := F) k c ⊢ bigSep Finset.univ fun s => gbA (F := F) c (k, s) := by
  iintro ⟨%f, H⟩
  iapply (cut c k f)
  iexact H

/-! ## Before the first signal -/

/-- Every transfer. -/
def allX : List Xf := List.map Xf.equiv ([0, 1, 2].flatMap (fun r => [0, 1, 2, 3, 4, 5].map fun k => Sum.inl (r, k)) ++ [0, 1, 2, 3, 4, 5, 6].map (fun j => .inr (.inl j)) ++ [0, 1, 2, 3, 4, 5, 6].map (fun j => .inr (.inr j)))
theorem allX_univ : allX.toFinset = Finset.univ ∧ allX.Nodup := by decide +kernel
theorem lent_eq : ∀ c : Dev nD, (allX.flatMap fun x => dstS x (reep x c)).Nodup
    ∧ (∀ p : Bk × Fin 8, p ∈ (allX.flatMap fun x => dstS x (reep x c)) ↔ init c (.gb p.1 p.2) = 0) ∧ ∀ p : Bk × Fin 8, init c (.gb p.1 p.2) = 0 ∨ init c (.gb p.1 p.2) = 1 := by decide +kernel

theorem deal : (bigSep Finset.univ fun p : Bk × Fin 8 => gbA (F := F) c p)
    ⊢ iprop((bigSep Finset.univ fun p : Bk × Fin 8 => R m ρ c (.gb p.1 p.2) (init c (.gb p.1 p.2)))
        ∗ bigSep Finset.univ fun x : Xf => bigSepL (dstS x (reep x c)) (gbA (F := F) c)) := by
  obtain ⟨h1, h2, h3⟩ := lent_eq c
  have hset : (Finset.univ.filter fun p : Bk × Fin 8 => init c (.gb p.1 p.2) = 0) = (allX.flatMap fun x => dstS x (reep x c)).toFinset := by
    ext p; simp only [Finset.mem_filter, Finset.mem_univ, true_and, List.mem_toFinset]; exact (h2 p).symm
  have hx : (bigSep Finset.univ fun x : Xf => bigSepL (dstS x (reep x c)) (gbA (F := F) c))
      = bigSep (Finset.univ.filter fun p : Bk × Fin 8 => init c (.gb p.1 p.2) = 0) (gbA (F := F) c) := by
    rw [bigSep_univ_eq_bigSepL allX allX_univ.1.symm allX_univ.2, ← bigSepL_flat, hset, bigSep_eq_bigSepL _ h1]
  have hs : (bigSep Finset.univ fun p : Bk × Fin 8 => gbA (F := F) c p)
      = iprop(bigSep (Finset.univ.filter fun p : Bk × Fin 8 => init c (.gb p.1 p.2) = 0) (gbA (F := F) c)
        ∗ bigSep (Finset.univ.filter fun p : Bk × Fin 8 => ¬ init c (.gb p.1 p.2) = 0) (gbA (F := F) c)) := bigSep_filter_split _ _
  have hr : (bigSep Finset.univ fun p : Bk × Fin 8 => R m ρ c (.gb p.1 p.2) (init c (.gb p.1 p.2)))
      = iprop(bigSep (Finset.univ.filter fun p : Bk × Fin 8 => init c (.gb p.1 p.2) = 0) (fun p => R m ρ c (.gb p.1 p.2) (init c (.gb p.1 p.2)))
        ∗ bigSep (Finset.univ.filter fun p : Bk × Fin 8 => ¬ init c (.gb p.1 p.2) = 0) (fun p => R m ρ c (.gb p.1 p.2) (init c (.gb p.1 p.2)))) := bigSep_filter_split _ _
  have he : bigSep (Finset.univ.filter fun p : Bk × Fin 8 => init c (.gb p.1 p.2) = 0) (fun p => R m ρ c (.gb p.1 p.2) (init c (.gb p.1 p.2))) = iprop(emp) :=
    (bigSep_congr fun p hp => by rw [(Finset.mem_filter.mp hp).2]; rfl).trans (bigSep_emp_const _)
  have hg : bigSep (Finset.univ.filter fun p : Bk × Fin 8 => ¬ init c (.gb p.1 p.2) = 0) (fun p => R m ρ c (.gb p.1 p.2) (init c (.gb p.1 p.2)))
      = bigSep (Finset.univ.filter fun p : Bk × Fin 8 => ¬ init c (.gb p.1 p.2) = 0) (gbA (F := F) c) :=
    bigSep_congr fun p hp => by rw [(h3 p).resolve_left (Finset.mem_filter.mp hp).2]; rfl
  rw [hx, hs, hr, he, hg]
  iintro ⟨H1, H2⟩
  isplitl [H2]
  · isplitr
    · iempintro
    · iexact H2
  · iexact H1

/-- They are what the signals hand over. -/
theorem lend : (bigSep Finset.univ fun x : Xf => bigSepL (dstS x (reep x c)) (gbA (F := F) c)) ⊢ bigSep (Finset.univ.erase c) fun e => barPay (F := F) e c := by
  have h1 : (bigSep Finset.univ fun e => barPay (F := F) e c) = iprop(barPay c c ∗ bigSep (Finset.univ.erase c) fun e => barPay (F := F) e c) := bigSep_univ_split c
  have h2 : (bigSep Finset.univ fun e => barPay (F := F) e c) = bigSep Finset.univ fun x : Xf => bigSepL (dstS x (reep x c)) (gbA (F := F) c) := by
    unfold barPay
    rw [bigSep_univ_comm]
    refine bigSep_congr fun x _ => ?_
    have he : bigSep (Finset.univ.erase (reep x c)) (fun e => if peer x e = c then bigSepL (dstS x e) (gbA (F := F) c) else iprop(emp)) = iprop(emp) :=
      (bigSep_congr fun e he => if_neg fun h => Finset.ne_of_mem_erase he (by rw [← h, reep_peer])).trans (bigSep_emp_const _)
    rw [bigSep_univ_split (reep x c), if_pos (peer_reep x c), he]
    exact equiv_iff.mp sep_emp
  rw [← h2, h1, barPay_self]
  iintro ⟨-, H⟩
  iexact H

theorem nbs : ∀ c : Dev nD, (List.map (fun i => nb i c) [0, 1, 2, 3, 4, 5, 6]).toFinset = Finset.univ.erase c ∧ (List.map (fun i => nb i c) [0, 1, 2, 3, 4, 5, 6]).Nodup := by decide +kernel

theorem over_nb (Φ : Dev nD → sProp 𝕄) : bigSep (Finset.univ.erase c) Φ = bigSepL [0, 1, 2, 3, 4, 5, 6] fun i => Φ (nb i c) := by
  rw [← (nbs c).1, bigSep_eq_bigSepL _ (nbs c).2, bigSepL_map]

theorem deal_sgn : iprop((bigSep (Finset.univ.erase c) fun e => dutyTok ER (barCell e) 0 c) ∗ bigSep (Finset.univ.erase c) fun e => barPay (F := F) e c)
    ⊢ bigSepL [0, 1, 2, 3, 4, 5, 6] (sgn (F := F) c) := by
  rw [← bigSep_sep', over_nb]
  exact .rfl

/-- A transfer's tokens and places, as the sender and the receiver hold them. -/
def ends (c : Dev nD) (x : Xf) : sProp 𝕄 :=
  iprop((dutyTok ER (sCell c x) 0 0 ∗ dutyTok ER (rCell (peer x c) x) 0 0 ∗ atPos ER (sCell c x) 0 ∅ 0) ∗ cred (tallyAt (rCell c x) () (amt x)) ∗ atPos ER (rCell c x) 0 ∅ 0)

theorem R0_all : iprop(bigSep Finset.univ (ends (F := F) c) ∗ bigSep Finset.univ fun p : Bk × Fin 8 => R m ρ c (.gb p.1 p.2) (init c (.gb p.1 p.2)))
    ⊢ bigSep Finset.univ (R0 m ρ c) := by
  rw [bigSep_univ_equiv Item.equiv, bigSep_univ_sum, bigSep_univ_sum, bigSep_univ_sum]
  have h2 : (bigSep Finset.univ fun b : Bk × Fin 8 × Fin 8 => R0 m ρ c (Item.equiv (Sum.inr (Sum.inl b)))) = iprop(emp) := bigSep_emp_const _
  rw [h2]
  unfold ends
  rw [bigSep_sep']
  show _ ⊢ iprop((bigSep Finset.univ (fun x => R0 m ρ c (.snd x)) ∗ bigSep Finset.univ fun x => R0 m ρ c (.rcv x)) ∗ emp ∗ bigSep Finset.univ fun p : Bk × Fin 8 => R m ρ c (.gb p.1 p.2) (init c (.gb p.1 p.2)))
  iintro ⟨⟨H1, H2⟩, H3⟩
  isplitl [H1 H2]
  · isplitl [H1]
    · iexact H1
    · iexact H2
  isplitr
  · iempintro
  · iexact H3

/-! ## After the last event -/

theorem last_snd : ∀ (c : Dev nD) (x : Xf), stat c 139 (.snd x) = 2 ∧ stat c 139 (.rcv x) = 1 := by decide +kernel
theorem last_buf : ∀ (c : Dev nD) (p : Bk × Fin 8), stat c 139 (.gb p.1 p.2) = 1 ∨ ∀ l ∈ leaves p.1, stat c 139 (.pc p.1 p.2 l) = 2 := by decide +kernel
theorem last_o : ∀ (c : Dev nD) (s : Fin 8), ∀ l ∈ leaves .o, stat c 139 (.pc .o s l) = 2 := by decide +kernel
theorem leaves_nodup : ∀ k, (leaves k).Nodup := by decide +kernel

/-- What is held of a piece at the end. -/
def fin (c : Dev nD) (p : Bk × Fin 8) : sProp 𝕄 :=
  iprop((bigSep Finset.univ fun l : Fin 8 => R m ρ c (.pc p.1 p.2 l) (stat c 139 (.pc p.1 p.2 l))) ∗ R m ρ c (.gb p.1 p.2) (stat c 139 (.gb p.1 p.2)))

theorem fin_full (p : Bk × Fin 8) (h : ∀ l ∈ leaves p.1, stat c 139 (.pc p.1 p.2 l) = 2) : fin m ρ c p ⊢ pts c p.1 (piece p.1 p.2) fullShare (ct m ρ c p.1) := by
  have hs : (bigSep Finset.univ fun l : Fin 8 => R m ρ c (.pc p.1 p.2 l) (stat c 139 (.pc p.1 p.2 l)))
      ⊢ bigSep (leaves p.1).toFinset fun l : Fin 8 => R m ρ c (.pc p.1 p.2 l) (stat c 139 (.pc p.1 p.2 l)) := bigSep_subset (Finset.subset_univ _)
  have he : (bigSep (leaves p.1).toFinset fun l : Fin 8 => R m ρ c (.pc p.1 p.2 l) (stat c 139 (.pc p.1 p.2 l))) = pts c p.1 (piece p.1 p.2) fullShare (ct m ρ c p.1) := by
    rw [← leaves_piece, bigSep_eq_bigSepL _ (leaves_nodup p.1)]
    unfold allP
    rw [bigSepL_map]
    exact bigSepL_congr _ fun l hl => by rw [h l hl]; rfl
  unfold fin
  rw [← he]
  iintro ⟨H, -⟩
  iapply hs
  iexact H

theorem fin_any (p : Bk × Fin 8) : fin m ρ c p ⊢ gbA (F := F) c p := by
  rcases last_buf c p with h | h
  · unfold fin
    rw [h]
    show iprop(_ ∗ gbA (F := F) c p) ⊢ _
    iintro ⟨-, H⟩
    iexact H
  · iintro H
    ihave H := (fin_full m ρ c p h) $$ H
    unfold gbA
    iexists _
    iexact H

theorem fin_buf (k : Bk) : (bigSep Finset.univ fun s => fin m ρ c (k, s)) ⊢ any (F := F) k c :=
  (bigSep_mono fun s _ => fin_any m ρ c (k, s)).trans (uncut c k)

theorem fin_o : (bigSep Finset.univ fun s => fin m ρ c (.o, s)) ⊢ pts c .o Finset.univ fullShare (ct m ρ c .o) := by
  rw [whole_pieces]
  exact bigSep_mono fun s _ => fin_full m ρ c (.o, s) (last_o c s)

/-- The semaphores of the transfers, all back at zero. -/
def zeros (c : Dev nD) : sProp 𝕄 := bigSep Finset.univ fun x : Xf => iprop(semVal (sCell c x) 0 ∗ semVal (rCell c x) 0)

theorem its_last : Its m ρ c 139 ⊢ iprop(zeros (F := F) c ∗ any (F := F) (.w 0) c ∗ any (F := F) (.w 1) c ∗ any (F := F) (.w 2) c ∗ any (F := F) .q c ∗ any (F := F) .ti c ∗ any (F := F) .am c
    ∗ pts c .o Finset.univ fullShare (ct m ρ c .o)) := by
  unfold Its zeros
  rw [bigSep_univ_equiv Item.equiv, bigSep_univ_sum, bigSep_univ_sum, bigSep_univ_sum]
  have h1 : (bigSep Finset.univ fun x : Xf => R m ρ c (.snd x) (stat c 139 (.snd x))) = bigSep Finset.univ fun x : Xf => semVal (sCell c x) 0 :=
    bigSep_congr fun x _ => by rw [(last_snd c x).1]; rfl
  have h2 : (bigSep Finset.univ fun x : Xf => R m ρ c (.rcv x) (stat c 139 (.rcv x))) = bigSep Finset.univ fun x : Xf => semVal (rCell c x) 0 :=
    bigSep_congr fun x _ => by rw [(last_snd c x).2]; rfl
  have h3 : iprop((bigSep Finset.univ fun b : Bk × Fin 8 × Fin 8 => R m ρ c (.pc b.1 b.2.1 b.2.2) (stat c 139 (.pc b.1 b.2.1 b.2.2)))
      ∗ bigSep Finset.univ fun p : Bk × Fin 8 => R m ρ c (.gb p.1 p.2) (stat c 139 (.gb p.1 p.2))) = bigSep Finset.univ fun k => bigSep Finset.univ fun s => fin m ρ c (k, s) := by
    unfold fin
    rw [bigSep_univ_prod, bigSep_univ_prod (fun p : Bk × Fin 8 => R m ρ c (.gb p.1 p.2) (stat c 139 (.gb p.1 p.2))), ← bigSep_sep']
    refine bigSep_congr fun k _ => ?_
    rw [bigSep_univ_prod, ← bigSep_sep']
  rw [over_bk] at h3
  show iprop((bigSep Finset.univ (fun x : Xf => R m ρ c (.snd x) (stat c 139 (.snd x))) ∗ bigSep Finset.univ fun x : Xf => R m ρ c (.rcv x) (stat c 139 (.rcv x)))
    ∗ (bigSep Finset.univ (fun b : Bk × Fin 8 × Fin 8 => R m ρ c (.pc b.1 b.2.1 b.2.2) (stat c 139 (.pc b.1 b.2.1 b.2.2)))
      ∗ bigSep Finset.univ fun p : Bk × Fin 8 => R m ρ c (.gb p.1 p.2) (stat c 139 (.gb p.1 p.2)))) ⊢ _
  rw [h1, h2, h3, bigSep_sep']
  iintro ⟨⟨Hs, Hr⟩, H0, H1, H2, H3, H4, H5, H6⟩
  isplitl [Hs Hr]
  · isplitl [Hs] <;> iassumption
  isplitl [H0]; · iapply (fin_buf m ρ c (.w 0)); iexact H0
  isplitl [H1]; · iapply (fin_buf m ρ c (.w 1)); iexact H1
  isplitl [H2]; · iapply (fin_buf m ρ c (.w 2)); iexact H2
  isplitl [H3]; · iapply (fin_buf m ρ c .q); iexact H3
  isplitl [H4]; · iapply (fin_buf m ρ c .ti); iexact H4
  isplitl [H5]; · iapply (fin_buf m ρ c .am); iexact H5
  iapply (fin_o m ρ c); iexact H6

end Cert.MeshProof

end
-- ==== Proof.Launch.lean ====
/-
  What the launch deals out: the cells and duty tokens minted, the invariants opened for all devices at
  once, the tokens passed to the devices that pay with them, and the credits each cell is owed.
-/
module

public import proofs.«01_k».proof.Proof.Ends
public import proofs.«01_k».proof.Proof.Gen.KernelIdeal.Launch
public import Idealize.ShloMosaic.Lib.Pipeline.Launch

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-! ## Cells -/

/-- The semaphores of the transfers' ends, scoped to the kernel. -/
abbrev osem : Bool × Xf → SemLoc sig := fun p => csem (some p)

theorem csem_inj : Function.Injective csem := by
  rintro (_ | ⟨_ | _, x⟩) (_ | ⟨_ | _, y⟩) h <;> try rfl
  all_goals first
    | exact absurd h (fun h => by cases h)
    | skip
  all_goals
    have h2 : ∀ a b : DmaSem sig, SemLoc.dma a = (SemLoc.dma b : SemLoc sig) → dec a = dec b := fun a b e => by cases e; rfl
    have h3 := h2 _ _ h
    simp only [dec_sSem, dec_rSem, Option.some.injEq, Prod.mk.injEq, reduceCtorEq, false_and, true_and] at h3
  all_goals first
    | exact h3.elim
    | rw [h3]

theorem stage_dec : ∀ (w : Fin 3) (s : Fin (spec0 w).nbuf), dec ((spec0 w).sem s) = none := by decide +kernel
theorem osem_scoped : ∀ p : Bool × Xf, (osem p).isScoped .tc = true := by
  rintro ⟨_ | _, x⟩
  · revert x; decide +kernel
  · revert x; decide +kernel

theorem ownSemFacts : Pipeline.OwnSemFacts spec0 osem where
  isScoped := osem_scoped
  inj := fun a b h => Option.some_injective _ (csem_inj h)
  disj := by
    rintro ⟨_ | _, x⟩ w s h
    · have h2 : dec (rSem x) = dec ((spec0 w).sem s) := by injection h with h; rw [h]
      rw [dec_rSem, stage_dec] at h2; exact absurd h2 (fun h => by cases h)
    · have h2 : dec (sSem x) = dec ((spec0 w).sem s) := by injection h with h; rw [h]
      rw [dec_sSem, stage_dec] at h2; exact absurd h2 (fun h => by cases h)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨kcell, kcell_inj⟩

/-- A device's tokens as minted: its barrier's, one for each device, and one for each end of each transfer. -/
def tokOf (p : Dev nD × (Dev nD ⊕ Bool × Xf)) : GSem nD τ sig × ℕ × Dev nD := match p.2 with
  | .inl d => (barCell p.1, 0, d)
  | .inr q => (kcell (p.1, some q), 0, 0)
theorem tokOf_inj : Function.Injective tokOf := by
  rintro ⟨c, p⟩ ⟨c', p'⟩ h
  have h1 : c = c' := by
    have := congrArg (fun x : GSem nD τ sig × ℕ × Dev nD => x.1.1.1) h
    rcases p with p | p <;> rcases p' with p' | p' <;> exact this
  subst h1
  have h2 := congrArg (fun x : GSem nD τ sig × ℕ × Dev nD => x.1.2) h
  have h3 := congrArg (fun x : GSem nD τ sig × ℕ × Dev nD => x.2.2) h
  rcases p with p | p <;> rcases p' with p' | p'
  · have : p = p' := h3
    rw [this]
  · exact absurd (csem_inj (a₁ := none) (a₂ := some p') h2) (fun h => by cases h)
  · exact absurd (csem_inj (a₁ := some p) (a₂ := none) h2) (fun h => by cases h)
  · rw [Option.some_injective _ (csem_inj (a₁ := some p) (a₂ := some p') h2)]
def allToks : Finset (GSem nD τ sig × ℕ × Dev nD) := Finset.univ.map ⟨tokOf, tokOf_inj⟩

/-! ## Sums over cells -/

theorem over_opt (Φ : CI → sProp 𝕄) : bigSep Finset.univ Φ = iprop(Φ none ∗ bigSep Finset.univ fun p => Φ (some p)) := by
  have h : (Finset.univ.erase none : Finset CI) = Finset.univ.map Function.Embedding.some := by
    ext k; rcases k with _ | p <;> simp
  rw [bigSep_univ_split none, h, bigSep_map]
  rfl

theorem over_end (Φ : Bool × Xf → sProp 𝕄) :
    bigSep Finset.univ Φ = iprop((bigSep Finset.univ fun x => Φ (true, x)) ∗ bigSep Finset.univ fun x => Φ (false, x)) := by
  rw [bigSep_univ_prod]
  exact bigSep_univ_eq_bigSepL [true, false] (by decide) (by decide) _

/-! ## The tokens -/

/-- The tokens of a device's own cells; those of the duties it pays. -/
def toks (c : Dev nD) : sProp 𝕄 :=
  iprop((bigSep Finset.univ fun d => dutyTok ER (barCell c) 0 d) ∗ (bigSep Finset.univ fun x => dutyTok ER (sCell c x) 0 0) ∗ bigSep Finset.univ fun x => dutyTok ER (rCell c x) 0 0)
def pays (c : Dev nD) : sProp 𝕄 :=
  iprop((bigSep Finset.univ fun d => dutyTok ER (barCell d) 0 c) ∗ (bigSep Finset.univ fun x => dutyTok ER (sCell c x) 0 0) ∗ bigSep Finset.univ fun x => dutyTok ER (rCell (peer x c) x) 0 0)

theorem toks_pays : (bigSep Finset.univ fun c => toks (F := F) c) ⊢ bigSep Finset.univ fun c => pays (F := F) c := by
  unfold toks pays
  rw [bigSep_sep', bigSep_sep', bigSep_sep', bigSep_sep',
    Pipeline.bigSep_univ_comm (fun c d : Dev nD => (dutyTok ER (barCell c) 0 d : sProp 𝕄)),
    Pipeline.bigSep_univ_comm (fun (c : Dev nD) (x : Xf) => (dutyTok ER (rCell c x) 0 0 : sProp 𝕄)),
    Pipeline.bigSep_univ_comm (fun (c : Dev nD) (x : Xf) => (dutyTok ER (rCell (peer x c) x) 0 0 : sProp 𝕄)),
    bigSep_congr (s := Finset.univ) fun (x : Xf) _ => bigSep_univ_equiv (peerEquiv x) (fun c : Dev nD => (dutyTok ER (rCell c x) 0 0 : sProp 𝕄))]
  exact .rfl

/-- What the launch element gives device `c`. -/
def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, over_end]
    rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  rw [bigSep_sep', bigSep_sep', bigSep_congr (s := Finset.univ) fun (c : Dev nD) _ => bigSep_sep' Finset.univ (fun k : CI => (atPos ER (kcell (c, k)) 0 ∅ 0 : sProp 𝕄)) (fun k => reached ER (kcell (c, k)) 0), bigSep_sep']
  isplitl [Hst]; · iexact Hst
  isplitl [Hat Hr]
  · isplitl [Hat] <;> iassumption
  iexact Htok

/-! ## The invariants -/

theorem barrier_unscoped (c : Dev nD) : (unscopedSems0 c : sProp 𝕄) = semVal (barCell c) 0 := by
  unfold unscopedSems0; rw [bigSep_eq_bigSepL_of_eq [SemLoc.reg barS] (by decide +kernel) (by decide)]; rfl

theorem open_core (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ semVal (barCell c) 0)
      ⊢ (bigSep Finset.univ fun k : CI => semVal (kcell (c, k)) 0 : sProp 𝕄) := by
    rw [over_opt]
    unfold Pipeline.ownSems0
    iintro ⟨H1, H2⟩
    isplitl [H2]; · iexact H2
    iexact H1
  have ha : iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  rw [barrier_unscoped]
  iintro ⟨Ho, Hu, Hst, Hat, Htok⟩
  ihave Hv := hv $$ [Ho Hu]
  · isplitl [Ho] <;> iassumption
  imod ha $$ [Hv Hst] with Hi
  · isplitl [Hv] <;> iassumption
  imodintro
  isplitl [Hi]; · iexact Hi
  isplitl [Hat] <;> iassumption

/-- The facts about all cells, and what stays with one device. -/
def recs0 : sProp 𝕄 :=
  iprop((bigSep Finset.univ fun ck : Dev nD × CI => cellInv ER (Rd m ρ) (K ck) (kcell ck))
    ∗ bigSep Finset.univ fun ck : Dev nD × CI => reached ER (kcell ck) 0)
instance recs0_persistent : BI.Persistent (recs0 m ρ K) := by unfold recs0; infer_instance
def lin (c : Dev nD) : sProp 𝕄 := iprop((bigSep Finset.univ fun k : CI => atPos ER (kcell (c, k)) 0 ∅ 0) ∗ pays c)
def G' (c : Dev nD) : sProp 𝕄 := iprop(∃ K, recs0 m ρ K ∗ lin c)

theorem with_each {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

theorem gather :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Ht⟩
  ihave HK := (BI.bigSep_exists_pi Finset.univ (fun (ck : Dev nD × CI) (κ : ℕ) => (cellInv ER (Rd m ρ) κ (kcell ck) : sProp 𝕄))) $$ HI
  icases HK with ⟨%K, #HI⟩
  ihave Ht := (toks_pays (F := F)) $$ Ht
  iapply (with_each (P := recs0 m ρ K) (Φ := lin (F := F)) fun c _ => by
    unfold G'
    iintro ⟨H1, H2⟩
    iexists K
    isplitl [H1] <;> iassumption)
  isplitr
  · unfold recs0; isplitl; · iexact HI
    iexact HR
  · unfold lin
    rw [bigSep_sep']
    isplitl [Hat] <;> iassumption

/-- Every device's semaphores at once. -/
theorem open_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_core m ρ c).trans (bigSep_fupd _ _)).trans (BI.fupd_mono (gather m ρ))

/-! ## The credits -/

/-- What a device owes at launch: the signals and every transfer. -/
def O₀ (c : Dev nD) : CellTallies nD τ sig Unit := ob c [0, 1, 2, 3, 4, 5, 6]

theorem rCell_inj {a b : Dev nD} {x y : Xf} (h : rCell a x = rCell b y) : a = b ∧ x = y := by
  have := kcell_inj (a₁ := (a, some (false, x))) (a₂ := (b, some (false, y))) h
  simpa using this
theorem rCell_bar {a b : Dev nD} {x : Xf} : rCell a x ≠ barCell b := fun h => by
  have := kcell_inj (a₁ := (a, some (false, x))) (a₂ := (b, none)) h
  simp at this
theorem barCell_inj {a b : Dev nD} (h : barCell a = barCell b) : a = b := by
  have := kcell_inj (a₁ := (a, none)) (a₂ := (b, none)) h
  simpa using this

theorem owedL_at (d e : Dev nD) (x : Xf) : ∀ l : List Ev, owedL d l (rCell e x) () = if peer x d = e then l.count (.send x) * amt x else 0
  | [] => by simp [owedL]
  | .send y :: l => by
    have h : owedL d (.send y :: l) = owedL d l + tallyAt (rCell (peer y d) y) () (amt y) := rfl
    rw [h, Pi.add_apply, Finsupp.add_apply, owedL_at d e x l, tallyAt_apply, List.count_cons]
    by_cases hy : y = x
    · subst hy
      by_cases he : peer y d = e
      · subst he
        rw [if_pos rfl, if_pos rfl, if_pos (And.intro rfl rfl), if_pos (beq_self_eq_true _), Nat.add_mul, Nat.one_mul]
      · have hn : ¬ (rCell e y = rCell (peer y d) y ∧ () = ()) := fun h => he (rCell_inj h.1).1.symm
        rw [if_neg he, if_neg hn, if_neg he]
    · have hn : ¬ (rCell e x = rCell (peer y d) y ∧ () = ()) := fun h => hy (rCell_inj h.1).2.symm
      have hb : ¬ (Ev.send y == Ev.send x) = true := fun h => hy (by simpa using h)
      rw [if_neg hn, if_neg hb]
      rfl
  | .own k j :: l => by
    rw [show (.own k j :: l : List Ev).count (.send x) = l.count (.send x) from List.count_cons_of_ne fun h => by cases h]; exact owedL_at d e x l
  | .sw y :: l => by
    rw [show (.sw y :: l : List Ev).count (.send x) = l.count (.send x) from List.count_cons_of_ne fun h => by cases h]; exact owedL_at d e x l
  | .rw y :: l => by
    rw [show (.rw y :: l : List Ev).count (.send x) = l.count (.send x) from List.count_cons_of_ne fun h => by cases h]; exact owedL_at d e x l
  | .mm r i :: l => by
    rw [show (.mm r i :: l : List Ev).count (.send x) = l.count (.send x) from List.count_cons_of_ne fun h => by cases h]; exact owedL_at d e x l

theorem sent_once : ∀ x : Xf, (prog.drop 0).count (.send x) = 1 := by decide +kernel

theorem ob_at (d e : Dev nD) (x : Xf) : ∀ l, ob d l (rCell e x) () = if peer x d = e then amt x else 0
  | [] => by
    show owedL d (prog.drop 0) (rCell e x) () = _
    rw [owedL_at, sent_once, Nat.one_mul]
  | i :: l => by
    have h : ob d (i :: l) = ob d l + tallyAt (barCell (nb i d)) () 1 := rfl
    rw [h, Pi.add_apply, Finsupp.add_apply, ob_at d e x l, tallyAt_apply]
    have hn : ¬ (rCell e x = barCell (nb i d) ∧ () = ()) := fun h => rCell_bar h.1
    rw [if_neg hn]
    rfl

theorem ob_bar (d e : Dev nD) : ∀ l, ob d l (barCell e) () = l.countP fun i => nb i d = e
  | [] => by
    show owedL d (prog.drop 0) (barCell e) () = 0
    by_contra h
    obtain ⟨x, -, hx⟩ := owedL_pos d _ (Nat.pos_of_ne_zero h)
    exact rCell_bar hx.symm
  | i :: l => by
    have h : ob d (i :: l) = ob d l + tallyAt (barCell (nb i d)) () 1 := rfl
    rw [h, Pi.add_apply, Finsupp.add_apply, ob_bar d e l, tallyAt_apply, List.countP_cons]
    by_cases hi : nb i d = e
    · subst hi; simp
    · rw [if_neg fun h => hi (barCell_inj h.1).symm, if_neg (by simpa using hi)]

theorem ob_pos (d : Dev nD) : ∀ (l) {g : GSem nD τ sig} {u : Unit}, 0 < ob d l g u → (∃ e, g = barCell e) ∨ ∃ e x, g = rCell e x
  | [], g, u, h => by
    obtain ⟨x, -, hx⟩ := owedL_pos d _ h
    exact .inr ⟨_, x, hx⟩
  | i :: l, g, u, h => by
    have e : ob d (i :: l) = ob d l + tallyAt (barCell (nb i d)) () 1 := rfl
    rw [e, Pi.add_apply, Finsupp.add_apply, tallyAt_apply] at h
    by_cases hg : g = barCell (nb i d) ∧ u = ()
    · exact .inl ⟨_, hg.1⟩
    · rw [if_neg hg] at h
      exact ob_pos d l h

theorem hears : ∀ e : Dev nD, (∑ d : Dev nD, [0, 1, 2, 3, 4, 5, 6].countP fun i => nb i d = e) = 7 := by decide +kernel

theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, ← hears c]
  exact Finset.sum_congr rfl fun d _ => ob_bar d c _

theorem credit_r (c : Dev nD) (x : Xf) :
    tallyOn (rCell c x) (launchCredit (Pipeline.owing O₀) 0 (rCell c x)) = (tallyAt (rCell c x) () (amt x) : CellTallies nD τ sig Unit) := by
  unfold tallyAt; refine congrArg _ (Finsupp.ext fun u => ?_); cases u
  have h : ∀ d : Dev nD, O₀ d (rCell c x) () = if d = reep x c then amt x else 0 := fun d => by
    unfold O₀
    rw [ob_at]
    by_cases hd : d = reep x c
    · subst hd; rw [peer_reep, if_pos rfl, if_pos rfl]
    · rw [if_neg hd, if_neg fun h => hd (by rw [← h, reep_peer])]
  rw [Pipeline.launchCredit_owing, Finsupp.single_eq_same, Finset.sum_congr rfl fun d _ => h d,
    Finset.sum_ite_eq' Finset.univ (reep x c) fun _ => amt x, if_pos (Finset.mem_univ _)]

theorem credits (c : Dev nD) :
    (Pipeline.launchCred O₀ c : sProp 𝕄) ⊢ iprop(cred (tallyAt (barCell c) () 7) ∗ bigSep Finset.univ fun x => cred (tallyAt (rCell c x) () (amt x))) := by
  have h1 : (Pipeline.launchCred O₀ c : sProp 𝕄) ⊢ bigSep (Finset.univ.map ⟨csem, csem_inj⟩) fun sm : SemLoc sig =>
      cred (tallyOn ((c : Thread nD τ), sm) (launchCredit (Pipeline.owing O₀) 0 ((c : Thread nD τ), sm))) := bigSep_subset (Finset.subset_univ _)
  have h2 : (bigSep (Finset.univ.map ⟨csem, csem_inj⟩) fun sm : SemLoc sig => cred (tallyOn ((c : Thread nD τ), sm) (launchCredit (Pipeline.owing O₀) 0 ((c : Thread nD τ), sm))) : sProp 𝕄)
      = iprop(cred (tallyAt (barCell c) () 7) ∗ (bigSep Finset.univ fun x => cred (tallyOn (sCell c x) (launchCredit (Pipeline.owing O₀) 0 (sCell c x))))
        ∗ bigSep Finset.univ fun x => cred (tallyAt (rCell c x) () (amt x))) := by
    have h3 : (bigSep Finset.univ fun x => cred (tallyAt (rCell c x) () (amt x)) : sProp 𝕄) = bigSep Finset.univ fun x => cred (tallyOn (rCell c x) (launchCredit (Pipeline.owing O₀) 0 (rCell c x))) :=
      bigSep_congr fun x _ => by rw [← credit_r]
    rw [bigSep_map, over_opt, over_end, ← credit_bar, h3]
    rfl
  refine h1.trans ?_
  rw [h2]
  iintro ⟨H1, -, H2⟩
  isplitl [H1] <;> iassumption

/-- A device may wait on a staging semaphore whatever it owes. -/
theorem wait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; dsimp only [lv]; rw [hq]) (fun g u hg => ?_)
    · rcases ob_pos c _ hg with ⟨e, rfl⟩ | ⟨e, x, rfl⟩ <;> exact Finset.mem_singleton_self _
    · rcases ob_pos c _ hg with ⟨e, rfl⟩ | ⟨e, x, rfl⟩
      · exact Nat.one_pos
      · rw [lv_r]; exact Nat.lt_of_succ_lt (rank_pos' x)
  · rw [MayWait_zero]; iintro -; iempintro

end Cert.MeshProof

end
-- ==== Proof.Run.lean ====
/-
  The run: the kernel's body put into its launch on the eight devices.
-/
module

public import proofs.«01_k».proof.Proof.Launch
public import Idealize.ShloMosaic.Lib.Pipeline.CollectiveSegs

@[expose] public section

noncomputable section

namespace Cert.MeshProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-! ## The kernel's one point -/

/-- What a device starts from: the facts about all cells, its places and tokens, its credits, the levels; -/
def start (c : Dev nD) : sProp 𝕄 :=
  iprop(G' m ρ c ∗ (cred (tallyAt (barCell c) () 7) ∗ bigSep Finset.univ fun x => cred (tallyAt (rCell c x) () (amt x))) ∗ levAts L lv)
/-- its scoped buffers, at some contents; -/
def scr (c : Dev nD) : sProp 𝕄 :=
  iprop(any (F := F) (.w 0) c ∗ any (F := F) (.w 1) c ∗ any (F := F) (.w 2) c ∗ xAny c ∗ yAny c ∗ any (F := F) .q c ∗ any (F := F) .ti c ∗ any (F := F) .am c)
/-- before the point and after it. -/
def Φ₀ (c : Dev nD) : sProp 𝕄 := iprop(start m ρ c ∗ scr c)
def Φ₁ (c : Dev nD) : sProp 𝕄 := iprop(scr (F := F) c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => ct m ρ c .o
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetched_x (t : Fin cfg0.N) : (cfg0.win (0 : Fin 3)).fetch t = true := by rw [fin_N0 t]; rfl
theorem fetched_w (t : Fin cfg0.N) : (cfg0.win (1 : Fin 3)).fetch t = true := by rw [fin_N0 t]; rfl

/-- A staging buffer whole, at contents known. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## Into the body and out of it -/

/-- The buffers and the ghost state, dealt. -/
theorem enter (c : Dev nD) :
    iprop((recs0 m ρ K ∗ lin c) ∗ (cred (tallyAt (barCell c) () 7) ∗ bigSep Finset.univ fun x => cred (tallyAt (rCell c x) () (amt x))) ∗ levAts L lv
        ∗ scr c ∗ any (F := F) .o c ∗ (∃ W, owes (c : Thread nD τ) (O₀ c) W)
        ∗ (((c : Thread nD τ).loc cc0_stg0_0) ↦{fullShare} xstg m ρ c) ∗ (((c : Thread nD τ).loc cc0_stg1_0) ↦{fullShare} wstg m ρ c))
      ⊢ Bs m ρ K c (Pb m ρ (xAny c) (yAny c) c) [0, 1, 2, 3, 4, 5, 6] := by
  have hb : iprop(any (F := F) (.w 0) c ∗ any (F := F) (.w 1) c ∗ any (F := F) (.w 2) c ∗ any (F := F) .q c ∗ any (F := F) .ti c ∗ any (F := F) .am c ∗ any (F := F) .o c)
      ⊢ bigSep Finset.univ fun p : Bk × Fin 8 => gbA (F := F) c p := by
    rw [bigSep_univ_prod, ← over_bk fun k => any (F := F) k c]
    exact bigSep_mono fun k _ => any_cut c k
  have ht : (bigSep Finset.univ fun d => (dutyTok ER (barCell d) 0 c : sProp 𝕄)) ⊢ bigSep (Finset.univ.erase c) fun d => dutyTok ER (barCell d) 0 c :=
    bigSep_subset (Finset.erase_subset _ _)
  have hp : (bigSep Finset.univ fun k : CI => (atPos ER (kcell (c, k)) 0 ∅ 0 : sProp 𝕄))
      ⊢ iprop(atPos ER (barCell c) 0 ∅ 0 ∗ (bigSep Finset.univ fun x => atPos ER (sCell c x) 0 ∅ 0) ∗ bigSep Finset.univ fun x => atPos ER (rCell c x) 0 ∅ 0) := by
    rw [over_opt, over_end]
    exact .rfl
  have he : (bigSep Finset.univ (ends (F := F) c))
      = iprop(((bigSep Finset.univ fun x => dutyTok ER (sCell c x) 0 0) ∗ (bigSep Finset.univ fun x => dutyTok ER (rCell (peer x c) x) 0 0) ∗ bigSep Finset.univ fun x => atPos ER (sCell c x) 0 ∅ 0)
        ∗ (bigSep Finset.univ fun x => cred (tallyAt (rCell c x) () (amt x))) ∗ bigSep Finset.univ fun x => atPos ER (rCell c x) 0 ∅ 0) := by
    unfold ends
    rw [bigSep_sep', bigSep_sep', bigSep_sep', bigSep_sep']
  unfold scr Bs Pb records recs0 lin pays
  iintro ⟨⟨⟨#HI, #HR⟩, Hat, Htb, Hts, Htr⟩, ⟨Hcb, Hcr⟩, #Hlev, ⟨H0, H1, H2, Hx, Hy, Hq, Hti, Ham⟩, Ho, HO, Hsx, Hsw⟩
  ihave Hb := hb $$ [H0 H1 H2 Hq Hti Ham Ho]
  · isplitl [H0]; · iexact H0
    isplitl [H1]; · iexact H1
    isplitl [H2]; · iexact H2
    isplitl [Hq]; · iexact Hq
    isplitl [Hti]; · iexact Hti
    isplitl [Ham] <;> iassumption
  ihave Hb := (deal m ρ c) $$ Hb
  icases Hb with ⟨Hgb, Hl⟩
  ihave Hl := (lend c) $$ Hl
  ihave Htb := ht $$ Htb
  ihave Hat := hp $$ Hat
  icases Hat with ⟨Hab, Has, Har⟩
  isplitr
  · isplitl; · iexact HI
    isplitl; · iexact HR
    iexact Hlev
  isplitl [HO]; · iexact HO
  isplitl [Htb Hl]
  · iapply (deal_sgn c)
    isplitl [Htb] <;> iassumption
  isplitl [Hsx]; · iexact Hsx
  isplitl [Hsw]; · iexact Hsw
  isplitl [Hx]; · iexact Hx
  isplitl [Hy]; · iexact Hy
  isplitl [Hcb]; · iexact Hcb
  isplitl [Hab]; · iexact Hab
  iapply (R0_all m ρ c)
  isplitl [Hts Htr Has Hcr Har]
  · rw [he]
    isplitl [Hts Htr Has]
    · isplitl [Hts]; · iexact Hts
      isplitl [Htr] <;> iassumption
    · isplitl [Hcr] <;> iassumption
  · iexact Hgb

/-- What is held after the last event is what the point gives back. -/
theorem leave (c : Dev nD) : St m ρ K c 139
    ⊢ iprop(Φ₁ (F := F) c ∗ (∃ W, owes (c : Thread nD τ) 0 W) ∗ (((c : Thread nD τ).loc cc0_stg0_0) ↦{fullShare} xstg m ρ c)
      ∗ (((c : Thread nD τ).loc cc0_stg1_0) ↦{fullShare} wstg m ρ c) ∗ pts c .o Finset.univ fullShare (ct m ρ c .o)) := by
  unfold St Kn Ow Yn Φ₁ scr
  iintro ⟨-, ⟨Hsx, Hsw, Hx, Hb⟩, HO, Hy, Hi⟩
  ihave Hi := (its_last m ρ c) $$ Hi
  icases Hi with ⟨Hz, H0, H1, H2, Hq, Hti, Ham, Ho⟩
  isplitl [Hz H0 H1 H2 Hq Hti Ham Hb Hx Hy]
  · isplitl [H0 H1 H2 Hq Hti Ham Hx Hy]
    · isplitl [H0]; · iexact H0
      isplitl [H1]; · iexact H1
      isplitl [H2]; · iexact H2
      isplitl [Hx]
      · unfold xAny; iexists _; iexact Hx
      isplitl [Hy]
      · unfold yAny; iexists _; iexact Hy
      isplitl [Hq]; · iexact Hq
      isplitl [Hti] <;> iassumption
    isplitl [Hz] <;> iassumption
  isplitl [HO]; · iexact HO
  isplitl [Hsx]; · iexact Hsx
  isplitl [Hsw]; · iexact Hsw
  iexact Ho

set_option maxRecDepth 20000 in
def pre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def post (c : Dev nD) : sProp 𝕄 :=
  iprop(Φ₁ (F := F) c ∗ (dats m ρ 0 c).owesAt () t0_0.succ ∗ stg c cc0_stg0_0 (xstg m ρ c) ∗ stg c cc0_stg1_0 (wstg m ρ c) ∗ stg c cc0_stg2_0 (ct m ρ c .o))

set_option maxRecDepth 20000 in
theorem pre_enter (c : Dev nD) : pre m ρ c ⊢ iprop(∃ K, Bs m ρ K c (Pb m ρ (xAny c) (yAny c) c) [0, 1, 2, 3, 4, 5, 6]) := by
  unfold pre Φ₀ start G'
  iintro ⟨⟨⟨⟨%K, Hg⟩, Hc, Hlev⟩, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetched_x t0_0)]; rfl
  have hw : g1 = wstg m ρ c := by rw [hg1]; unfold Dat.before; rw [if_pos (fetched_w t0_0)]; rfl
  subst hx
  subst hw
  unfold Dat.owesAt Pipeline.owesWithin
  icases Ho with ⟨%W, %hW, HO⟩
  rw [show (dats m ρ 0 c).owed t0_0.castSucc = O₀ c from rfl]
  iexists K
  iapply (enter m ρ K c)
  isplitl [Hg]; · iexact Hg
  isplitl [Hc]; · iexact Hc
  isplitl [Hlev]; · iexact Hlev
  isplitl [Hscr]; · iexact Hscr
  isplitl [Hout]; · iexists g2; iexact Hout
  isplitl [HO]; · iexists W; iexact HO
  isplitl [Hx] <;> iassumption

set_option maxRecDepth 20000 in
theorem leave_post (c : Dev nD) : St m ρ K c 139 ⊢ post m ρ c := by
  refine (leave m ρ K c).trans ?_
  unfold post Dat.owesAt Pipeline.owesWithin
  rw [show (dats m ρ 0 c).owed t0_0.succ = 0 from rfl]
  iintro ⟨HΦ, ⟨%W, HO⟩, Hx, Hw, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 20000 in
/-- The kernel's body at its one point, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show pre m ρ c ⊢ WP c (app (cc0_body (F := F))) (fun _ => post m ρ c)
  refine (pre_enter m ρ c).trans ?_
  iintro ⟨%K, H⟩
  iapply (show Bs m ρ K c (Pb m ρ (xAny c) (yAny c) c) [0, 1, 2, 3, 4, 5, 6] ⊢ WP c (app (cc0_body (F := F))) (fun _ => post m ρ c) from
    (body m ρ K c).trans (wp_mono _ _ _ fun _ => leave_post m ρ K c))
  iexact H

/-! ## The launch -/

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

theorem point_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem point_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, barrier_unscoped]
  unfold Φ₁ scr zeros Pipeline.ownSems0
  rw [over_end, bigSep_sep']
  iintro ⟨Hr, Hz, Hb⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    wait_stage c _ (stage_dec w s) _ (by
      rcases t with ⟨_ | _, ht⟩
      · exact Or.inl rfl
      · exact Or.inr rfl)

/-- What a window's array holds after the run. -/
def finalA (c : Dev nD) (w : Fin cfg0.W) : Buf (Elt F) ((cfg0.win w).arr.view.loc (c : Thread nD τ)) := (dats m ρ 0 c).arrAt w cfg0.N

set_option maxRecDepth 20000 in
/-- Every weakly fair run of the eight devices ends, with every counter at zero and every array at its final contents. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := point_in m ρ) (hout := point_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are left as they were. -/
theorem final_x (c : Dev nD) : finalA m ρ c (0 : Fin 3) = (s₀ m ρ).mem (win0_0.arr.view.loc (c : Thread nD τ)) :=
  (dats (F := F) m ρ 0 c).arrAt_in (0 : Fin 3) rfl _
theorem final_w (c : Dev nD) : finalA m ρ c (1 : Fin 3) = (s₀ m ρ).mem (win0_1.arr.view.loc (c : Thread nD τ)) :=
  (dats (F := F) m ρ 0 c).arrAt_in (1 : Fin 3) rfl _

end Cert.MeshProof

end
-- ==== Proof.Twin.lean ====
/-
  The printed program and its ideal reading have the same text: a run of the second, at machine floats, is a run of the first.
-/
module

public import proofs.«01_k».proof.Kernel
public import proofs.«01_k».proof.KernelIdeal
public import proofs.«01_k».proof.Proof.Gen.Kernel
public import proofs.«01_k».proof.Proof.Gen.KernelIdeal

@[expose] public section

set_option maxRecDepth 20000

noncomputable section

namespace Cert.Twin

open Idealize.ShloMosaic Idealize.SL.Sem

variable {F : FTy → Type} [FloatOps F]

/-- The kernels' body tables are one, -/
theorem bodies_eq : Cert.Kernel.defs₀ (F := F) = Cert.KernelIdeal.defs₀ (F := F) := by
  funext p l a
  rcases p with _ | _ | _
  · match l, a with
    | 0, (t, s) => rfl
    | ⟨_ + 1, h⟩, _ => exact absurd h (Nat.not_lt.2 (Nat.le_add_left _ _))
  · rfl
  · rfl

/-- so the programs' tables are, -/
theorem tables_eq : Cert.Kernel.defs (F := F) = Cert.KernelIdeal.defs (F := F) :=
  congrArg (Pipeline.defs Cert.KernelIdeal.pcfgs) bodies_eq

/-- and what every run of the one ends in, every run of the other does. -/
theorem run_of (m : (ℓ : Loc Cert.Kernel.nD Cert.Kernel.τ Cert.Kernel.sig) → Buf (Elt F) ℓ) (g : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [tables_eq]
  exact h

end Cert.Twin

end
-- ==== Proof.Accum.lean ====
/-
  The accumulator, read over the extended reals: each of its blocks of columns gathers the three pieces of a whole
  product, one for every W buffer, in whichever order the pieces arrive.
-/
module

public import proofs.«01_k».proof.Proof.Protocol
public import Idealize.ShloMosaic.Lib.MatmulPlain
public import Idealize.ShloMosaic.Lib.ValueIdx
public import Idealize.ShloMosaic.Lib.IdealHost
public import Idealize.ShloMosaic.Lib.Pipeline.Value

@[expose] public section

noncomputable section

namespace Cert.MeshProof

open Cert.KernelIdeal Cert.KernelIdeal.Gen
open Idealize.ShloMosaic Idealize.ShloMosaic.ValueIdx
open Idealize.ShloMosaic.TcCoe
open scoped BigOperators

variable (m : (ℓ : Loc nD τ sig) → Buf (Elt Ideal) ℓ) (ρ : Dev nD → PrngReg)

/-! ## Blocks of columns -/

/-- Column `l` of block `o` of a row of the accumulator, -/
def yix (a : Fin 512) (o : Fin 8) (l : Fin 256) : S512x2048.Idx := ix2 a ⟨256 * o.val + l.val, by omega⟩

theorem yrect_emb (o : Fin 8) (a : Fin 512) (l : Fin 256) : (yrect o).emb (ix2 a l) = yix a o l := by
  funext d
  refine Fin.ext ?_
  match d with
  | ⟨0, _⟩ => show 0 + 1 * a.val = a.val; omega
  | ⟨1, _⟩ => show 256 * o.val + 1 * l.val = 256 * o.val + l.val; omega

theorem yix_mem {o o' : Fin 8} {a : Fin 512} {l : Fin 256} (h : yix a o l ∈ (yrect o').set) : o' = o := by
  have h1 : 256 * o'.val ≤ 256 * o.val + l.val ∧ 256 * o.val + l.val < 256 * o'.val + 256 := Rect.mem_set_unit.mp h 1
  exact Fin.ext (by omega)

/-- and every index is one. -/
theorem yix_eta (i : S512x2048.Idx) : i = yix (i 0) ⟨(i 1).val / 256, by have := idx2_lt1 i; omega⟩ ⟨(i 1).val % 256, Nat.mod_lt _ (by omega)⟩ := by
  funext d
  refine Fin.ext ?_
  match d with
  | ⟨0, _⟩ => rfl
  | ⟨1, _⟩ => show (i 1).val = 256 * ((i 1).val / 256) + (i 1).val % 256; omega

theorem yread (o : Fin 8) (f : (cc0_scratch6 : Ref sig .tc).ty.Contents (Elt Ideal)) (a : Fin 512) (l : Fin 256) :
    yM.view.readAt (Elt Ideal) (yrect o).toLoadRect f (ix2 a l) = f (yix a o l) := by
  rw [← yrect_emb]; rfl

/-! ## One product added -/

/-- The operands' entries. -/
def xs (c : Dev nD) (a : Fin 512) (k : Fin 4096) : EReal := xstg m ρ c (ix2 a k)
def ws (o : Fin 8) (k : Fin 4096) (l : Fin 256) : EReal := wstg m ρ o (ix2 k l)

/-- The terms of one entry of the whole product that W buffer `r` carries. -/
def part (c : Dev nD) (o : Fin 8) (a : Fin 512) (l : Fin 256) (r : Fin 3) : EReal := match r with
  | 0 => ∑ k : Fin 1376, xs m ρ c a ⟨k.val, by omega⟩ * ws m ρ o ⟨k.val, by omega⟩ l
  | 1 => ∑ k : Fin 1360, xs m ρ c a ⟨1376 + k.val, by omega⟩ * ws m ρ o ⟨1376 + k.val, by omega⟩ l
  | 2 => ∑ k : Fin 1360, xs m ρ c a ⟨2736 + k.val, by omega⟩ * ws m ρ o ⟨2736 + k.val, by omega⟩ l

/-- Together they are all its terms. -/
theorem part_sum (c : Dev nD) (o : Fin 8) (a : Fin 512) (l : Fin 256) :
    part m ρ c o a l 0 + part m ρ c o a l 1 + part m ρ c o a l 2 = ∑ k : Fin 4096, xs m ρ c a k * ws m ρ o k l := by
  have h1 := Fin.sum_univ_add (a := 1376) (b := 2720) fun k : Fin 4096 => xs m ρ c a k * ws m ρ o k l
  have h2 := Fin.sum_univ_add (a := 1360) (b := 1360) fun k : Fin 2720 => xs m ρ c a ⟨1376 + k.val, by omega⟩ * ws m ρ o ⟨1376 + k.val, by omega⟩ l
  refine Eq.trans ?_ h1.symm
  rw [add_assoc]
  refine congrArg₂ (· + ·) rfl (Eq.trans ?_ h2.symm)
  refine congrArg₂ (· + ·) rfl (Finset.sum_congr rfl fun k _ => ?_)
  have e : (⟨2736 + k.val, by omega⟩ : Fin 4096) = ⟨1376 + (1360 + k.val), by omega⟩ := Fin.ext (by show 2736 + k.val = 1376 + (1360 + k.val); omega)
  rw [e]; rfl

theorem mmv_apply (c : Dev nD) (r : Fin 3) (s : Fin 8) (y : Vec Ideal S512x256 .f32) (a : Fin 512) (l : Fin 256) :
    mmv m ρ c r s y (ix2 a l) = y (ix2 a l) + part m ρ c (ogd r s) a l r := by
  have x0 : ∀ (a : Fin 512) (k : Fin 4096), xb m ρ c (ix2 a k) = xs m ρ c a k := fun a k => by
    unfold xb k0_pay1 xs; rw [shapeCast_self, shapeCast_self]; rfl
  have z : ∀ v : EReal, Ideal.ofBits .f32 0x00000000#32 + v = v := fun v => by rw [Ideal.ofBits_zero_f32, zero_add]
  fin_cases r
  · show k0_pay6 _ _ y (ix2 a l) = _
    unfold k0_pay6; dsimp only
    rw [shapeCast_self]
    refine congrArg (y (ix2 a l) + ·) ((Ideal.matmul_plain_apply none _ _ _ a l).trans ((z _).trans (Finset.sum_congr rfl fun k _ => ?_)))
    refine congrArg₂ (· * ·) ?_ ?_
    · refine Eq.trans (congrArg (xb m ρ c) ?_) (x0 a _)
      funext d; refine Fin.ext ?_
      match d with
      | ⟨0, _⟩ => show 0 + 1 * a.val = a.val; omega
      | ⟨1, _⟩ => show 0 + 1 * k.val = k.val; omega
    · show k0_pay3 _ (ix2 k l) = _
      unfold k0_pay3 ws; dsimp only; rw [shapeCast_self, shapeCast_self]
      refine congrArg (wstg m ρ _) ?_
      funext d; refine Fin.ext ?_
      match d with
      | ⟨0, _⟩ => show 0 + 1 * k.val = k.val; omega
      | ⟨1, _⟩ => show 0 + 1 * l.val = l.val; omega
  · show k0_pay7 _ _ y (ix2 a l) = _
    unfold k0_pay7; dsimp only
    rw [shapeCast_self]
    refine congrArg (y (ix2 a l) + ·) ((Ideal.matmul_plain_apply none _ _ _ a l).trans ((z _).trans (Finset.sum_congr rfl fun k _ => ?_)))
    refine congrArg₂ (· * ·) ?_ ?_
    · refine Eq.trans (congrArg (xb m ρ c) ?_) (x0 a _)
      funext d; refine Fin.ext ?_
      match d with
      | ⟨0, _⟩ => show 0 + 1 * a.val = a.val; omega
      | ⟨1, _⟩ => show 1376 + 1 * k.val = 1376 + k.val; omega
    · show k0_pay4 _ (ix2 k l) = _
      unfold k0_pay4 ws; dsimp only; rw [shapeCast_self, shapeCast_self]
      refine congrArg (wstg m ρ _) ?_
      funext d; refine Fin.ext ?_
      match d with
      | ⟨0, _⟩ => show 1376 + 1 * k.val = 1376 + k.val; omega
      | ⟨1, _⟩ => show 0 + 1 * l.val = l.val; omega
  · show k0_pay8 _ _ y (ix2 a l) = _
    unfold k0_pay8; dsimp only
    rw [shapeCast_self]
    refine congrArg (y (ix2 a l) + ·) ((Ideal.matmul_plain_apply none _ _ _ a l).trans ((z _).trans (Finset.sum_congr rfl fun k _ => ?_)))
    refine congrArg₂ (· * ·) ?_ ?_
    · refine Eq.trans (congrArg (xb m ρ c) ?_) (x0 a _)
      funext d; refine Fin.ext ?_
      match d with
      | ⟨0, _⟩ => show 0 + 1 * a.val = a.val; omega
      | ⟨1, _⟩ => show 2736 + 1 * k.val = 2736 + k.val; omega
    · show k0_pay5 _ (ix2 k l) = _
      unfold k0_pay5 ws; dsimp only; rw [shapeCast_self, shapeCast_self]
      refine congrArg (wstg m ρ _) ?_
      funext d; refine Fin.ext ?_
      match d with
      | ⟨0, _⟩ => show 2736 + 1 * k.val = 2736 + k.val; omega
      | ⟨1, _⟩ => show 0 + 1 * l.val = l.val; omega

/-! ## All of them -/

/-- The W buffer, if any, whose piece for block `o` an event of device `c` multiplies. -/
def adds (c : Dev nD) (o : Fin 8) (e : Ev) : Option (Fin 3) := match e with
  | .mm r i => if ogd r (slotAt r i c) = o then some r else none
  | _ => none

theorem ystep_apply (c : Dev nD) (f : S512x2048.Idx → EReal) (e : Ev) (o : Fin 8) (a : Fin 512) (l : Fin 256) :
    ystep m ρ c f e (yix a o l) = f (yix a o l) + ((adds c o e).map (part m ρ c o a l)).getD 0 := by
  have none_ : f (yix a o l) = f (yix a o l) + ((none : Option (Fin 3)).map (part m ρ c o a l)).getD 0 := (add_zero (f (yix a o l))).symm
  cases e with
  | mm r i =>
    dsimp only [ystep, adds]
    by_cases h : ogd r (slotAt r i c) = o
    · rw [if_pos h, h, ← yrect_emb o a l]
      refine (View.write_emb_of_mem (v := (yM.access (yrect o) : View sig .tc _ _ _)) (x := ix2 a l) _ _ (Finset.mem_univ _)).trans ?_
      refine (mmv_apply m ρ c r _ _ a l).trans ?_
      rw [yread, h, yrect_emb]; rfl
    · rw [if_neg h]
      refine (View.write_of_not_mem (v := (yM.access (yrect (ogd r (slotAt r i c))) : View sig .tc _ _ _)) _ _ _ fun hm => h ?_).trans none_
      exact yix_mem (by rw [← Rect.map_emb_univ]; exact hm)
  | own k j => exact none_
  | send x => exact none_
  | sw x => exact none_
  | rw x => exact none_

theorem fold_apply (c : Dev nD) (o : Fin 8) (a : Fin 512) (l : Fin 256) : ∀ (p : List Ev) (f : S512x2048.Idx → EReal),
    p.foldl (ystep m ρ c) f (yix a o l) = f (yix a o l) + ((p.filterMap (adds c o)).map (part m ρ c o a l)).sum
  | [], f => (add_zero (f (yix a o l))).symm
  | e :: p, f => by
    rw [List.foldl_cons, fold_apply c o a l p, ystep_apply, List.filterMap_cons]
    rcases adds c o e with _ | r
    · exact congrArg (· + _) (add_zero (f (yix a o l)))
    · rw [List.map_cons, List.sum_cons, ← add_assoc]; rfl

/-- Every device multiplies, for every block, the piece of each W buffer once. -/
theorem adds_all : ∀ (c : Dev nD) (o : Fin 8), (prog.filterMap (adds c o)).Perm [0, 1, 2] := by decide +kernel

/-- So the accumulator ends as the product of the device's rows of `x` with all of W. -/
theorem yF_apply (c : Dev nD) (o : Fin 8) (a : Fin 512) (l : Fin 256) :
    yF m ρ c (yix a o l) = ∑ k : Fin 4096, xs m ρ c a k * ws m ρ o k l := by
  unfold yF
  rw [fold_apply, ((adds_all c o).map _).sum_eq, ← part_sum]
  have z : k0_pay2 (F := Ideal) (yix a o l) = (0 : EReal) := by
    unfold k0_pay2; rw [shapeCast_self]; exact Ideal.ofBits_zero_f32
  rw [z, zero_add, List.map_cons, List.map_cons, List.map_cons, List.map_nil, List.sum_cons, List.sum_cons, List.sum_cons, List.sum_nil, add_zero, add_assoc]

end Cert.MeshProof

end
-- ==== Proof.Quant.lean ====
/-
  Quantising over the extended reals: what the kernel does to an entry of the product and what the reference does to it
  is the same value, whatever the largest magnitude is.
-/
module

public import proofs.«01_k».proof.Proof.Protocol
public import Idealize.ShloMosaic.PureOps.Ideal.Laws

@[expose] public section

noncomputable section

namespace Cert.MeshProof

open Idealize.ShloMosaic

/-- The printed constants. -/
theorem word_p : Ideal.ofBits .f32 0x42FE0000#32 = ((127 : ℝ) : EReal) := by
  simp [Ideal.ofBits, Ideal.ieee, -EReal.coe_mul]; norm_num
theorem word_n : Ideal.ofBits .f32 0xC2FE0000#32 = ((-127 : ℝ) : EReal) := by
  simp [Ideal.ofBits, Ideal.ieee, -EReal.coe_mul]; norm_num
theorem word_bot : Ideal.ofBits .f32 0xFF800000#32 = ⊥ := by
  simp [Ideal.ofBits, Ideal.ieee]

/-- Rounded and clipped. -/
def clip (v : EReal) : EReal := min ((127 : ℝ) : EReal) (max ((-127 : ℝ) : EReal) (Ideal.liftRound Ideal.roundHalfEven v))

/-- A clipped value is a small integer, -/
theorem clip_int (v : EReal) : ∃ n : ℤ, -127 ≤ n ∧ n ≤ 127 ∧ clip v = ((n : ℝ) : EReal) := by
  unfold clip
  induction v using EReal.rec with
  | bot =>
    refine ⟨-127, le_refl _, by omega, ?_⟩
    show min _ (max _ (⊥ : EReal)) = _
    rw [max_eq_left bot_le, ← EReal.coe_strictMono.monotone.map_min]
    norm_num
  | top =>
    refine ⟨127, by omega, le_refl _, ?_⟩
    show min _ (max _ (⊤ : EReal)) = _
    rw [max_eq_right le_top, min_eq_left le_top]
    norm_num
  | coe r =>
    refine ⟨min 127 (max (-127) (Ideal.roundHalfEven r)), by omega, by omega, ?_⟩
    show min _ (max _ (((Ideal.roundHalfEven r : ℝ)) : EReal)) = _
    rw [← EReal.coe_strictMono.monotone.map_max, ← EReal.coe_strictMono.monotone.map_min]
    norm_num

/-- so eight bits carry it whole. -/
theorem clip_carried (v : EReal) : (((Ideal.fptosi 8 (clip v)).toInt : ℝ) : EReal) = clip v := by
  obtain ⟨n, h1, h2, e⟩ := clip_int v
  rw [e]
  have h : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [Int.floor_intCast, Int.ceil_intCast, ite_self]
    norm_num
    omega
  unfold Ideal.fptosi
  rw [h, BitVec.toInt_ofInt]
  have hb : n.bmod (2 ^ 8) = n := by
    norm_num [Int.bmod]
    omega
  rw [hb]

/-- Scaling by `127 / g` and dividing by `g / 127` quantise alike. -/
theorem quant_eq (y g : EReal) (h : max y (-y) ≤ g) :
    clip (y * Ideal.div ((127 : ℝ) : EReal) g) * Ideal.div g ((127 : ℝ) : EReal)
      = clip (Ideal.div y (Ideal.div g ((127 : ℝ) : EReal))) * Ideal.div g ((127 : ℝ) : EReal) := by
  have h0 : (0 : EReal) ≤ g := by
    refine le_trans ?_ h
    rcases le_total 0 y with hy | hy
    · exact le_trans hy (le_max_left _ _)
    · exact le_trans (EReal.neg_nonneg.mpr hy) (le_max_right _ _)
  have n0 : ((127 : ℝ) : EReal) ≠ 0 := by
    intro e; have := EReal.coe_eq_zero.mp e; norm_num at this
  have ed : Ideal.div g ((127 : ℝ) : EReal) = g * ((127⁻¹ : ℝ) : EReal) := by
    unfold Ideal.div; rw [if_neg n0, ← EReal.coe_inv]
  rcases eq_or_ne g 0 with e | hne
  · have z : Ideal.div g ((127 : ℝ) : EReal) = 0 := by rw [ed, e, zero_mul]
    rw [z, mul_zero, mul_zero]
  · induction g using EReal.rec with
    | bot => exact absurd h0 (by simp)
    | top =>
      have t : Ideal.div ⊤ ((127 : ℝ) : EReal) = ⊤ := by rw [ed]; exact EReal.top_mul_coe_of_pos (by norm_num)
      rw [t]
      unfold Ideal.div
      rw [if_neg (by simp), if_neg (by simp), EReal.inv_top, mul_zero, mul_zero]
    | coe r =>
      have hr : r ≠ 0 := fun e => hne (by rw [e]; rfl)
      rw [ed, ← EReal.coe_mul]
      have hq : ((r * 127⁻¹ : ℝ) : EReal) ≠ 0 := by
        intro e; have := EReal.coe_eq_zero.mp e
        exact hr ((mul_eq_zero.mp this).resolve_right (by norm_num))
      have e2 : ((127 : ℝ) : EReal) * ((r : ℝ) : EReal)⁻¹ = (((r * 127⁻¹ : ℝ)) : EReal)⁻¹ := by
        rw [← EReal.coe_inv, ← EReal.coe_inv, ← EReal.coe_mul, mul_inv, inv_inv, mul_comm]
      unfold Ideal.div
      rw [if_neg hne, if_neg hq, e2]

end Cert.MeshProof

end
-- ==== Proof.Top.lean ====
/-
  The largest magnitude: the number every device reads off its table of row maxima is the least bound on the
  magnitudes of all eight devices' products.
-/
module

public import proofs.«01_k».proof.Proof.Accum
public import proofs.«01_k».proof.Proof.Quant
public import Idealize.ShloMosaic.PureOps.Reduce

@[expose] public section

noncomputable section

namespace Cert.MeshProof

open Cert.KernelIdeal Cert.KernelIdeal.Gen
open Idealize.ShloMosaic Idealize.ShloMosaic.ValueIdx
open Idealize.ShloMosaic.TcCoe

/-- A maximum over every axis, from the bottom, is bounded by what bounds every entry. -/
theorem mr_le {s t : Shape} {axes : List (Fin s.rank)} (x : FVec Ideal s .f32) (h : s.Reduces axes t) (ht : ∀ i j : t.Idx, i = j)
    (hφ : FKind.Formats .f32) (hacc : (0xFF800000#32 : BitVec 32) = FKind.maximumf.neutral .f32 hφ) (j : t.Idx) (b : EReal) :
    (multiReduction .maximumf axes t x 0xFF800000#32 h hφ hacc j : EReal) ≤ b ↔ ∀ i, (x i : EReal) ≤ b := by
  rw [multiReduction_maximumf_eq_fold x _ h hφ hacc j]
  refine Iff.trans (Finset.fold_max_le (β := EReal) (b := Ideal.ofBits .f32 0xFF800000#32) (f := x) b) ?_
  rw [word_bot]
  exact ⟨fun hh i => hh.2 i (Finset.mem_filter.mpr ⟨Finset.mem_univ _, ht _ _⟩), fun hh => ⟨bot_le, fun i _ => hh i⟩⟩

/-- The same of the host's. -/
theorem hr_le {s t u : Shape} {axes : List (Fin s.rank)} (x : FVec Ideal s .f32) (h : s.ReducesTo axes t) (hu : 0 < u.numel) (ht : ∀ i j : t.Idx, i = j)
    (j : t.Idx) (b : EReal) :
    (Host.reduce (FloatOps.maximumf (F := Ideal) (φ := .f32)) x (constant (F := Ideal) u .f32 0xFF800000#32) h hu j : EReal) ≤ b ↔ ∀ i, (x i : EReal) ≤ b := by
  rw [Host.reduce_eq_fold]
  refine Iff.trans (Finset.fold_max_le (β := EReal) (b := Ideal.ofBits .f32 0xFF800000#32) (f := x) b) ?_
  rw [word_bot]
  exact ⟨fun hh i => hh.2 i (Finset.mem_filter.mpr ⟨Finset.mem_univ _, ht _ _⟩), fun hh => ⟨bot_le, fun i _ => hh i⟩⟩

/-- Casting a vector to another shape keeps its bounds. -/
theorem cast_le {s t : Shape} (x : s.Idx → EReal) (h : s.ShapeCasts t) (b : EReal) : (∀ i, shapeCast t x h i ≤ b) ↔ ∀ i, x i ≤ b :=
  ⟨fun hh i => by have := hh ((Shape.reshapeEquiv h).symm i); unfold shapeCast at this; rwa [Equiv.apply_symm_apply] at this,
    fun hh i => hh _⟩

theorem one1 (i j : S1.Idx) : i = j := funext fun a => Fin.ext (by
  have hi := (i a).isLt
  have hj := (j a).isLt
  have e : S1.size a = 1 := by fin_cases a; rfl
  omega)

/-- A maximum taken out of a cast of one entry. -/
theorem taken_le {s t u : Shape} {axes : List (Fin s.rank)} (x : FVec Ideal s .f32) (h : s.Reduces axes t) (ht : ∀ i j : t.Idx, i = j)
    (hφ : FKind.Formats .f32) (hacc : (0xFF800000#32 : BitVec 32) = FKind.maximumf.neutral .f32 hφ) (hc : t.ShapeCasts u) (p : Fin u.rank → Nat)
    (hp : ∀ a, p a < u.size a) (b : EReal) :
    (extractAt p (shapeCast u (multiReduction .maximumf axes t x 0xFF800000#32 h hφ hacc) hc) hp : EReal) ≤ b ↔ ∀ i, (x i : EReal) ≤ b :=
  mr_le x h ht hφ hacc _ b

variable (m : (ℓ : Loc nD τ sig) → Buf (Elt Ideal) ℓ) (ρ : Dev nD → PrngReg)

/-- Magnitudes, and a device's product. -/
def mag (v : EReal) : EReal := max v (-v)
theorem absf_mag {s : Shape} (v : FVec Ideal s .f32) : absf v = fun i => mag (v i) := rfl
def yv (d : Dev nD) : S512x2048.Idx → EReal := yF m ρ d

theorem row_flat (y : FVec Ideal S512x2048 .f32) : k0_pay36 (F := Ideal) (k0_pay35 y) = k0_pay35 y := by
  unfold k0_pay36
  rw [shapeCast_self]

theorem pay35_apply (y : FVec Ideal S512x2048 .f32) (j : S1x1x128.Idx) : k0_pay35 (F := Ideal) y j =
    extractAt ![0, 0, 0] (shapeCast S1x1x1 (multiReduction (F := Ideal) .maximumf [1, 2] S1 (shapeCast S1x512x2048 (absf y) shapeCasts_S512x2048_S1x512x2048)
      0xFF800000#32 reduces_S1x512x2048_S1 (.inl rfl) rfl) shapeCasts_S1_S1x1x1) inpos_S1x1x1_p0_0_0 := by
  have e : k0_pay35 (F := Ideal) y = broadcast S1x1x128 (extractAt ![0, 0, 0] (shapeCast S1x1x1 (multiReduction (F := Ideal) .maximumf [1, 2] S1 (shapeCast S1x512x2048 (absf y) shapeCasts_S512x2048_S1x512x2048)
      0xFF800000#32 reduces_S1x512x2048_S1 (.inl rfl) rfl) shapeCasts_S1_S1x1x1) inpos_S1x1x1_p0_0_0) := by
    unfold k0_pay35; rfl
  rw [e, broadcast_apply]

/-- a device's own largest magnitude, in every lane, -/
theorem amrow_le (d : Dev nD) (j : S1x1x128.Idx) (b : EReal) :
    (amrow m ρ d j : EReal) ≤ b ↔ ∀ i : S512x2048.Idx, mag (yv m ρ d i) ≤ b := by
  have e : amrow m ρ d j = k0_pay35 (F := Ideal) (yv m ρ d) j := congrFun (row_flat (yv m ρ d)) j
  rw [e, pay35_apply, absf_mag]
  exact (taken_le _ _ one1 _ _ _ _ _ b).trans (cast_le _ _ b)

/-- and everyone's. -/
def top : EReal := k0_pay37 (F := Ideal) (tbl m ρ)

def tb : S8x1x128.Idx → EReal := tbl m ρ

theorem tb_at (d : Dev nD) (j : (prect .am d).shape.Idx) : tb m ρ ((prect .am d).emb j) = amrow m ρ d j := cont_emb .am (vec m ρ d .am) d j

theorem tb_le (b : EReal) : (∀ i, tb m ρ i ≤ b) ↔ ∀ (d : Dev nD) (i : S512x2048.Idx), mag (yv m ρ d i) ≤ b := by
  constructor
  · intro h d
    have h0 : ∀ a, 0 < psz .am a := by decide +kernel
    have h1 := h ((prect .am d).emb fun a => ⟨0, h0 a⟩)
    rw [tb_at] at h1
    exact (amrow_le m ρ d _ b).mp h1
  · intro h i
    have e : tb m ρ i = amrow m ρ (slotOf .am i) (within .am i) := rfl
    rw [e]
    exact (amrow_le m ρ _ _ b).mpr (h _)

theorem top_le (b : EReal) : top m ρ ≤ b ↔ ∀ (d : Dev nD) (i : S512x2048.Idx), mag (yv m ρ d i) ≤ b := by
  have e : top m ρ = extractAt ![0, 0, 0, 0] (shapeCast S1x1x1x1 (multiReduction (F := Ideal) .maximumf [1, 2, 3] S1 (shapeCast S1x8x1x128 (tb m ρ) shapeCasts_S8x1x128_S1x8x1x128)
      0xFF800000#32 reduces_S1x8x1x128_S1 (.inl rfl) rfl) shapeCasts_S1_S1x1x1x1) inpos_S1x1x1x1_p0_0_0_0 := by
    unfold top k0_pay37; rfl
  rw [e]
  exact (taken_le _ _ one1 _ _ _ _ _ b).trans ((cast_le _ _ b).trans (tb_le m ρ b))

end Cert.MeshProof

end
-- ==== Proof.Ref.lean ====
/-
  The reference's result, entry by entry: the whole product, quantised against its largest magnitude.
-/
module

public import proofs.«01_k».proof.Proof.Top
public import proofs.«01_k».proof.Proof.Gen.ReferenceIdeal
public import proofs.«01_k».proof.Proof.Gen.ReferenceIdeal.Run
public import Idealize.ShloMosaic.Lib.StackMember

@[expose] public section

noncomputable section

namespace Cert.MeshProof

open Cert.ReferenceIdeal Cert.ReferenceIdeal.Gen
open Idealize.ShloMosaic Idealize.ShloMosaic.ValueIdx
open Idealize.ShloMosaic.TcCoe
open scoped BigOperators

variable (X : FVec Ideal Cert.ReferenceIdeal.S4096x4096 .f32) (W : FVec Ideal Cert.ReferenceIdeal.S4096x2048 .f32)
  (D : FVec Ideal Cert.ReferenceIdeal.S4096x2048 .f32)

/-- The whole product, -/
def prod : FVec Ideal S4096x2048 .f32 := Host.dotGeneral dot_S4096x4096_S4096x2048_S4096x2048_1_0_0_1_n_n none X W

theorem prod_apply (i : Fin 4096) (j : Fin 2048) : (prod X W (ix2 i j) : EReal) = ∑ k : Fin 4096, (X (ix2 i k) : EReal) * W (ix2 k j) :=
  StackMember.dotGeneral_plain_apply (m := 4096) (n := 2048) (k := 4096) none X W i j

/-- its largest magnitude, -/
def peakV : FVec Ideal S_ .f32 := Host.reduce FloatOps.maximumf (Host.absf D) (constant S_ .f32 0xFF800000#32) reducesTo_S4096x2048_S_d0_1 h_S_
def peak : EReal := peakV D ix0

theorem one0 (i j : S_.Idx) : i = j := funext fun a => a.elim0

theorem habsf_mag {s : Shape} (v : FVec Ideal s .f32) : Host.absf v = fun i => mag (v i) := rfl

theorem peak_le (b : EReal) : peak D ≤ b ↔ ∀ i, mag (D i) ≤ b := by
  unfold peak peakV
  rw [habsf_mag]
  exact hr_le (fun i => mag (D i)) reducesTo_S4096x2048_S_d0_1 h_S_ one0 ix0 b

/-- the scale, and the result. -/
def scaleV : FVec Ideal S_ .f32 := Host.divf (peakV D) (constant S_ .f32 0x42FE0000#32)

theorem scale_apply : (scaleV D ix0 : EReal) = Ideal.div (peak D) ((127 : ℝ) : EReal) := by
  rw [← word_p]; rfl

def res : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf D (broadcastInDim S4096x2048 ![] bcast_S_S4096x2048 (scaleV D))))))
    (broadcastInDim S4096x2048 ![] bcast_S_S4096x2048 (scaleV D))

theorem res_apply (i : S4096x2048.Idx) :
    (res D i : EReal) = clip (Ideal.div (D i) (Ideal.div (peak D) ((127 : ℝ) : EReal))) * Ideal.div (peak D) ((127 : ℝ) : EReal) := by
  have sc : ∀ v : FVec Ideal S_ .f32, broadcastInDim S4096x2048 ![] bcast_S_S4096x2048 v i = v ix0 := fun v => broadcastInDim_scalar_apply _ v i
  unfold res
  rw [← scale_apply, mulf_apply, minimumf_apply, maximumf_apply, sc, sc, sc]
  unfold clip
  rw [← word_p, ← word_n, ← sc (scaleV D)]
  rfl

end Cert.MeshProof

end
-- ==== Proof.Whole.lean ====
/-
  The launch's arrays whole: a device's operands are what its memory holds, and its result is what the run left in
  the result's staging buffer.
-/
module

public import proofs.«01_k».proof.Proof.Run
public import Idealize.ShloMosaic.Lib.Pipeline.Value

@[expose] public section

noncomputable section

namespace Cert.MeshProof

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg) (c : Dev nD)

/-- Each window's one block is its array. -/
theorem emb_x (y : S512x4096.Idx) : (win0_0.blk (0 : Fin 1)).view.emb y = y :=
  funext fun a => Fin.ext (Pipeline.Window.rect_emb_val_of_index_zero win0_0 (0 : Fin 1) a rfl y)
theorem emb_w (y : S4096x256.Idx) : (win0_1.blk (0 : Fin 1)).view.emb y = y :=
  funext fun a => Fin.ext (Pipeline.Window.rect_emb_val_of_index_zero win0_1 (0 : Fin 1) a rfl y)
theorem emb_o (y : S4096x256.Idx) : (win0_2.blk (0 : Fin 1)).view.emb y = y :=
  funext fun a => Fin.ext (Pipeline.Window.rect_emb_val_of_index_zero win0_2 (0 : Fin 1) a rfl y)

theorem xstg_eq : xstg m ρ c = m ((c : Thread nD τ).loc main_arg0) :=
  funext fun i => congrArg (m ((c : Thread nD τ).loc main_arg0)) (emb_x i)
theorem wstg_eq : wstg m ρ c = m ((c : Thread nD τ).loc main_arg1) :=
  funext fun i => congrArg (m ((c : Thread nD τ).loc main_arg1)) (emb_w i)

/-- The result. -/
theorem final_o : finalA m ρ c (2 : Fin 3) = ct m ρ c .o :=
  (dats (F := F) m ρ 0 c).arrAt_eq_of_cover (2 : Fin 3) (ct m ρ c .o)
    (fun t _ => by
      rw [fin_N0 t]
      exact funext fun y => (congrArg (ct m ρ c .o) (emb_o y)).symm)
    (fun i => ⟨(0 : Fin 1), rfl, by
      have h := (win0_2.blk (0 : Fin 1)).view.emb_mem_set i
      rw [emb_o] at h; exact h⟩)

end Cert.MeshProof

end
-- ==== Proof.Result.lean ====
/-
  The kernel's result: every device ends with its block of columns of the reference's.
-/
module

public import proofs.«01_k».proof.Proof.Top
public import proofs.«01_k».proof.Proof.Ref
public import proofs.«01_k».proof.Proof.Whole
public import Idealize.ShloMosaic.Lib.Layout

@[expose] public section

noncomputable section

namespace Cert.MeshProof

open Cert.KernelIdeal Cert.KernelIdeal.Gen
open Idealize.ShloMosaic Idealize.ShloMosaic.ValueIdx
open Idealize.ShloMosaic.TcCoe
open scoped BigOperators

/-! ## What the last operations compute -/

theorem pay40_apply (t : Vec Ideal S8x1x128 .f32) (y : FVec Ideal S512x256 .f32) (j : S512x256.Idx) :
    k0_pay40 (F := Ideal) t y j = Ideal.fptosi 8 (clip ((y j : EReal) * k0_pay39 (F := Ideal) t)) := by
  unfold k0_pay40
  rw [shapeCast_self]
  unfold clip
  rw [← word_p, ← word_n]
  rfl

theorem pay47_apply (s v : EReal) (y : FVec Ideal S512x256 .f32) (j : S512x256.Idx) :
    (k0_pay47 (F := Ideal) s v y j : EReal) = clip ((y j : EReal) * v) * s := by
  unfold k0_pay47 clip
  rw [← word_p, ← word_n]
  rfl

theorem pay48_apply (s : EReal) (q : Vec Ideal S512x256 .i8) (j : S512x256.Idx) :
    (k0_pay48 (F := Ideal) s q j : EReal) = (((q j : BitVec 8).toInt : ℝ) : EReal) * s := by
  unfold k0_pay48
  rfl

theorem pay38_div (t : Vec Ideal S8x1x128 .f32) : (k0_pay38 (F := Ideal) t : EReal) = Ideal.div (k0_pay37 (F := Ideal) t) ((127 : ℝ) : EReal) := by
  unfold k0_pay38; rw [← word_p]; rfl
theorem pay39_div (t : Vec Ideal S8x1x128 .f32) : (k0_pay39 (F := Ideal) t : EReal) = Ideal.div ((127 : ℝ) : EReal) (k0_pay37 (F := Ideal) t) := by
  unfold k0_pay39; generalize k0_pay37 (F := Ideal) t = g; rw [← word_p]; rfl

variable (m : (ℓ : Loc nD τ sig) → Buf (Elt Ideal) ℓ) (ρ : Dev nD → PrngReg)

theorem pay38_eq : (k0_pay38 (F := Ideal) (tbl m ρ) : EReal) = Ideal.div (top m ρ) ((127 : ℝ) : EReal) := pay38_div (tbl m ρ)
theorem pay39_eq : (k0_pay39 (F := Ideal) (tbl m ρ) : EReal) = Ideal.div ((127 : ℝ) : EReal) (top m ρ) := pay39_div (tbl m ρ)

theorem qv_apply (d : Dev nD) (c : Fin 8) (j : S512x256.Idx) :
    qv m ρ d c j = Ideal.fptosi 8 (clip ((yblk m ρ d c j : EReal) * k0_pay39 (F := Ideal) (tbl m ρ))) := pay40_apply (tbl m ρ) (yblk m ρ d c) j

/-- A piece of a device's result, kept or received. -/
theorem ov_apply (c : Dev nD) (d : Fin 8) (a : Fin 512) (l : Fin 256) :
    (ov m ρ c d (ix2 a l) : EReal)
      = clip (yv m ρ d (yix a c l) * Ideal.div ((127 : ℝ) : EReal) (top m ρ)) * Ideal.div (top m ρ) ((127 : ℝ) : EReal) := by
  have yb : ∀ d : Fin 8, yblk m ρ d c (ix2 a l) = yv m ρ d (yix a c l) := fun d => yread c (yF m ρ d) a l
  unfold ov
  split
  · rename_i h
    rw [pay47_apply, pay38_eq, pay39_eq, yb, h]
  · rw [pay48_apply, pay38_eq]
    rw [qv_apply, clip_carried, pay39_eq, yb]

/-! ## Against the reference -/

variable (X : FVec Ideal Cert.ReferenceIdeal.S4096x4096 .f32) (W : FVec Ideal Cert.ReferenceIdeal.S4096x2048 .f32)

/-- Entry `(a, l)` of block `(d, o)` of the whole product's shape. -/
def wix (d : Fin 8) (a : Fin 512) (o : Fin 8) (l : Fin 256) : Cert.ReferenceIdeal.S4096x2048.Idx :=
  ix2 ⟨d.val * 512 + a.val, by omega⟩ ⟨o.val * 256 + l.val, by omega⟩

theorem wix_eta (i : Cert.ReferenceIdeal.S4096x2048.Idx) : ∃ d a o l, i = wix d a o l := by
  have h0 := idx2_lt0 i
  have h1 := idx2_lt1 i
  refine ⟨⟨(i 0).val / 512, by omega⟩, ⟨(i 0).val % 512, Nat.mod_lt _ (by omega)⟩, ⟨(i 1).val / 256, by omega⟩, ⟨(i 1).val % 256, Nat.mod_lt _ (by omega)⟩, ?_⟩
  funext x
  refine Fin.ext ?_
  match x with
  | ⟨0, _⟩ => show (i 0).val = (i 0).val / 512 * 512 + (i 0).val % 512; omega
  | ⟨1, _⟩ => show (i 1).val = (i 1).val / 256 * 256 + (i 1).val % 256; omega

/-- The devices hold their blocks of the operands. -/
def Laid : Prop := ∀ c : Dev nD,
  m ((c.tc : Thread nD τ).loc main_arg0) = Layout.block ⟨2, ![512, 4096]⟩ ⟨2, ![4096, 4096]⟩ 0 8 c X
  ∧ m ((c.tc : Thread nD τ).loc main_arg1) = Layout.block ⟨2, ![4096, 256]⟩ ⟨2, ![4096, 2048]⟩ 1 8 c W

variable {m X W}

/-- Then their products are the whole product's blocks of rows, -/
theorem yv_eq (h : Laid m X W) (d : Dev nD) (a : Fin 512) (o : Fin 8) (l : Fin 256) : yv m ρ d (yix a o l) = prod X W (wix d a o l) := by
  unfold wix
  have e : yv m ρ d (yix a o l) = ∑ k : Fin 4096, xs m ρ d a k * ws m ρ o k l := yF_apply m ρ d o a l
  rw [prod_apply, e]
  refine Finset.sum_congr rfl fun k _ => ?_
  unfold xs ws
  rw [xstg_eq, wstg_eq, (h d).1, (h o).2, Layout.block_apply, Layout.block_apply]
  refine congrArg₂ (· * ·) (congrArg X ?_) (congrArg W ?_)
  · funext x; refine Fin.ext ?_
    match x with
    | ⟨0, _⟩ => rfl
    | ⟨1, _⟩ => rfl
  · funext x; refine Fin.ext ?_
    match x with
    | ⟨0, _⟩ => rfl
    | ⟨1, _⟩ => rfl

/-- their largest magnitude is its, -/
theorem top_eq (h : Laid m X W) : top m ρ = peak (prod X W) := by
  refine eq_of_forall_ge_iff fun b => ?_
  rw [top_le, peak_le]
  constructor
  · intro hb i
    obtain ⟨d, a, o, l, rfl⟩ := wix_eta i
    have := hb d (yix a o l)
    rwa [yv_eq ρ h] at this
  · intro hb d i
    obtain ⟨a, o, l, rfl⟩ : ∃ a o l, i = yix a o l := ⟨_, _, _, yix_eta i⟩
    rw [yv_eq ρ h]
    exact hb _

/-- and every entry of a device's result is the reference's. -/
theorem ov_eq (h : Laid m X W) (c : Dev nD) (d : Fin 8) (a : Fin 512) (l : Fin 256) :
    (ov m ρ c d (ix2 a l) : EReal) = res (prod X W) (wix d a c l) := by
  rw [ov_apply, res_apply, yv_eq ρ h, top_eq ρ h]
  exact quant_eq _ _ ((peak_le _ _).mp le_rfl _)

theorem prect_o_emb (d : Fin 8) (a : Fin 512) (l : Fin 256) :
    (prect .o d).emb (ix2 a l : S512x256.Idx) = (ix2 ⟨d.val * 512 + a.val, by omega⟩ l : S4096x256.Idx) := by
  funext x
  refine Fin.ext ?_
  match x with
  | ⟨0, _⟩ => show 512 * d.val + 1 * a.val = d.val * 512 + a.val; omega
  | ⟨1, _⟩ => show 0 + 1 * l.val = l.val; omega

theorem oix_eta (i : S4096x256.Idx) : ∃ (d : Fin 8) (a : Fin 512) (l : Fin 256), i = (ix2 ⟨d.val * 512 + a.val, by omega⟩ l : S4096x256.Idx) := by
  have h0 := idx2_lt0 i
  refine ⟨⟨(i 0).val / 512, by omega⟩, ⟨(i 0).val % 512, Nat.mod_lt _ (by omega)⟩, ⟨(i 1).val, idx2_lt1 i⟩, ?_⟩
  funext x
  refine Fin.ext ?_
  match x with
  | ⟨0, _⟩ => show (i 0).val = (i 0).val / 512 * 512 + (i 0).val % 512; omega
  | ⟨1, _⟩ => rfl

theorem result (h : Laid m X W) (c : Dev nD) :
    finalA m ρ c (2 : Fin 3) = Layout.block ⟨2, ![4096, 256]⟩ ⟨2, ![4096, 2048]⟩ 1 8 c (res (prod X W)) := by
  rw [final_o]
  refine funext fun (i : S4096x256.Idx) => ?_
  obtain ⟨d, a, l, rfl⟩ := oix_eta i
  rw [Layout.block_apply]
  refine (congrArg (ct m ρ c .o) (prect_o_emb d a l).symm).trans ((cont_emb .o (vec m ρ c .o) d _).trans ((ov_eq ρ h c d a l).trans (congrArg (res (prod X W)) ?_)))
  funext x
  refine Fin.ext ?_
  match x with
  | ⟨0, _⟩ => rfl
  | ⟨1, _⟩ => rfl

end Cert.MeshProof

end
-- ==== Proof.lean ====
/-
  The claims, put together: the two frames of the kernel from its one run, the reference's from its own, and the
  kernel's values against the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Twin
public import proofs.«01_k».proof.Proof.Result

@[expose] public section

noncomputable section

namespace Cert.Proof

open Idealize.ShloMosaic Idealize.ShloMosaic.TcCoe Idealize.SL.Sem

/-- The ideal program's frame, at any floats: it runs, leaves its operands as they were, and ends with every counter at zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c 0).trans (MeshProof.final_x m g c), (h.1 c 1).trans (MeshProof.final_w m g c)⟩, h.2⟩)
    (MeshProof.run_main m g)

theorem frame_ideal : Cert.quiescent_KernelIdeal (hKernelIdeal := Cert.KernelIdeal.Gen.facts) := fun m g _ => frame_any m g

/-- The printed program is the ideal one's text, so its frame is the same theorem at machine floats. -/
theorem frame_kernel : Cert.quiescent_Kernel (hKernel := Cert.Kernel.Gen.facts) := fun m g _ =>
  Twin.run_of (F := Bits) m g _ (frame_any (F := Bits) m g)

/-- The reference runs on the host and has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, funext fun ⟨_, sm⟩ => by rcases sm with s | s <;> exact s.elim0⟩)
    (Cert.ReferenceIdeal.Value.run (F := Ideal) m g)

/-- The values: every device ends with its block of columns of the reference's result. -/
theorem values : Cert.algebraic_KernelIdeal_ReferenceIdeal (hKernelIdeal := Cert.KernelIdeal.Gen.facts) (hReferenceIdeal := Cert.ReferenceIdeal.Gen.facts) :=
  fun m g m' g' _ laid => ⟨MeshProof.res (MeshProof.prod
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    (θ_run Cert.KernelIdeal.defs _ _).mono
      (fun _ h c => ⟨(h.1 c 2).trans (MeshProof.result g laid c), (h.1 c 0).trans (MeshProof.final_x m g c), (h.1 c 1).trans (MeshProof.final_w m g c)⟩)
      (MeshProof.run_main m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, values⟩

end Cert.Proof

end
